-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hundred_live [hPre_hundred_live : Cert.Pre_hundred_live.Facts] (m : (ℓ : Loc Cert.KernelIdeal.nD Cert.KernelIdeal.τ Cert.KernelIdeal.sig) → Buf (Elt Ideal) ℓ) : Prop :=
  ∀ c : Dev Cert.KernelIdeal.nD,
    (Cert.Pre_hundred_live.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hundred_live [hPre_hundred_live : Cert.Pre_hundred_live.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hundred_live.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_hundred_live [hKernelIdeal : Cert.KernelIdeal.Facts] [hPre_hundred_live : Cert.Pre_hundred_live.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hundred_live m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_hundred_live [hReferenceIdeal : Cert.ReferenceIdeal.Facts] [hPre_hundred_live : Cert.Pre_hundred_live.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hundred_live m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_hundred_live [hKernelIdeal : Cert.KernelIdeal.Facts] [hReferenceIdeal : Cert.ReferenceIdeal.Facts] [hPre_hundred_live : Cert.Pre_hundred_live.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hundred_live m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_hundred_live : Cert.Pre_hundred_live.Facts),
    quiescent_Kernel (hKernel := hKernel)
    ∧ quiescent_KernelIdeal (hKernelIdeal := hKernelIdeal)
    ∧ quiescent_KernelIdeal_pre_hundred_live (hKernelIdeal := hKernelIdeal) (hPre_hundred_live := hPre_hundred_live)
    ∧ quiescent_ReferenceIdeal (hReferenceIdeal := hReferenceIdeal)
    ∧ quiescent_ReferenceIdeal_pre_hundred_live (hReferenceIdeal := hReferenceIdeal) (hPre_hundred_live := hPre_hundred_live)
    ∧ preserves_Kernel_KernelIdeal
    ∧ algebraic_KernelIdeal_ReferenceIdeal_pre_hundred_live (hKernelIdeal := hKernelIdeal) (hReferenceIdeal := hReferenceIdeal) (hPre_hundred_live := hPre_hundred_live)
-- ==== Pre_hundred_live.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S8x5000x4 : Shape := ⟨3, ![8, 5000, 4]⟩
abbrev S8x5000x90 : Shape := ⟨3, ![8, 5000, 90]⟩
abbrev S8x5000x1x1 : Shape := ⟨4, ![8, 5000, 1, 1]⟩
abbrev S8x1 : Shape := ⟨2, ![8, 1]⟩
abbrev S8x1x1 : Shape := ⟨3, ![8, 1, 1]⟩
abbrev S8x1x4 : Shape := ⟨3, ![8, 1, 4]⟩

class Facts : Prop where
  transposes_S8x810x64x64_S8x64x64x810_0_2_3_1 : S8x810x64x64.Transposes [0, 2, 3, 1] S8x64x64x810
  shapeCasts_S8x64x64x810_S8x36864x90 : S8x64x64x810.ShapeCasts S8x36864x90
  transposes_S8x810x32x32_S8x32x32x810_0_2_3_1 : S8x810x32x32.Transposes [0, 2, 3, 1] S8x32x32x810
  shapeCasts_S8x32x32x810_S8x9216x90 : S8x32x32x810.ShapeCasts S8x9216x90
  transposes_S8x810x16x16_S8x16x16x810_0_2_3_1 : S8x810x16x16.Transposes [0, 2, 3, 1] S8x16x16x810
  shapeCasts_S8x16x16x810_S8x2304x90 : S8x16x16x810.ShapeCasts S8x2304x90
  transposes_S8x810x8x8_S8x8x8x810_0_2_3_1 : S8x810x8x8.Transposes [0, 2, 3, 1] S8x8x8x810
  shapeCasts_S8x8x8x810_S8x576x90 : S8x8x8x810.ShapeCasts S8x576x90
  transposes_S8x810x4x4_S8x4x4x810_0_2_3_1 : S8x810x4x4.Transposes [0, 2, 3, 1] S8x4x4x810
  shapeCasts_S8x4x4x810_S8x144x90 : S8x4x4x810.ShapeCasts S8x144x90
  concatenates_S8x36864x90_S8x9216x90_S8x2304x90_S8x576x90_S8x144x90_S8x49104x90_d1 : Shape.Concatenates [S8x36864x90, S8x9216x90, S8x2304x90, S8x576x90, S8x144x90] S8x49104x90 1
  transposes_S8x36x64x64_S8x64x64x36_0_2_3_1 : S8x36x64x64.Transposes [0, 2, 3, 1] S8x64x64x36
  shapeCasts_S8x64x64x36_S8x36864x4 : S8x64x64x36.ShapeCasts S8x36864x4
  transposes_S8x36x32x32_S8x32x32x36_0_2_3_1 : S8x36x32x32.Transposes [0, 2, 3, 1] S8x32x32x36
  shapeCasts_S8x32x32x36_S8x9216x4 : S8x32x32x36.ShapeCasts S8x9216x4
  transposes_S8x36x16x16_S8x16x16x36_0_2_3_1 : S8x36x16x16.Transposes [0, 2, 3, 1] S8x16x16x36
  shapeCasts_S8x16x16x36_S8x2304x4 : S8x16x16x36.ShapeCasts S8x2304x4
  transposes_S8x36x8x8_S8x8x8x36_0_2_3_1 : S8x36x8x8.Transposes [0, 2, 3, 1] S8x8x8x36
  shapeCasts_S8x8x8x36_S8x576x4 : S8x8x8x36.ShapeCasts S8x576x4
  transposes_S8x36x4x4_S8x4x4x36_0_2_3_1 : S8x36x4x4.Transposes [0, 2, 3, 1] S8x4x4x36
  shapeCasts_S8x4x4x36_S8x144x4 : S8x4x4x36.ShapeCasts S8x144x4
  concatenates_S8x36864x4_S8x9216x4_S8x2304x4_S8x576x4_S8x144x4_S8x49104x4_d1 : Shape.Concatenates [S8x36864x4, S8x9216x4, S8x2304x4, S8x576x4, S8x144x4] S8x49104x4 1
  shapeCasts_S8x49104x90_S8x4419360 : S8x49104x90.ShapeCasts S8x4419360
  sliceFits_S8x4419360_S8x5000 : S8x4419360.Slices (fun _ => 0) S8x5000
  bcast_S_S8x5000 : S_.BroadcastsInDim S8x5000 (![] : Fin 0 → Fin S8x5000.rank)
  bcast_S8x5000_S8x5000x1_0_1 : S8x5000.BroadcastsInDim S8x5000x1 (![0, 1] : Fin 2 → Fin S8x5000x1.rank)
  shapeCasts_S8x5000x1_S8x5000x1x1 : S8x5000x1.ShapeCasts S8x5000x1x1
  shapeCasts_S8x5000x1_S8x5000 : S8x5000x1.ShapeCasts S8x5000
  slices_S8x5000x4_S8x5000x1_0_0_0 : S8x5000x4.Slices ![0, 0, 0] S8x5000x1
  slices_S8x5000x4_S8x5000x1_0_0_2 : S8x5000x4.Slices ![0, 0, 2] S8x5000x1
  slices_S8x5000x4_S8x5000x1_0_0_1 : S8x5000x4.Slices ![0, 0, 1] S8x5000x1
  slices_S8x5000x4_S8x5000x1_0_0_3 : S8x5000x4.Slices ![0, 0, 3] S8x5000x1
  concatenates_S8x5000x1_S8x5000x1_S8x5000x1_S8x5000x1_S8x5000x4_d2 : Shape.Concatenates [S8x5000x1, S8x5000x1, S8x5000x1, S8x5000x1] S8x5000x4 2
  bcast_S_S8x5000x4 : S_.BroadcastsInDim S8x5000x4 (![] : Fin 0 → Fin S8x5000x4.rank)
  bcast_S_S8x5000x1 : S_.BroadcastsInDim S8x5000x1 (![] : Fin 0 → Fin S8x5000x1.rank)
  bcast_S8x5000x1_S8x5000x4_0_1_2 : S8x5000x1.BroadcastsInDim S8x5000x4 (![0, 1, 2] : Fin 3 → Fin S8x5000x4.rank)
  sliceFits_S8x5000_S8x1 : S8x5000.Slices (fun _ => 0) S8x1
  bcast_S8x1_S8x1x1_0_1 : S8x1.BroadcastsInDim S8x1x1 (![0, 1] : Fin 2 → Fin S8x1x1.rank)
  slices_S8x1x4_S8x1x1_0_0_0 : S8x1x4.Slices ![0, 0, 0] S8x1x1
  shapeCasts_S8x1x1_S8x1 : S8x1x1.ShapeCasts S8x1
  bcast_S8x1_S8x5000_0_1 : S8x1.BroadcastsInDim S8x5000 (![0, 1] : Fin 2 → Fin S8x5000.rank)
  slices_S8x1x4_S8x1x1_0_0_1 : S8x1x4.Slices ![0, 0, 1] S8x1x1
  slices_S8x1x4_S8x1x1_0_0_2 : S8x1x4.Slices ![0, 0, 2] S8x1x1
  slices_S8x1x4_S8x1x1_0_0_3 : S8x1x4.Slices ![0, 0, 3] S8x1x1
  bcast_S_S8 : S_.BroadcastsInDim S8 (![] : Fin 0 → Fin S8.rank)
  reducesTo_S8_S_d0 : S8.ReducesTo [0] S_
  h_S_ : 0 < S_.numel
  reducesTo_S8x5000_S8_d1 : S8x5000.ReducesTo [1] S8
  gather_S8x49104x4_S8x5000x1_S8x5000x4_2_1_0_0_1_2_114_wf : GatherDims.WF S8x49104x4 S8x5000x1 S8x5000x4 [2] [1] [0] [1] [0] 2 ![1, 1, 4]
  gather_S8x49104x90_S8x5000x1_S8x5000x90_2_1_0_0_1_2_1190_wf : GatherDims.WF S8x49104x90 S8x5000x1 S8x5000x90 [2] [1] [0] [1] [0] 2 ![1, 1, 90]
  gather_S8x5000x90_S8x5000x1x1_S8x5000x1_n_2_01_01_2_3_111_wf : GatherDims.WF S8x5000x90 S8x5000x1x1 S8x5000x1 [] [2] [0, 1] [2] [0, 1] 3 ![1, 1, 1]
  gather_S49104x4_S8x5000x1_S8x5000x4_2_0_n_n_0_2_14_wf : GatherDims.WF S49104x4 S8x5000x1 S8x5000x4 [2] [0] [] [0] [] 2 ![1, 4]
  gather_S8x5000x4_S8x1x1_S8x1x4_2_1_0_0_1_2_114_wf : GatherDims.WF S8x5000x4 S8x1x1 S8x1x4 [2] [1] [0] [1] [0] 2 ![1, 1, 4]

variable [Facts]

def gather_S8x49104x4_S8x5000x1_S8x5000x4_2_1_0_0_1_2_114 : GatherDims S8x49104x4 S8x5000x1 S8x5000x4 where
  offsetDims := [2]
  collapsedSliceDims := [1]
  operandBatchingDims := [0]
  startIndicesBatchingDims := [0]
  startIndexMap := [1]
  indexVectorDim := 2
  sliceSizes := ![1, 1, 4]
  wf := gather_S8x49104x4_S8x5000x1_S8x5000x4_2_1_0_0_1_2_114_wf
def gather_S8x49104x90_S8x5000x1_S8x5000x90_2_1_0_0_1_2_1190 : GatherDims S8x49104x90 S8x5000x1 S8x5000x90 where
  offsetDims := [2]
  collapsedSliceDims := [1]
  operandBatchingDims := [0]
  startIndicesBatchingDims := [0]
  startIndexMap := [1]
  indexVectorDim := 2
  sliceSizes := ![1, 1, 90]
  wf := gather_S8x49104x90_S8x5000x1_S8x5000x90_2_1_0_0_1_2_1190_wf
def gather_S8x5000x90_S8x5000x1x1_S8x5000x1_n_2_01_01_2_3_111 : GatherDims S8x5000x90 S8x5000x1x1 S8x5000x1 where
  offsetDims := []
  collapsedSliceDims := [2]
  operandBatchingDims := [0, 1]
  startIndicesBatchingDims := [0, 1]
  startIndexMap := [2]
  indexVectorDim := 3
  sliceSizes := ![1, 1, 1]
  wf := gather_S8x5000x90_S8x5000x1x1_S8x5000x1_n_2_01_01_2_3_111_wf
def gather_S49104x4_S8x5000x1_S8x5000x4_2_0_n_n_0_2_14 : GatherDims S49104x4 S8x5000x1 S8x5000x4 where
  offsetDims := [2]
  collapsedSliceDims := [0]
  operandBatchingDims := []
  startIndicesBatchingDims := []
  startIndexMap := [0]
  indexVectorDim := 2
  sliceSizes := ![1, 4]
  wf := gather_S49104x4_S8x5000x1_S8x5000x4_2_0_n_n_0_2_14_wf
def gather_S8x5000x4_S8x1x1_S8x1x4_2_1_0_0_1_2_114 : GatherDims S8x5000x4 S8x1x1 S8x1x4 where
  offsetDims := [2]
  collapsedSliceDims := [1]
  operandBatchingDims := [0]
  startIndicesBatchingDims := [0]
  startIndexMap := [1]
  indexVectorDim := 2
  sliceSizes := ![1, 1, 4]
  wf := gather_S8x5000x4_S8x1x1_S8x1x4_2_1_0_0_1_2_114_wf
def fn_where {F : FTy → Type} [FloatOps F] (arg0 : IVec S8x5000 1) (arg1 : IVec S8x5000 32) (arg2 : IVec S8x5000 32) : IVec S8x5000 32 :=
  let v0 : IVec S8x5000 32 := select arg0 arg1 arg2
  v0

def fn_floor_divide {F : FTy → Type} [FloatOps F] (arg0 : IVec S8x5000 32) (arg1 : IVec S_ 32) : IVec S8x5000 32 :=
  let v0 : IVec S_ 32 := id arg1
  let v1 : IVec S8x5000 32 := broadcastInDim S8x5000 ![] bcast_S_S8x5000 v0
  let v2 : IVec S8x5000 32 := Host.divsi arg0 v1
  let v3 : IVec S8x5000 32 := signi arg0
  let v4 : IVec S_ 32 := signi v0
  let v5 : IVec S8x5000 32 := broadcastInDim S8x5000 ![] bcast_S_S8x5000 v4
  let v6 : IVec S8x5000 1 := cmpi .ne v3 v5
  let v7 : IVec S8x5000 32 := broadcastInDim S8x5000 ![] bcast_S_S8x5000 v0
  let v8 : IVec S8x5000 32 := Host.remsi arg0 v7
  let c : IVec S_ 32 := constantI S_ 32 0#32
  let v9 : IVec S8x5000 32 := broadcastInDim S8x5000 ![] bcast_S_S8x5000 c
  let v10 : IVec S8x5000 1 := cmpi .ne v8 v9
  let v11 : IVec S8x5000 1 := andi v6 v10
  let c_0 : IVec S_ 32 := constantI S_ 32 1#32
  let v12 : IVec S8x5000 32 := broadcastInDim S8x5000 ![] bcast_S_S8x5000 c_0
  let v13 : IVec S8x5000 32 := subi v2 v12
  let v14 : IVec S8x5000 32 := fn_where (F := F) v11 v13 v2
  v14

def fn_take_along_axis {F : FTy → Type} [FloatOps F] (arg0 : FVec F S8x49104x4 .f32) (arg1 : IVec S8x5000x1 32) : FVec F S8x5000x4 .f32 :=
  let v0 : FVec F S8x5000x4 .f32 := (fun x i => Host.gather gather_S8x49104x4_S8x5000x1_S8x5000x4_2_1_0_0_1_2_114 x i) arg0 arg1
  v0

def fn_take_along_axis_0 {F : FTy → Type} [FloatOps F] (arg0 : FVec F S8x49104x90 .f32) (arg1 : IVec S8x5000x1 32) : FVec F S8x5000x90 .f32 :=
  let v0 : FVec F S8x5000x90 .f32 := (fun x i => Host.gather gather_S8x49104x90_S8x5000x1_S8x5000x90_2_1_0_0_1_2_1190 x i) arg0 arg1
  v0

def fn_take_along_axis_1 {F : FTy → Type} [FloatOps F] (arg0 : FVec F S8x5000x90 .f32) (arg1 : IVec S8x5000x1 32) : FVec F S8x5000x1 .f32 :=
  let v0 : IVec S8x5000x1x1 32 := shapeCast S8x5000x1x1 arg1 shapeCasts_S8x5000x1_S8x5000x1x1
  let v1 : FVec F S8x5000x1 .f32 := (fun x i => Host.gather gather_S8x5000x90_S8x5000x1x1_S8x5000x1_n_2_01_01_2_3_111 x i) arg0 v0
  v1

def fn_take_along_axis_2 {F : FTy → Type} [FloatOps F] (arg0 : FVec F S8x5000x4 .f32) (arg1 : IVec S8x1x1 32) : FVec F S8x1x4 .f32 :=
  let v0 : FVec F S8x1x4 .f32 := (fun x i => Host.gather gather_S8x5000x4_S8x1x1_S8x1x4_2_1_0_0_1_2_114 x i) arg0 arg1
  v0

def fn_lambda_part3 {F : FTy → Type} [FloatOps F] (indices : IVec S8x1 32) (v61 : FVec F S8x5000 .f32) (v64 : FVec F S8x5000 .f32) : FVec F S8x5000 .f32 :=
  let v65 : IVec S8x5000 32 := iotaInDim S8x5000 32 1
  let v66 : IVec S8x5000 32 := broadcastInDim S8x5000 ![0, 1] bcast_S8x1_S8x5000_0_1 indices
  let v67 : IVec S8x5000 1 := cmpi .eq v65 v66
  let v68 : FVec F S8x5000 .f32 := select v67 v61 v64
  v68

def fn_lambda_part2 {F : FTy → Type} [FloatOps F] (arg0 : FVec F S8x5000 .f32) (v10 : FVec F S8x5000 .f32) (indices : IVec S8x1 32) (v12 : FVec F S8x1x4 .f32) (v43 : FVec F S8x5000 .f32) : FVec F S8x5000 .f32 :=
  let v44 : FVec F S8x1x1 .f32 := (extractStridedSlice S8x1x1 ![0, 0, 2] · slices_S8x1x4_S8x1x1_0_0_2) v12
  let v45 : FVec F S8x1 .f32 := shapeCast S8x1 v44 shapeCasts_S8x1x1_S8x1
  let v46 : FVec F S8x1x1 .f32 := (extractStridedSlice S8x1x1 ![0, 0, 0] · slices_S8x1x4_S8x1x1_0_0_0) v12
  let v47 : FVec F S8x1 .f32 := shapeCast S8x1 v46 shapeCasts_S8x1x1_S8x1
  let v48 : FVec F S8x1 .f32 := subf v45 v47
  let v49 : FVec F S8x1x1 .f32 := (extractStridedSlice S8x1x1 ![0, 0, 3] · slices_S8x1x4_S8x1x1_0_0_3) v12
  let v50 : FVec F S8x1 .f32 := shapeCast S8x1 v49 shapeCasts_S8x1x1_S8x1
  let v51 : FVec F S8x1x1 .f32 := (extractStridedSlice S8x1x1 ![0, 0, 1] · slices_S8x1x4_S8x1x1_0_0_1) v12
  let v52 : FVec F S8x1 .f32 := shapeCast S8x1 v51 shapeCasts_S8x1x1_S8x1
  let v53 : FVec F S8x1 .f32 := subf v50 v52
  let v54 : FVec F S8x1 .f32 := mulf v48 v53
  let v55 : FVec F S8x5000 .f32 := broadcastInDim S8x5000 ![0, 1] bcast_S8x1_S8x5000_0_1 v54
  let v56 : FVec F S8x5000 .f32 := addf v55 v10
  let v57 : FVec F S8x5000 .f32 := subf v56 v43
  let cst_1 : FVec F S_ .f32 := constant S_ .f32 0x322BCC77#32
  let v58 : FVec F S8x5000 .f32 := broadcastInDim S8x5000 ![] bcast_S_S8x5000 cst_1
  let v59 : FVec F S8x5000 .f32 := addf v57 v58
  let v60 : FVec F S8x5000 .f32 := Host.divf v43 v59
  let cst_2 : FVec F S_ .f32 := constant S_ .f32 0xCE6E6B28#32
  let v61 : FVec F S8x5000 .f32 := broadcastInDim S8x5000 ![] bcast_S_S8x5000 cst_2
  let cst_3 : FVec F S_ .f32 := constant S_ .f32 0x3F000000#32
  let v62 : FVec F S8x5000 .f32 := broadcastInDim S8x5000 ![] bcast_S_S8x5000 cst_3
  let v63 : IVec S8x5000 1 := cmpf .ogt v60 v62
  let v64 : FVec F S8x5000 .f32 := select v63 v61 arg0
  fn_lambda_part3 (F := F) indices v61 v64

def fn_lambda_part1 {F : FTy → Type} [FloatOps F] (arg0 : FVec F S8x5000 .f32) (arg1 : FVec F S8x5000x4 .f32) (v10 : FVec F S8x5000 .f32) (indices : IVec S8x1 32) (v12 : FVec F S8x1x4 .f32) (v18 : FVec F S8x5000 .f32) (v20 : FVec F S8x1 .f32) (v21 : FVec F S8x5000x1 .f32) : FVec F S8x5000 .f32 :=
  let v22 : FVec F S8x5000 .f32 := shapeCast S8x5000 v21 shapeCasts_S8x5000x1_S8x5000
  let v23 : FVec F S8x5000 .f32 := broadcastInDim S8x5000 ![0, 1] bcast_S8x1_S8x5000_0_1 v20
  let v24 : FVec F S8x5000 .f32 := maximumf v23 v22
  let v25 : FVec F S8x1x1 .f32 := (extractStridedSlice S8x1x1 ![0, 0, 2] · slices_S8x1x4_S8x1x1_0_0_2) v12
  let v26 : FVec F S8x1 .f32 := shapeCast S8x1 v25 shapeCasts_S8x1x1_S8x1
  let v27 : FVec F S8x5000x1 .f32 := (extractStridedSlice S8x5000x1 ![0, 0, 2] · slices_S8x5000x4_S8x5000x1_0_0_2) arg1
  let v28 : FVec F S8x5000 .f32 := shapeCast S8x5000 v27 shapeCasts_S8x5000x1_S8x5000
  let v29 : FVec F S8x5000 .f32 := broadcastInDim S8x5000 ![0, 1] bcast_S8x1_S8x5000_0_1 v26
  let v30 : FVec F S8x5000 .f32 := minimumf v29 v28
  let v31 : FVec F S8x1x1 .f32 := (extractStridedSlice S8x1x1 ![0, 0, 3] · slices_S8x1x4_S8x1x1_0_0_3) v12
  let v32 : FVec F S8x1 .f32 := shapeCast S8x1 v31 shapeCasts_S8x1x1_S8x1
  let v33 : FVec F S8x5000x1 .f32 := (extractStridedSlice S8x5000x1 ![0, 0, 3] · slices_S8x5000x4_S8x5000x1_0_0_3) arg1
  let v34 : FVec F S8x5000 .f32 := shapeCast S8x5000 v33 shapeCasts_S8x5000x1_S8x5000
  let v35 : FVec F S8x5000 .f32 := broadcastInDim S8x5000 ![0, 1] bcast_S8x1_S8x5000_0_1 v32
  let v36 : FVec F S8x5000 .f32 := minimumf v35 v34
  let v37 : FVec F S8x5000 .f32 := subf v30 v18
  let cst : FVec F S_ .f32 := constant S_ .f32 0x00000000#32
  let v38 : FVec F S8x5000 .f32 := broadcastInDim S8x5000 ![] bcast_S_S8x5000 cst
  let v39 : FVec F S8x5000 .f32 := maximumf v37 v38
  let v40 : FVec F S8x5000 .f32 := subf v36 v24
  let cst_0 : FVec F S_ .f32 := constant S_ .f32 0x00000000#32
  let v41 : FVec F S8x5000 .f32 := broadcastInDim S8x5000 ![] bcast_S_S8x5000 cst_0
  let v42 : FVec F S8x5000 .f32 := maximumf v40 v41
  let v43 : FVec F S8x5000 .f32 := mulf v39 v42
  fn_lambda_part2 (F := F) arg0 v10 indices v12 v43

def fn_lambda {F : FTy → Type} [FloatOps F] (arg0 : FVec F S8x5000 .f32) (arg1 : FVec F S8x5000x4 .f32) : FVec F S8x5000 .f32 :=
  let v0 : FVec F S8x5000x1 .f32 := (extractStridedSlice S8x5000x1 ![0, 0, 2] · slices_S8x5000x4_S8x5000x1_0_0_2) arg1
  let v1 : FVec F S8x5000 .f32 := shapeCast S8x5000 v0 shapeCasts_S8x5000x1_S8x5000
  let v2 : FVec F S8x5000x1 .f32 := (extractStridedSlice S8x5000x1 ![0, 0, 0] · slices_S8x5000x4_S8x5000x1_0_0_0) arg1
  let v3 : FVec F S8x5000 .f32 := shapeCast S8x5000 v2 shapeCasts_S8x5000x1_S8x5000
  let v4 : FVec F S8x5000 .f32 := subf v1 v3
  let v5 : FVec F S8x5000x1 .f32 := (extractStridedSlice S8x5000x1 ![0, 0, 3] · slices_S8x5000x4_S8x5000x1_0_0_3) arg1
  let v6 : FVec F S8x5000 .f32 := shapeCast S8x5000 v5 shapeCasts_S8x5000x1_S8x5000
  let v7 : FVec F S8x5000x1 .f32 := (extractStridedSlice S8x5000x1 ![0, 0, 1] · slices_S8x5000x4_S8x5000x1_0_0_1) arg1
  let v8 : FVec F S8x5000 .f32 := shapeCast S8x5000 v7 shapeCasts_S8x5000x1_S8x5000
  let v9 : FVec F S8x5000 .f32 := subf v6 v8
  let v10 : FVec F S8x5000 .f32 := mulf v4 v9
  let values : FVec F S8x1 .f32 := (fun x => (Host.topK S8x1 1 (FloatOps.cmpfTotal .gt) x sliceFits_S8x5000_S8x1).1) arg0
  let indices : IVec S8x1 32 := (fun x => (Host.topK S8x1 1 (FloatOps.cmpfTotal .gt) x sliceFits_S8x5000_S8x1).2) arg0
  let v11 : IVec S8x1x1 32 := broadcastInDim S8x1x1 ![0, 1] bcast_S8x1_S8x1x1_0_1 indices
  let v12 : FVec F S8x1x4 .f32 := fn_take_along_axis_2 (F := F) arg1 v11
  let v13 : FVec F S8x1x1 .f32 := (extractStridedSlice S8x1x1 ![0, 0, 0] · slices_S8x1x4_S8x1x1_0_0_0) v12
  let v14 : FVec F S8x1 .f32 := shapeCast S8x1 v13 shapeCasts_S8x1x1_S8x1
  let v15 : FVec F S8x5000x1 .f32 := (extractStridedSlice S8x5000x1 ![0, 0, 0] · slices_S8x5000x4_S8x5000x1_0_0_0) arg1
  let v16 : FVec F S8x5000 .f32 := shapeCast S8x5000 v15 shapeCasts_S8x5000x1_S8x5000
  let v17 : FVec F S8x5000 .f32 := broadcastInDim S8x5000 ![0, 1] bcast_S8x1_S8x5000_0_1 v14
  let v18 : FVec F S8x5000 .f32 := maximumf v17 v16
  let v19 : FVec F S8x1x1 .f32 := (extractStridedSlice S8x1x1 ![0, 0, 1] · slices_S8x1x4_S8x1x1_0_0_1) v12
  let v20 : FVec F S8x1 .f32 := shapeCast S8x1 v19 shapeCasts_S8x1x1_S8x1
  let v21 : FVec F S8x5000x1 .f32 := (extractStridedSlice S8x5000x1 ![0, 0, 1] · slices_S8x5000x4_S8x5000x1_0_0_1) arg1
  fn_lambda_part1 (F := F) arg0 arg1 v10 indices v12 v18 v20 v21

def fn_nine_rounds {F : FTy → Type} [FloatOps F] (arg0 : FVec F S8x5000 .f32) (arg1 : FVec F S8x5000x4 .f32) : FVec F S8x5000 .f32 :=
  let v0 : FVec F S8x5000 .f32 := fn_lambda (F := F) arg0 arg1
  let v1 : FVec F S8x5000 .f32 := fn_lambda (F := F) v0 arg1
  let v2 : FVec F S8x5000 .f32 := fn_lambda (F := F) v1 arg1
  let v3 : FVec F S8x5000 .f32 := fn_lambda (F := F) v2 arg1
  let v4 : FVec F S8x5000 .f32 := fn_lambda (F := F) v3 arg1
  let v5 : FVec F S8x5000 .f32 := fn_lambda (F := F) v4 arg1
  let v6 : FVec F S8x5000 .f32 := fn_lambda (F := F) v5 arg1
  let v7 : FVec F S8x5000 .f32 := fn_lambda (F := F) v6 arg1
  let v8 : FVec F S8x5000 .f32 := fn_lambda (F := F) v7 arg1
  v8

def fn_part6 {F : FTy → Type} [FloatOps F] (main_v123 : FVec F S8x5000 .f32) (main_v124 : FVec F S8 .f32) (main_v125 : FVec F S8 .f32) : IVec S_ 1 :=
  let main_v126 : IVec S8 1 := cmpf .olt main_v124 main_v125
  let main_c_14 : IVec S_ 1 := constantI S_ 1 1#1
  let main_v127 : IVec S_ 1 := (fun x v => Host.reduce IntOp.andi x v reducesTo_S8_S_d0 h_S_) main_v126 main_c_14
  let main_cst_15 : FVec F S_ .f32 := constant S_ .f32 0xFF800000#32
  let main_v128 : FVec F S8 .f32 := (fun x v => Host.reduce FloatOps.maximumf x v reducesTo_S8x5000_S8_d1 h_S_) main_v123 main_cst_15
  let main_cst_16 : FVec F S_ .f32 := constant S_ .f32 0x00000000#32
  let main_v129 : FVec F S8 .f32 := broadcastInDim S8 ![] bcast_S_S8 main_cst_16
  let main_v130 : IVec S8 1 := cmpf .oge main_v128 main_v129
  let main_c_17 : IVec S_ 1 := constantI S_ 1 1#1
  let main_v131 : IVec S_ 1 := (fun x v => Host.reduce IntOp.andi x v reducesTo_S8_S_d0 h_S_) main_v130 main_c_17
  let main_v132 : IVec S_ 1 := andi main_v127 main_v131
  main_v132

def fn_part5 {F : FTy → Type} [FloatOps F] (main_arg10 : FVec F S8 .f32) (main_v25 : IVec S8x5000 32) (main_v100 : FVec F S8x5000x4 .f32) (main_v104 : FVec F S8x5000 .f32) : IVec S_ 1 :=
  let main_cst_11 : FVec F S_ .f32 := constant S_ .f32 0x3F800000#32
  let main_v105 : FVec F S8x5000 .f32 := broadcastInDim S8x5000 ![] bcast_S_S8x5000 main_cst_11
  let main_v106 : FVec F S8x5000 .f32 := Host.divf main_v105 main_v104
  let main_v107 : FVec F S8x5000 .f32 := sitofp .f32 main_v25
  let main_v108 : FVec F S8x5000x1 .f32 := broadcastInDim S8x5000x1 ![0, 1] bcast_S8x5000_S8x5000x1_0_1 main_v107
  let main_cst_12 : FVec F S_ .f32 := constant S_ .f32 0x44800000#32
  let main_v109 : FVec F S8x5000x1 .f32 := broadcastInDim S8x5000x1 ![] bcast_S_S8x5000x1 main_cst_12
  let main_v110 : FVec F S8x5000x1 .f32 := mulf main_v108 main_v109
  let main_v111 : FVec F S8x5000x4 .f32 := broadcastInDim S8x5000x4 ![0, 1, 2] bcast_S8x5000x1_S8x5000x4_0_1_2 main_v110
  let main_v112 : FVec F S8x5000x4 .f32 := addf main_v100 main_v111
  let main_v113 : FVec F S8x5000 .f32 := fn_nine_rounds (F := F) main_v106 main_v112
  let main_v114 : FVec F S8x5000 .f32 := fn_nine_rounds (F := F) main_v113 main_v112
  let main_v115 : FVec F S8x5000 .f32 := fn_nine_rounds (F := F) main_v114 main_v112
  let main_v116 : FVec F S8x5000 .f32 := fn_nine_rounds (F := F) main_v115 main_v112
  let main_v117 : FVec F S8x5000 .f32 := fn_nine_rounds (F := F) main_v116 main_v112
  let main_v118 : FVec F S8x5000 .f32 := fn_nine_rounds (F := F) main_v117 main_v112
  let main_v119 : FVec F S8x5000 .f32 := fn_nine_rounds (F := F) main_v118 main_v112
  let main_v120 : FVec F S8x5000 .f32 := fn_nine_rounds (F := F) main_v119 main_v112
  let main_v121 : FVec F S8x5000 .f32 := fn_nine_rounds (F := F) main_v120 main_v112
  let main_v122 : FVec F S8x5000 .f32 := fn_nine_rounds (F := F) main_v121 main_v112
  let main_v123 : FVec F S8x5000 .f32 := fn_nine_rounds (F := F) main_v122 main_v112
  let main_v124 : FVec F S8 .f32 := Host.absf main_arg10
  let main_cst_13 : FVec F S_ .f32 := constant S_ .f32 0x7F800000#32
  let main_v125 : FVec F S8 .f32 := broadcastInDim S8 ![] bcast_S_S8 main_cst_13
  fn_part6 (F := F) main_v123 main_v124 main_v125

def fn_part4 {F : FTy → Type} [FloatOps F] (main_arg10 : FVec F S8 .f32) (main_v25 : IVec S8x5000 32) (main_v32 : FVec F S8x5000 .f32) (main_v73 : FVec F S8x5000 .f32) (main_v75 : FVec F S8x5000 .f32) (main_v77 : FVec F S8x5000 .f32) (main_v79 : FVec F S8x5000 .f32) (main_v82 : FVec F S8x5000 .f32) (main_v85 : FVec F S8x5000 .f32) : IVec S_ 1 :=
  let main_cst_6 : FVec F S_ .f32 := constant S_ .f32 0x40000000#32
  let main_v86 : FVec F S8x5000 .f32 := broadcastInDim S8x5000 ![] bcast_S_S8x5000 main_cst_6
  let main_v87 : FVec F S8x5000 .f32 := Host.divf main_v75 main_v86
  let main_v88 : FVec F S8x5000 .f32 := addf main_v77 main_v87
  let main_cst_7 : FVec F S_ .f32 := constant S_ .f32 0x40000000#32
  let main_v89 : FVec F S8x5000 .f32 := broadcastInDim S8x5000 ![] bcast_S_S8x5000 main_cst_7
  let main_v90 : FVec F S8x5000 .f32 := Host.divf main_v73 main_v89
  let main_v91 : FVec F S8x5000 .f32 := addf main_v79 main_v90
  let main_v92 : FVec F S8x5000x1 .f32 := broadcastInDim S8x5000x1 ![0, 1] bcast_S8x5000_S8x5000x1_0_1 main_v82
  let main_v93 : FVec F S8x5000x1 .f32 := broadcastInDim S8x5000x1 ![0, 1] bcast_S8x5000_S8x5000x1_0_1 main_v85
  let main_v94 : FVec F S8x5000x1 .f32 := broadcastInDim S8x5000x1 ![0, 1] bcast_S8x5000_S8x5000x1_0_1 main_v88
  let main_v95 : FVec F S8x5000x1 .f32 := broadcastInDim S8x5000x1 ![0, 1] bcast_S8x5000_S8x5000x1_0_1 main_v91
  let main_v96 : FVec F S8x5000x4 .f32 := concatenate S8x5000x4 2 [⟨S8x5000x1, main_v92⟩, ⟨S8x5000x1, main_v93⟩, ⟨S8x5000x1, main_v94⟩, ⟨S8x5000x1, main_v95⟩] concatenates_S8x5000x1_S8x5000x1_S8x5000x1_S8x5000x1_S8x5000x4_d2
  let main_cst_8 : FVec F S_ .f32 := constant S_ .f32 0x00000000#32
  let main_v97 : FVec F S8x5000x4 .f32 := broadcastInDim S8x5000x4 ![] bcast_S_S8x5000x4 main_cst_8
  let main_v98 : FVec F S8x5000x4 .f32 := maximumf main_v96 main_v97
  let main_cst_9 : FVec F S_ .f32 := constant S_ .f32 0x44000000#32
  let main_v99 : FVec F S8x5000x4 .f32 := broadcastInDim S8x5000x4 ![] bcast_S_S8x5000x4 main_cst_9
  let main_v100 : FVec F S8x5000x4 .f32 := minimumf main_v98 main_v99
  let main_v101 : FVec F S8x5000 .f32 := Host.negf main_v32
  let main_v102 : FVec F S8x5000 .f32 := Host.exp main_v101
  let main_cst_10 : FVec F S_ .f32 := constant S_ .f32 0x3F800000#32
  let main_v103 : FVec F S8x5000 .f32 := broadcastInDim S8x5000 ![] bcast_S_S8x5000 main_cst_10
  let main_v104 : FVec F S8x5000 .f32 := addf main_v103 main_v102
  fn_part5 (F := F) main_arg10 main_v25 main_v100 main_v104

def fn_part3 {F : FTy → Type} [FloatOps F] (main_arg10 : FVec F S8 .f32) (main_v25 : IVec S8x5000 32) (main_v27 : FVec F S8x5000x4 .f32) (main_v32 : FVec F S8x5000 .f32) (main_v46 : FVec F S8x5000 .f32) (main_v53 : FVec F S8x5000 .f32) (main_v58 : FVec F S8x5000 .f32) (main_v63 : FVec F S8x5000 .f32) : IVec S_ 1 :=
  let main_v64 : FVec F S8x5000x1 .f32 := (extractStridedSlice S8x5000x1 ![0, 0, 0] · slices_S8x5000x4_S8x5000x1_0_0_0) main_v27
  let main_v65 : FVec F S8x5000 .f32 := shapeCast S8x5000 main_v64 shapeCasts_S8x5000x1_S8x5000
  let main_v66 : FVec F S8x5000x1 .f32 := (extractStridedSlice S8x5000x1 ![0, 0, 1] · slices_S8x5000x4_S8x5000x1_0_0_1) main_v27
  let main_v67 : FVec F S8x5000 .f32 := shapeCast S8x5000 main_v66 shapeCasts_S8x5000x1_S8x5000
  let main_v68 : FVec F S8x5000x1 .f32 := (extractStridedSlice S8x5000x1 ![0, 0, 2] · slices_S8x5000x4_S8x5000x1_0_0_2) main_v27
  let main_v69 : FVec F S8x5000 .f32 := shapeCast S8x5000 main_v68 shapeCasts_S8x5000x1_S8x5000
  let main_v70 : FVec F S8x5000x1 .f32 := (extractStridedSlice S8x5000x1 ![0, 0, 3] · slices_S8x5000x4_S8x5000x1_0_0_3) main_v27
  let main_v71 : FVec F S8x5000 .f32 := shapeCast S8x5000 main_v70 shapeCasts_S8x5000x1_S8x5000
  let main_v72 : FVec F S8x5000 .f32 := Host.exp main_v71
  let main_v73 : FVec F S8x5000 .f32 := mulf main_v72 main_v63
  let main_v74 : FVec F S8x5000 .f32 := Host.exp main_v69
  let main_v75 : FVec F S8x5000 .f32 := mulf main_v74 main_v58
  let main_v76 : FVec F S8x5000 .f32 := mulf main_v65 main_v58
  let main_v77 : FVec F S8x5000 .f32 := addf main_v76 main_v46
  let main_v78 : FVec F S8x5000 .f32 := mulf main_v67 main_v63
  let main_v79 : FVec F S8x5000 .f32 := addf main_v78 main_v53
  let main_cst_4 : FVec F S_ .f32 := constant S_ .f32 0x40000000#32
  let main_v80 : FVec F S8x5000 .f32 := broadcastInDim S8x5000 ![] bcast_S_S8x5000 main_cst_4
  let main_v81 : FVec F S8x5000 .f32 := Host.divf main_v75 main_v80
  let main_v82 : FVec F S8x5000 .f32 := subf main_v77 main_v81
  let main_cst_5 : FVec F S_ .f32 := constant S_ .f32 0x40000000#32
  let main_v83 : FVec F S8x5000 .f32 := broadcastInDim S8x5000 ![] bcast_S_S8x5000 main_cst_5
  let main_v84 : FVec F S8x5000 .f32 := Host.divf main_v73 main_v83
  let main_v85 : FVec F S8x5000 .f32 := subf main_v79 main_v84
  fn_part4 (F := F) main_arg10 main_v25 main_v32 main_v73 main_v75 main_v77 main_v79 main_v82 main_v85

def fn_part2 {F : FTy → Type} [FloatOps F] (main_arg10 : FVec F S8 .f32) (main_v25 : IVec S8x5000 32) (main_v27 : FVec F S8x5000x4 .f32) (main_v32 : FVec F S8x5000 .f32) (main_v39 : FVec F S8x5000x4 .f32) (main_v41 : FVec F S8x5000 .f32) : IVec S_ 1 :=
  let main_v42 : FVec F S8x5000x1 .f32 := (extractStridedSlice S8x5000x1 ![0, 0, 2] · slices_S8x5000x4_S8x5000x1_0_0_2) main_v39
  let main_v43 : FVec F S8x5000 .f32 := shapeCast S8x5000 main_v42 shapeCasts_S8x5000x1_S8x5000
  let main_v44 : FVec F S8x5000 .f32 := addf main_v41 main_v43
  let main_cst : FVec F S_ .f32 := constant S_ .f32 0x40000000#32
  let main_v45 : FVec F S8x5000 .f32 := broadcastInDim S8x5000 ![] bcast_S_S8x5000 main_cst
  let main_v46 : FVec F S8x5000 .f32 := Host.divf main_v44 main_v45
  let main_v47 : FVec F S8x5000x1 .f32 := (extractStridedSlice S8x5000x1 ![0, 0, 1] · slices_S8x5000x4_S8x5000x1_0_0_1) main_v39
  let main_v48 : FVec F S8x5000 .f32 := shapeCast S8x5000 main_v47 shapeCasts_S8x5000x1_S8x5000
  let main_v49 : FVec F S8x5000x1 .f32 := (extractStridedSlice S8x5000x1 ![0, 0, 3] · slices_S8x5000x4_S8x5000x1_0_0_3) main_v39
  let main_v50 : FVec F S8x5000 .f32 := shapeCast S8x5000 main_v49 shapeCasts_S8x5000x1_S8x5000
  let main_v51 : FVec F S8x5000 .f32 := addf main_v48 main_v50
  let main_cst_3 : FVec F S_ .f32 := constant S_ .f32 0x40000000#32
  let main_v52 : FVec F S8x5000 .f32 := broadcastInDim S8x5000 ![] bcast_S_S8x5000 main_cst_3
  let main_v53 : FVec F S8x5000 .f32 := Host.divf main_v51 main_v52
  let main_v54 : FVec F S8x5000x1 .f32 := (extractStridedSlice S8x5000x1 ![0, 0, 2] · slices_S8x5000x4_S8x5000x1_0_0_2) main_v39
  let main_v55 : FVec F S8x5000 .f32 := shapeCast S8x5000 main_v54 shapeCasts_S8x5000x1_S8x5000
  let main_v56 : FVec F S8x5000x1 .f32 := (extractStridedSlice S8x5000x1 ![0, 0, 0] · slices_S8x5000x4_S8x5000x1_0_0_0) main_v39
  let main_v57 : FVec F S8x5000 .f32 := shapeCast S8x5000 main_v56 shapeCasts_S8x5000x1_S8x5000
  let main_v58 : FVec F S8x5000 .f32 := subf main_v55 main_v57
  let main_v59 : FVec F S8x5000x1 .f32 := (extractStridedSlice S8x5000x1 ![0, 0, 3] · slices_S8x5000x4_S8x5000x1_0_0_3) main_v39
  let main_v60 : FVec F S8x5000 .f32 := shapeCast S8x5000 main_v59 shapeCasts_S8x5000x1_S8x5000
  let main_v61 : FVec F S8x5000x1 .f32 := (extractStridedSlice S8x5000x1 ![0, 0, 1] · slices_S8x5000x4_S8x5000x1_0_0_1) main_v39
  let main_v62 : FVec F S8x5000 .f32 := shapeCast S8x5000 main_v61 shapeCasts_S8x5000x1_S8x5000
  let main_v63 : FVec F S8x5000 .f32 := subf main_v60 main_v62
  fn_part3 (F := F) main_arg10 main_v25 main_v27 main_v32 main_v46 main_v53 main_v58 main_v63

def fn_part1 {F : FTy → Type} [FloatOps F] (main_arg10 : FVec F S8 .f32) (main_arg11 : FVec F S49104x4 .f32) (main_v10 : FVec F S8x49104x90 .f32) (main_v21 : FVec F S8x49104x4 .f32) (main_v22 : FVec F S8x4419360 .f32) : IVec S_ 1 :=
  let main_indices : IVec S8x5000 32 := (fun x => (Host.topK S8x5000 1 (FloatOps.cmpfTotal .gt) x sliceFits_S8x4419360_S8x5000).2) main_v22
  let main_c : IVec S_ 32 := constantI S_ 32 90#32
  let main_v23 : IVec S8x5000 32 := fn_floor_divide (F := F) main_indices main_c
  let main_c_0 : IVec S_ 32 := constantI S_ 32 90#32
  let main_v24 : IVec S8x5000 32 := broadcastInDim S8x5000 ![] bcast_S_S8x5000 main_c_0
  let main_v25 : IVec S8x5000 32 := Host.remsi main_indices main_v24
  let main_v26 : IVec S8x5000x1 32 := broadcastInDim S8x5000x1 ![0, 1] bcast_S8x5000_S8x5000x1_0_1 main_v23
  let main_v27 : FVec F S8x5000x4 .f32 := fn_take_along_axis (F := F) main_v21 main_v26
  let main_v28 : IVec S8x5000x1 32 := broadcastInDim S8x5000x1 ![0, 1] bcast_S8x5000_S8x5000x1_0_1 main_v23
  let main_v29 : FVec F S8x5000x90 .f32 := fn_take_along_axis_0 (F := F) main_v10 main_v28
  let main_v30 : IVec S8x5000x1 32 := broadcastInDim S8x5000x1 ![0, 1] bcast_S8x5000_S8x5000x1_0_1 main_v25
  let main_v31 : FVec F S8x5000x1 .f32 := fn_take_along_axis_1 (F := F) main_v29 main_v30
  let main_v32 : FVec F S8x5000 .f32 := shapeCast S8x5000 main_v31 shapeCasts_S8x5000x1_S8x5000
  let main_c_1 : IVec S_ 32 := constantI S_ 32 0#32
  let main_v33 : IVec S8x5000 32 := broadcastInDim S8x5000 ![] bcast_S_S8x5000 main_c_1
  let main_v34 : IVec S8x5000 1 := cmpi .slt main_v23 main_v33
  let main_c_2 : IVec S_ 32 := constantI S_ 32 49104#32
  let main_v35 : IVec S8x5000 32 := broadcastInDim S8x5000 ![] bcast_S_S8x5000 main_c_2
  let main_v36 : IVec S8x5000 32 := addi main_v23 main_v35
  let main_v37 : IVec S8x5000 32 := select main_v34 main_v36 main_v23
  let main_v38 : IVec S8x5000x1 32 := broadcastInDim S8x5000x1 ![0, 1] bcast_S8x5000_S8x5000x1_0_1 main_v37
  let main_v39 : FVec F S8x5000x4 .f32 := (fun x i => Host.gather gather_S49104x4_S8x5000x1_S8x5000x4_2_0_n_n_0_2_14 x i) main_arg11 main_v38
  let main_v40 : FVec F S8x5000x1 .f32 := (extractStridedSlice S8x5000x1 ![0, 0, 0] · slices_S8x5000x4_S8x5000x1_0_0_0) main_v39
  let main_v41 : FVec F S8x5000 .f32 := shapeCast S8x5000 main_v40 shapeCasts_S8x5000x1_S8x5000
  fn_part2 (F := F) main_arg10 main_v25 main_v27 main_v32 main_v39 main_v41

def fn {F : FTy → Type} [FloatOps F] (main_arg0 : FVec F S8x810x64x64 .f32) (main_arg1 : FVec F S8x810x32x32 .f32) (main_arg2 : FVec F S8x810x16x16 .f32) (main_arg3 : FVec F S8x810x8x8 .f32) (main_arg4 : FVec F S8x810x4x4 .f32) (main_arg5 : FVec F S8x36x64x64 .f32) (main_arg6 : FVec F S8x36x32x32 .f32) (main_arg7 : FVec F S8x36x16x16 .f32) (main_arg8 : FVec F S8x36x8x8 .f32) (main_arg9 : FVec F S8x36x4x4 .f32) (main_arg10 : FVec F S8 .f32) (main_arg11 : FVec F S49104x4 .f32) : IVec S_ 1 :=
  let main_v0 : FVec F S8x64x64x810 .f32 := (transpose S8x64x64x810 [0, 2, 3, 1] · transposes_S8x810x64x64_S8x64x64x810_0_2_3_1) main_arg0
  let main_v1 : FVec F S8x36864x90 .f32 := shapeCast S8x36864x90 main_v0 shapeCasts_S8x64x64x810_S8x36864x90
  let main_v2 : FVec F S8x32x32x810 .f32 := (transpose S8x32x32x810 [0, 2, 3, 1] · transposes_S8x810x32x32_S8x32x32x810_0_2_3_1) main_arg1
  let main_v3 : FVec F S8x9216x90 .f32 := shapeCast S8x9216x90 main_v2 shapeCasts_S8x32x32x810_S8x9216x90
  let main_v4 : FVec F S8x16x16x810 .f32 := (transpose S8x16x16x810 [0, 2, 3, 1] · transposes_S8x810x16x16_S8x16x16x810_0_2_3_1) main_arg2
  let main_v5 : FVec F S8x2304x90 .f32 := shapeCast S8x2304x90 main_v4 shapeCasts_S8x16x16x810_S8x2304x90
  let main_v6 : FVec F S8x8x8x810 .f32 := (transpose S8x8x8x810 [0, 2, 3, 1] · transposes_S8x810x8x8_S8x8x8x810_0_2_3_1) main_arg3
  let main_v7 : FVec F S8x576x90 .f32 := shapeCast S8x576x90 main_v6 shapeCasts_S8x8x8x810_S8x576x90
  let main_v8 : FVec F S8x4x4x810 .f32 := (transpose S8x4x4x810 [0, 2, 3, 1] · transposes_S8x810x4x4_S8x4x4x810_0_2_3_1) main_arg4
  let main_v9 : FVec F S8x144x90 .f32 := shapeCast S8x144x90 main_v8 shapeCasts_S8x4x4x810_S8x144x90
  let main_v10 : FVec F S8x49104x90 .f32 := concatenate S8x49104x90 1 [⟨S8x36864x90, main_v1⟩, ⟨S8x9216x90, main_v3⟩, ⟨S8x2304x90, main_v5⟩, ⟨S8x576x90, main_v7⟩, ⟨S8x144x90, main_v9⟩] concatenates_S8x36864x90_S8x9216x90_S8x2304x90_S8x576x90_S8x144x90_S8x49104x90_d1
  let main_v11 : FVec F S8x64x64x36 .f32 := (transpose S8x64x64x36 [0, 2, 3, 1] · transposes_S8x36x64x64_S8x64x64x36_0_2_3_1) main_arg5
  let main_v12 : FVec F S8x36864x4 .f32 := shapeCast S8x36864x4 main_v11 shapeCasts_S8x64x64x36_S8x36864x4
  let main_v13 : FVec F S8x32x32x36 .f32 := (transpose S8x32x32x36 [0, 2, 3, 1] · transposes_S8x36x32x32_S8x32x32x36_0_2_3_1) main_arg6
  let main_v14 : FVec F S8x9216x4 .f32 := shapeCast S8x9216x4 main_v13 shapeCasts_S8x32x32x36_S8x9216x4
  let main_v15 : FVec F S8x16x16x36 .f32 := (transpose S8x16x16x36 [0, 2, 3, 1] · transposes_S8x36x16x16_S8x16x16x36_0_2_3_1) main_arg7
  let main_v16 : FVec F S8x2304x4 .f32 := shapeCast S8x2304x4 main_v15 shapeCasts_S8x16x16x36_S8x2304x4
  let main_v17 : FVec F S8x8x8x36 .f32 := (transpose S8x8x8x36 [0, 2, 3, 1] · transposes_S8x36x8x8_S8x8x8x36_0_2_3_1) main_arg8
  let main_v18 : FVec F S8x576x4 .f32 := shapeCast S8x576x4 main_v17 shapeCasts_S8x8x8x36_S8x576x4
  let main_v19 : FVec F S8x4x4x36 .f32 := (transpose S8x4x4x36 [0, 2, 3, 1] · transposes_S8x36x4x4_S8x4x4x36_0_2_3_1) main_arg9
  let main_v20 : FVec F S8x144x4 .f32 := shapeCast S8x144x4 main_v19 shapeCasts_S8x4x4x36_S8x144x4
  let main_v21 : FVec F S8x49104x4 .f32 := concatenate S8x49104x4 1 [⟨S8x36864x4, main_v12⟩, ⟨S8x9216x4, main_v14⟩, ⟨S8x2304x4, main_v16⟩, ⟨S8x576x4, main_v18⟩, ⟨S8x144x4, main_v20⟩] concatenates_S8x36864x4_S8x9216x4_S8x2304x4_S8x576x4_S8x144x4_S8x49104x4_d1
  let main_v22 : FVec F S8x4419360 .f32 := shapeCast S8x4419360 main_v10 shapeCasts_S8x49104x90_S8x4419360
  let main_values : FVec F S8x5000 .f32 := (fun x => (Host.topK S8x5000 1 (FloatOps.cmpfTotal .gt) x sliceFits_S8x4419360_S8x5000).1) main_v22
  fn_part1 (F := F) main_arg10 main_arg11 main_v10 main_v21 main_v22
-- ==== Kernel.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S1 : Shape := ⟨1, ![1]⟩
abbrev S1x1x1 : Shape := ⟨3, ![1, 1, 1]⟩
abbrev S8x5000x4 : Shape := ⟨3, ![8, 5000, 4]⟩
abbrev S8x5120 : Shape := ⟨2, ![8, 5120]⟩
abbrev S8x8x640 : Shape := ⟨3, ![8, 8, 640]⟩
abbrev S8x8x128 : Shape := ⟨3, ![8, 8, 128]⟩
abbrev S1x8x640 : Shape := ⟨3, ![1, 8, 640]⟩
abbrev S1x8x128 : Shape := ⟨3, ![1, 8, 128]⟩
abbrev S8x640 : Shape := ⟨2, ![8, 640]⟩
abbrev S1x128 : Shape := ⟨2, ![1, 128]⟩
abbrev S8x128 : Shape := ⟨2, ![8, 128]⟩
abbrev S8x6x100 : Shape := ⟨3, ![8, 6, 100]⟩
abbrev S8x100x6 : Shape := ⟨3, ![8, 100, 6]⟩

abbrev nBuf : Space → Nat
  | .hbm => 169
  | .vmem => 22
  | .smem => 1
  | _ => 0

abbrev hbmTy0_0 (i : Nat) : BufTy := match i % 128 with
  | 0 => ⟨S8x810x64x64, .f32⟩
  | 1 => ⟨S8x810x32x32, .f32⟩
  | 2 => ⟨S8x810x16x16, .f32⟩
  | 3 => ⟨S8x810x8x8, .f32⟩
  | 4 => ⟨S8x810x4x4, .f32⟩
  | 5 => ⟨S8x36x64x64, .f32⟩
  | 6 => ⟨S8x36x32x32, .f32⟩
  | 7 => ⟨S8x36x16x16, .f32⟩
  | 8 => ⟨S8x36x8x8, .f32⟩
  | 9 => ⟨S8x36x4x4, .f32⟩
  | 10 => ⟨S8, .f32⟩
  | 11 => ⟨S49104x4, .f32⟩
  | 12 => ⟨S8x64x64x810, .f32⟩
  | 13 => ⟨S8x36864x90, .f32⟩
  | 14 => ⟨S8x32x32x810, .f32⟩
  | 15 => ⟨S8x9216x90, .f32⟩
  | 16 => ⟨S8x16x16x810, .f32⟩
  | 17 => ⟨S8x2304x90, .f32⟩
  | 18 => ⟨S8x8x8x810, .f32⟩
  | 19 => ⟨S8x576x90, .f32⟩
  | 20 => ⟨S8x4x4x810, .f32⟩
  | 21 => ⟨S8x144x90, .f32⟩
  | 22 => ⟨S8x49104x90, .f32⟩
  | 23 => ⟨S8x64x64x36, .f32⟩
  | 24 => ⟨S8x36864x4, .f32⟩
  | 25 => ⟨S8x32x32x36, .f32⟩
  | 26 => ⟨S8x9216x4, .f32⟩
  | 27 => ⟨S8x16x16x36, .f32⟩
  | 28 => ⟨S8x2304x4, .f32⟩
  | 29 => ⟨S8x8x8x36, .f32⟩
  | 30 => ⟨S8x576x4, .f32⟩
  | 31 => ⟨S8x4x4x36, .f32⟩
  | 32 => ⟨S8x144x4, .f32⟩
  | 33 => ⟨S8x49104x4, .f32⟩
  | 34 => ⟨S8x4419360, .f32⟩
  | 35 => ⟨S8x5000, .f32⟩
  | 36 => ⟨S8x5000, .i32⟩
  | 37 => ⟨S_, .i32⟩
  | 38 => ⟨S_, .i32⟩
  | 39 => ⟨S8x5000, .i32⟩
  | 40 => ⟨S8x5000, .i32⟩
  | 41 => ⟨S8x5000, .i32⟩
  | 42 => ⟨S_, .i32⟩
  | 43 => ⟨S8x5000, .i32⟩
  | 44 => ⟨S8x5000, .i1⟩
  | 45 => ⟨S8x5000, .i32⟩
  | 46 => ⟨S8x5000, .i32⟩
  | 47 => ⟨S_, .i32⟩
  | 48 => ⟨S8x5000, .i32⟩
  | 49 => ⟨S8x5000, .i1⟩
  | 50 => ⟨S8x5000, .i1⟩
  | 51 => ⟨S_, .i32⟩
  | 52 => ⟨S8x5000, .i32⟩
  | 53 => ⟨S8x5000, .i32⟩
  | 54 => ⟨S8x5000, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S8x5000, .i32⟩
  | 62 => ⟨S8x5000, .i32⟩
  | 63 => ⟨S_, .i32⟩
  | 64 => ⟨S8x5000, .i32⟩
  | 65 => ⟨S8x5000, .i1⟩
  | 66 => ⟨S_, .i32⟩
  | 67 => ⟨S8x5000, .i32⟩
  | 68 => ⟨S8x5000, .i1⟩
  | 69 => ⟨S_, .i32⟩
  | 70 => ⟨S_, .i1⟩
  | 71 => ⟨S8x5000, .i1⟩
  | 72 => ⟨S8x5000, .i1⟩
  | 73 => ⟨S8x5000, .i1⟩
  | 74 => ⟨S8x5000, .i32⟩
  | 75 => ⟨S8x5000, .i32⟩
  | 76 => ⟨S8x5000, .i32⟩
  | 77 => ⟨S8x5000, .f32⟩
  | 78 => ⟨S8x5000x1, .i32⟩
  | 79 => ⟨S_, .i32⟩
  | 80 => ⟨S8x5000x1, .i32⟩
  | 81 => ⟨S8x5000x1, .i1⟩
  | 82 => ⟨S_, .i32⟩
  | 83 => ⟨S8x5000x1, .i32⟩
  | 84 => ⟨S8x5000x1, .i32⟩
  | 85 => ⟨S8x5000x1, .i32⟩
  | 86 => ⟨S1, .i32⟩
  | 87 => ⟨S_, .i32⟩
  | 88 => ⟨S8x5000x1, .i32⟩
  | 89 => ⟨S8x5000x1, .i1⟩
  | 90 => ⟨S1x1x1, .i32⟩
  | 91 => ⟨S8x5000x1, .i32⟩
  | 92 => ⟨S8x5000x1, .i1⟩
  | 93 => ⟨S8x5000x1, .i1⟩
  | 94 => ⟨S_, .i1⟩
  | 95 => ⟨S8x5000, .i1⟩
  | 96 => ⟨S8x5000x4, .f32⟩
  | 97 => ⟨S8x5000x4, .i1⟩
  | 98 => ⟨S_, .f32⟩
  | 99 => ⟨S8x5000x4, .f32⟩
  | 100 => ⟨S8x5000x4, .f32⟩
  | 101 => ⟨S_, .i32⟩
  | 102 => ⟨S8x5000, .i32⟩
  | 103 => ⟨S8x5000, .i1⟩
  | 104 => ⟨S_, .i32⟩
  | 105 => ⟨S8x5000, .i32⟩
  | 106 => ⟨S8x5000, .i32⟩
  | 107 => ⟨S8x5000, .i32⟩
  | 108 => ⟨S8x5000x1, .i32⟩
  | 109 => ⟨S8x5000x4, .f32⟩
  | 110 => ⟨S8x5000x1, .f32⟩
  | 111 => ⟨S8x5000, .f32⟩
  | 112 => ⟨S_, .f32⟩
  | 113 => ⟨S_, .f32⟩
  | 114 => ⟨S8x5120, .f32⟩
  | 115 => ⟨S8x8x640, .f32⟩
  | 116 => ⟨S8x5000x1, .f32⟩
  | 117 => ⟨S8x5000, .f32⟩
  | 118 => ⟨S_, .f32⟩
  | 119 => ⟨S_, .f32⟩
  | 120 => ⟨S8x5120, .f32⟩
  | 121 => ⟨S8x8x640, .f32⟩
  | 122 => ⟨S8x5000x1, .f32⟩
  | 123 => ⟨S8x5000, .f32⟩
  | 124 => ⟨S_, .f32⟩
  | 125 => ⟨S_, .f32⟩
  | 126 => ⟨S8x5120, .f32⟩
  | 127 => ⟨S8x8x640, .f32⟩
  | _ => ⟨S8x810x64x64, .f32⟩

abbrev hbmTy0_1 (i : Nat) : BufTy := match i % 128 with
  | 0 => ⟨S8x5000x1, .f32⟩
  | 1 => ⟨S8x5000, .f32⟩
  | 2 => ⟨S_, .f32⟩
  | 3 => ⟨S_, .f32⟩
  | 4 => ⟨S8x5120, .f32⟩
  | 5 => ⟨S8x8x640, .f32⟩
  | 6 => ⟨S8x5000x1, .f32⟩
  | 7 => ⟨S8x5000, .f32⟩
  | 8 => ⟨S_, .f32⟩
  | 9 => ⟨S_, .f32⟩
  | 10 => ⟨S8x5120, .f32⟩
  | 11 => ⟨S8x8x640, .f32⟩
  | 12 => ⟨S8x5000x1, .f32⟩
  | 13 => ⟨S8x5000, .f32⟩
  | 14 => ⟨S_, .f32⟩
  | 15 => ⟨S_, .f32⟩
  | 16 => ⟨S8x5120, .f32⟩
  | 17 => ⟨S8x8x640, .f32⟩
  | 18 => ⟨S8x5000x1, .f32⟩
  | 19 => ⟨S8x5000, .f32⟩
  | 20 => ⟨S_, .f32⟩
  | 21 => ⟨S_, .f32⟩
  | 22 => ⟨S8x5120, .f32⟩
  | 23 => ⟨S8x8x640, .f32⟩
  | 24 => ⟨S8x5000x1, .f32⟩
  | 25 => ⟨S8x5000, .f32⟩
  | 26 => ⟨S_, .f32⟩
  | 27 => ⟨S_, .f32⟩
  | 28 => ⟨S8x5120, .f32⟩
  | 29 => ⟨S8x8x640, .f32⟩
  | 30 => ⟨S_, .f32⟩
  | 31 => ⟨S_, .f32⟩
  | 32 => ⟨S8x5120, .f32⟩
  | 33 => ⟨S8x8x640, .f32⟩
  | 34 => ⟨S_, .f32⟩
  | 35 => ⟨S_, .f32⟩
  | 36 => ⟨S8x5120, .f32⟩
  | 37 => ⟨S8x8x640, .f32⟩
  | 38 => ⟨S8x8x128, .f32⟩
  | 39 => ⟨S8x6x100, .f32⟩
  | 40 => ⟨S8x100x6, .f32⟩
  | _ => ⟨S8x810x64x64, .f32⟩

abbrev hbmTy (i : Nat) : BufTy := match i / 128 with
  | 0 => hbmTy0_0 i
  | 1 => hbmTy0_1 i
  | _ => ⟨S8x810x64x64, .f32⟩

abbrev bufTy : (tb : Table) → Fin (tcTables nBuf tb) → BufTy
  | .hbm, ⟨i, _⟩ => hbmTy i
  | .local _ .vmem, ⟨0, _⟩ => ⟨S1x8x640, .f32⟩
  | .local _ .vmem, ⟨1, _⟩ => ⟨S1x8x640, .f32⟩
  | .local _ .vmem, ⟨2, _⟩ => ⟨S1x8x640, .f32⟩
  | .local _ .vmem, ⟨3, _⟩ => ⟨S1x8x640, .f32⟩
  | .local _ .vmem, ⟨4, _⟩ => ⟨S1x8x640, .f32⟩
  | .local _ .vmem, ⟨5, _⟩ => ⟨S1x8x640, .f32⟩
  | .local _ .vmem, ⟨6, _⟩ => ⟨S1x8x640, .f32⟩
  | .local _ .vmem, ⟨7, _⟩ => ⟨S1x8x640, .f32⟩
  | .local _ .vmem, ⟨8, _⟩ => ⟨S1x8x640, .f32⟩
  | .local _ .vmem, ⟨9, _⟩ => ⟨S1x8x640, .f32⟩
  | .local _ .vmem, ⟨10, _⟩ => ⟨S1x8x640, .f32⟩
  | .local _ .vmem, ⟨11, _⟩ => ⟨S1x8x640, .f32⟩
  | .local _ .vmem, ⟨12, _⟩ => ⟨S1x8x640, .f32⟩
  | .local _ .vmem, ⟨13, _⟩ => ⟨S1x8x640, .f32⟩
  | .local _ .vmem, ⟨14, _⟩ => ⟨S1x8x640, .f32⟩
  | .local _ .vmem, ⟨15, _⟩ => ⟨S1x8x640, .f32⟩
  | .local _ .vmem, ⟨16, _⟩ => ⟨S1x8x640, .f32⟩
  | .local _ .vmem, ⟨17, _⟩ => ⟨S1x8x640, .f32⟩
  | .local _ .vmem, ⟨18, _⟩ => ⟨S1x8x640, .f32⟩
  | .local _ .vmem, ⟨19, _⟩ => ⟨S1x8x640, .f32⟩
  | .local _ .vmem, ⟨20, _⟩ => ⟨S1x8x128, .f32⟩
  | .local _ .vmem, ⟨21, _⟩ => ⟨S1x8x128, .f32⟩
  | .local _ .smem, ⟨0, _⟩ => ⟨S8, .f32⟩
  | _, _ => ⟨S8x810x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v23 : Ref sig .tc := ⟨.hbm, 54, rfl⟩
abbrev main_c_0 : Ref sig .tc := ⟨.hbm, 55, rfl⟩
abbrev main_call1_v0 : Ref sig .tc := ⟨.hbm, 56, rfl⟩
abbrev main_call1_c : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_c_1 : Ref sig .tc := ⟨.hbm, 63, rfl⟩
abbrev main_call1_v5 : Ref sig .tc := ⟨.hbm, 64, rfl⟩
abbrev main_call1_v6 : Ref sig .tc := ⟨.hbm, 65, rfl⟩
abbrev main_call1_c_2 : Ref sig .tc := ⟨.hbm, 66, rfl⟩
abbrev main_call1_v7 : Ref sig .tc := ⟨.hbm, 67, rfl⟩
abbrev main_call1_v8 : Ref sig .tc := ⟨.hbm, 68, rfl⟩
abbrev main_call1_c_3 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_c_2 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_c_3 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_cst : Ref sig .tc := ⟨.hbm, 98, rfl⟩
abbrev main_call2_v14 : Ref sig .tc := ⟨.hbm, 99, rfl⟩
abbrev main_v27 : Ref sig .tc := ⟨.hbm, 100, rfl⟩
abbrev main_c_1 : Ref sig .tc := ⟨.hbm, 101, rfl⟩
abbrev main_v28 : Ref sig .tc := ⟨.hbm, 102, rfl⟩
abbrev main_v29 : Ref sig .tc := ⟨.hbm, 103, rfl⟩
abbrev main_c_2 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_cst : Ref sig .tc := ⟨.hbm, 112, rfl⟩
abbrev main_call3_v0 : Ref sig .tc := ⟨.hbm, 113, rfl⟩
abbrev main_v37 : Ref sig .tc := ⟨.hbm, 114, rfl⟩
abbrev main_v38 : Ref sig .tc := ⟨.hbm, 115, rfl⟩
abbrev main_v39 : Ref sig .tc := ⟨.hbm, 116, rfl⟩
abbrev main_v40 : Ref sig .tc := ⟨.hbm, 117, rfl⟩
abbrev main_cst_3 : Ref sig .tc := ⟨.hbm, 118, rfl⟩
abbrev main_call4_v0 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_cst_4 : Ref sig .tc := ⟨.hbm, 124, rfl⟩
abbrev main_call5_v0 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_cst_5 : Ref sig .tc := ⟨.hbm, 130, rfl⟩
abbrev main_call6_v0 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_cst_6 : Ref sig .tc := ⟨.hbm, 136, rfl⟩
abbrev main_call7_v0 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_cst_7 : Ref sig .tc := ⟨.hbm, 142, rfl⟩
abbrev main_call8_v0 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_cst_8 : Ref sig .tc := ⟨.hbm, 148, rfl⟩
abbrev main_call9_v0 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_cst_9 : Ref sig .tc := ⟨.hbm, 154, rfl⟩
abbrev main_call10_v0 : Ref sig .tc := ⟨.hbm, 155, rfl⟩
abbrev main_v65 : Ref sig .tc := ⟨.hbm, 156, rfl⟩
abbrev main_v66 : Ref sig .tc := ⟨.hbm, 157, rfl⟩
abbrev main_cst_10 : Ref sig .tc := ⟨.hbm, 158, rfl⟩
abbrev main_call11_v0 : Ref sig .tc := ⟨.hbm, 159, rfl⟩
abbrev main_v67 : Ref sig .tc := ⟨.hbm, 160, rfl⟩
abbrev main_v68 : Ref sig .tc := ⟨.hbm, 161, rfl⟩
abbrev main_cst_11 : Ref sig .tc := ⟨.hbm, 162, rfl⟩
abbrev main_call12_v0 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c100_i32 : BitVec 32 := 100#32
  let v90 : BitVec 32 := Scalar.addi c0_i32 c100_i32
  let c1_i32 : BitVec 32 := 1#32
  ⟨c0_i32, v90, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .smem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8x810x64x64 : Shape := ⟨4, ![8, 810, 64, 64]⟩
abbrev S8x810x32x32 : Shape := ⟨4, ![8, 810, 32, 32]⟩
abbrev S8x810x16x16 : Shape := ⟨4, ![8, 810, 16, 16]⟩
abbrev S8x810x8x8 : Shape := ⟨4, ![8, 810, 8, 8]⟩
abbrev S8x810x4x4 : Shape := ⟨4, ![8, 810, 4, 4]⟩
abbrev S8x36x64x64 : Shape := ⟨4, ![8, 36, 64, 64]⟩
abbrev S8x36x32x32 : Shape := ⟨4, ![8, 36, 32, 32]⟩
abbrev S8x36x16x16 : Shape := ⟨4, ![8, 36, 16, 16]⟩
abbrev S8x36x8x8 : Shape := ⟨4, ![8, 36, 8, 8]⟩
abbrev S8x36x4x4 : Shape := ⟨4, ![8, 36, 4, 4]⟩
abbrev S8 : Shape := ⟨1, ![8]⟩
abbrev S49104x4 : Shape := ⟨2, ![49104, 4]⟩
abbrev S8x64x64x810 : Shape := ⟨4, ![8, 64, 64, 810]⟩
abbrev S8x36864x90 : Shape := ⟨3, ![8, 36864, 90]⟩
abbrev S8x32x32x810 : Shape := ⟨4, ![8, 32, 32, 810]⟩
abbrev S8x9216x90 : Shape := ⟨3, ![8, 9216, 90]⟩
abbrev S8x16x16x810 : Shape := ⟨4, ![8, 16, 16, 810]⟩
abbrev S8x2304x90 : Shape := ⟨3, ![8, 2304, 90]⟩
abbrev S8x8x8x810 : Shape := ⟨4, ![8, 8, 8, 810]⟩
abbrev S8x576x90 : Shape := ⟨3, ![8, 576, 90]⟩
abbrev S8x4x4x810 : Shape := ⟨4, ![8, 4, 4, 810]⟩
abbrev S8x144x90 : Shape := ⟨3, ![8, 144, 90]⟩
abbrev S8x49104x90 : Shape := ⟨3, ![8, 49104, 90]⟩
abbrev S8x64x64x36 : Shape := ⟨4, ![8, 64, 64, 36]⟩
abbrev S8x36864x4 : Shape := ⟨3, ![8, 36864, 4]⟩
abbrev S8x32x32x36 : Shape := ⟨4, ![8, 32, 32, 36]⟩
abbrev S8x9216x4 : Shape := ⟨3, ![8, 9216, 4]⟩
abbrev S8x16x16x36 : Shape := ⟨4, ![8, 16, 16, 36]⟩
abbrev S8x2304x4 : Shape := ⟨3, ![8, 2304, 4]⟩
abbrev S8x8x8x36 : Shape := ⟨4, ![8, 8, 8, 36]⟩
abbrev S8x576x4 : Shape := ⟨3, ![8, 576, 4]⟩
abbrev S8x4x4x36 : Shape := ⟨4, ![8, 4, 4, 36]⟩
abbrev S8x144x4 : Shape := ⟨3, ![8, 144, 4]⟩
abbrev S8x49104x4 : Shape := ⟨3, ![8, 49104, 4]⟩
abbrev S8x4419360 : Shape := ⟨2, ![8, 4419360]⟩
abbrev S8x5000 : Shape := ⟨2, ![8, 5000]⟩
abbrev S_ : Shape := ⟨0, ![]⟩
abbrev S8x5000x1 : Shape := ⟨3, ![8, 5000, 1]⟩
abbrev S8x5000x4 : Shape := ⟨3, ![8, 5000, 4]⟩
abbrev S8x5000x90 : Shape := ⟨3, ![8, 5000, 90]⟩
abbrev S8x5000x1x1 : Shape := ⟨4, ![8, 5000, 1, 1]⟩
abbrev S100x8x4 : Shape := ⟨3, ![100, 8, 4]⟩
abbrev S100x8 : Shape := ⟨2, ![100, 8]⟩
abbrev S8x1 : Shape := ⟨2, ![8, 1]⟩
abbrev S8x1x1 : Shape := ⟨3, ![8, 1, 1]⟩
abbrev S8x1x4 : Shape := ⟨3, ![8, 1, 4]⟩
abbrev S8x4 : Shape := ⟨2, ![8, 4]⟩
abbrev S1x8x4 : Shape := ⟨3, ![1, 8, 4]⟩
abbrev S1x8 : Shape := ⟨2, ![1, 8]⟩
abbrev S8x100x4 : Shape := ⟨3, ![8, 100, 4]⟩
abbrev S8x100x1 : Shape := ⟨3, ![8, 100, 1]⟩
abbrev S8x100 : Shape := ⟨2, ![8, 100]⟩
abbrev S8x100x6 : Shape := ⟨3, ![8, 100, 6]⟩

abbrev nBuf : Space → Nat
  | .hbm => 298
  | .vmem => 0
  | .smem => 0
  | _ => 0

abbrev hbmTy0_0 (i : Nat) : BufTy := match i % 128 with
  | 0 => ⟨S8x810x64x64, .f32⟩
  | 1 => ⟨S8x810x32x32, .f32⟩
  | 2 => ⟨S8x810x16x16, .f32⟩
  | 3 => ⟨S8x810x8x8, .f32⟩
  | 4 => ⟨S8x810x4x4, .f32⟩
  | 5 => ⟨S8x36x64x64, .f32⟩
  | 6 => ⟨S8x36x32x32, .f32⟩
  | 7 => ⟨S8x36x16x16, .f32⟩
  | 8 => ⟨S8x36x8x8, .f32⟩
  | 9 => ⟨S8x36x4x4, .f32⟩
  | 10 => ⟨S8, .f32⟩
  | 11 => ⟨S49104x4, .f32⟩
  | 12 => ⟨S8x64x64x810, .f32⟩
  | 13 => ⟨S8x36864x90, .f32⟩
  | 14 => ⟨S8x32x32x810, .f32⟩
  | 15 => ⟨S8x9216x90, .f32⟩
  | 16 => ⟨S8x16x16x810, .f32⟩
  | 17 => ⟨S8x2304x90, .f32⟩
  | 18 => ⟨S8x8x8x810, .f32⟩
  | 19 => ⟨S8x576x90, .f32⟩
  | 20 => ⟨S8x4x4x810, .f32⟩
  | 21 => ⟨S8x144x90, .f32⟩
  | 22 => ⟨S8x49104x90, .f32⟩
  | 23 => ⟨S8x64x64x36, .f32⟩
  | 24 => ⟨S8x36864x4, .f32⟩
  | 25 => ⟨S8x32x32x36, .f32⟩
  | 26 => ⟨S8x9216x4, .f32⟩
  | 27 => ⟨S8x16x16x36, .f32⟩
  | 28 => ⟨S8x2304x4, .f32⟩
  | 29 => ⟨S8x8x8x36, .f32⟩
  | 30 => ⟨S8x576x4, .f32⟩
  | 31 => ⟨S8x4x4x36, .f32⟩
  | 32 => ⟨S8x144x4, .f32⟩
  | 33 => ⟨S8x49104x4, .f32⟩
  | 34 => ⟨S8x4419360, .f32⟩
  | 35 => ⟨S8x5000, .f32⟩
  | 36 => ⟨S8x5000, .i32⟩
  | 37 => ⟨S_, .i32⟩
  | 38 => ⟨S_, .i32⟩
  | 39 => ⟨S8x5000, .i32⟩
  | 40 => ⟨S8x5000, .i32⟩
  | 41 => ⟨S8x5000, .i32⟩
  | 42 => ⟨S_, .i32⟩
  | 43 => ⟨S8x5000, .i32⟩
  | 44 => ⟨S8x5000, .i1⟩
  | 45 => ⟨S8x5000, .i32⟩
  | 46 => ⟨S8x5000, .i32⟩
  | 47 => ⟨S_, .i32⟩
  | 48 => ⟨S8x5000, .i32⟩
  | 49 => ⟨S8x5000, .i1⟩
  | 50 => ⟨S8x5000, .i1⟩
  | 51 => ⟨S_, .i32⟩
  | 52 => ⟨S8x5000, .i32⟩
  | 53 => ⟨S8x5000, .i32⟩
  | 54 => ⟨S8x5000, .i32⟩
  | 55 => ⟨S_, .i32⟩
  | 56 => ⟨S8x5000, .i32⟩
  | 57 => ⟨S8x5000, .i32⟩
  | 58 => ⟨S8x5000x1, .i32⟩
  | 59 => ⟨S8x5000x4, .f32⟩
  | 60 => ⟨S8x5000x1, .i32⟩
  | 61 => ⟨S8x5000x90, .f32⟩
  | 62 => ⟨S8x5000x1, .i32⟩
  | 63 => ⟨S8x5000x1x1, .i32⟩
  | 64 => ⟨S8x5000x1, .f32⟩
  | 65 => ⟨S8x5000, .f32⟩
  | 66 => ⟨S_, .i32⟩
  | 67 => ⟨S8x5000, .i32⟩
  | 68 => ⟨S8x5000, .i1⟩
  | 69 => ⟨S_, .i32⟩
  | 70 => ⟨S8x5000, .i32⟩
  | 71 => ⟨S8x5000, .i32⟩
  | 72 => ⟨S8x5000, .i32⟩
  | 73 => ⟨S8x5000x1, .i32⟩
  | 74 => ⟨S8x5000x4, .f32⟩
  | 75 => ⟨S8x5000x1, .f32⟩
  | 76 => ⟨S8x5000, .f32⟩
  | 77 => ⟨S8x5000x1, .f32⟩
  | 78 => ⟨S8x5000, .f32⟩
  | 79 => ⟨S8x5000, .f32⟩
  | 80 => ⟨S_, .f32⟩
  | 81 => ⟨S8x5000, .f32⟩
  | 82 => ⟨S8x5000, .f32⟩
  | 83 => ⟨S8x5000x1, .f32⟩
  | 84 => ⟨S8x5000, .f32⟩
  | 85 => ⟨S8x5000x1, .f32⟩
  | 86 => ⟨S8x5000, .f32⟩
  | 87 => ⟨S8x5000, .f32⟩
  | 88 => ⟨S_, .f32⟩
  | 89 => ⟨S8x5000, .f32⟩
  | 90 => ⟨S8x5000, .f32⟩
  | 91 => ⟨S8x5000x1, .f32⟩
  | 92 => ⟨S8x5000, .f32⟩
  | 93 => ⟨S8x5000x1, .f32⟩
  | 94 => ⟨S8x5000, .f32⟩
  | 95 => ⟨S8x5000, .f32⟩
  | 96 => ⟨S8x5000x1, .f32⟩
  | 97 => ⟨S8x5000, .f32⟩
  | 98 => ⟨S8x5000x1, .f32⟩
  | 99 => ⟨S8x5000, .f32⟩
  | 100 => ⟨S8x5000, .f32⟩
  | 101 => ⟨S8x5000x1, .f32⟩
  | 102 => ⟨S8x5000, .f32⟩
  | 103 => ⟨S8x5000x1, .f32⟩
  | 104 => ⟨S8x5000, .f32⟩
  | 105 => ⟨S8x5000x1, .f32⟩
  | 106 => ⟨S8x5000, .f32⟩
  | 107 => ⟨S8x5000x1, .f32⟩
  | 108 => ⟨S8x5000, .f32⟩
  | 109 => ⟨S8x5000, .f32⟩
  | 110 => ⟨S8x5000, .f32⟩
  | 111 => ⟨S8x5000, .f32⟩
  | 112 => ⟨S8x5000, .f32⟩
  | 113 => ⟨S8x5000, .f32⟩
  | 114 => ⟨S8x5000, .f32⟩
  | 115 => ⟨S8x5000, .f32⟩
  | 116 => ⟨S8x5000, .f32⟩
  | 117 => ⟨S_, .f32⟩
  | 118 => ⟨S8x5000, .f32⟩
  | 119 => ⟨S8x5000, .f32⟩
  | 120 => ⟨S8x5000, .f32⟩
  | 121 => ⟨S_, .f32⟩
  | 122 => ⟨S8x5000, .f32⟩
  | 123 => ⟨S8x5000, .f32⟩
  | 124 => ⟨S8x5000, .f32⟩
  | 125 => ⟨S_, .f32⟩
  | 126 => ⟨S8x5000, .f32⟩
  | 127 => ⟨S8x5000, .f32⟩
  | _ => ⟨S8x810x64x64, .f32⟩

abbrev hbmTy0_1 (i : Nat) : BufTy := match i % 128 with
  | 0 => ⟨S8x5000, .f32⟩
  | 1 => ⟨S_, .f32⟩
  | 2 => ⟨S8x5000, .f32⟩
  | 3 => ⟨S8x5000, .f32⟩
  | 4 => ⟨S8x5000, .f32⟩
  | 5 => ⟨S8x5000x1, .f32⟩
  | 6 => ⟨S8x5000x1, .f32⟩
  | 7 => ⟨S8x5000x1, .f32⟩
  | 8 => ⟨S8x5000x1, .f32⟩
  | 9 => ⟨S8x5000x4, .f32⟩
  | 10 => ⟨S_, .f32⟩
  | 11 => ⟨S8x5000x4, .f32⟩
  | 12 => ⟨S8x5000x4, .f32⟩
  | 13 => ⟨S_, .f32⟩
  | 14 => ⟨S8x5000x4, .f32⟩
  | 15 => ⟨S8x5000x4, .f32⟩
  | 16 => ⟨S8x5000, .f32⟩
  | 17 => ⟨S8x5000, .f32⟩
  | 18 => ⟨S_, .f32⟩
  | 19 => ⟨S8x5000, .f32⟩
  | 20 => ⟨S8x5000, .f32⟩
  | 21 => ⟨S_, .f32⟩
  | 22 => ⟨S8x5000, .f32⟩
  | 23 => ⟨S8x5000, .f32⟩
  | 24 => ⟨S8x5000, .f32⟩
  | 25 => ⟨S8x5000x1, .f32⟩
  | 26 => ⟨S_, .f32⟩
  | 27 => ⟨S8x5000x1, .f32⟩
  | 28 => ⟨S8x5000x1, .f32⟩
  | 29 => ⟨S8x5000x4, .f32⟩
  | 30 => ⟨S8x5000x4, .f32⟩
  | 31 => ⟨S_, .f32⟩
  | 32 => ⟨S100x8x4, .f32⟩
  | 33 => ⟨S_, .f32⟩
  | 34 => ⟨S100x8, .f32⟩
  | 35 => ⟨S_, .f32⟩
  | 36 => ⟨S100x8, .f32⟩
  | 37 => ⟨S_, .i32⟩
  | 38 => ⟨S8x5000x4, .f32⟩
  | 39 => ⟨S8x5000x4, .f32⟩
  | 40 => ⟨S8x5000, .f32⟩
  | 41 => ⟨S_, .i32⟩
  | 42 => ⟨S8x5000, .f32⟩
  | 43 => ⟨S100x8x4, .f32⟩
  | 44 => ⟨S100x8, .f32⟩
  | 45 => ⟨S100x8, .f32⟩
  | 46 => ⟨S_, .i32⟩
  | 47 => ⟨S_, .i1⟩
  | 48 => ⟨S8x5000x1, .f32⟩
  | 49 => ⟨S8x5000, .f32⟩
  | 50 => ⟨S8x5000x1, .f32⟩
  | 51 => ⟨S8x5000, .f32⟩
  | 52 => ⟨S8x5000, .f32⟩
  | 53 => ⟨S8x5000x1, .f32⟩
  | 54 => ⟨S8x5000, .f32⟩
  | 55 => ⟨S8x5000x1, .f32⟩
  | 56 => ⟨S8x5000, .f32⟩
  | 57 => ⟨S8x5000, .f32⟩
  | 58 => ⟨S8x5000, .f32⟩
  | 59 => ⟨S8x1, .f32⟩
  | 60 => ⟨S8x1, .i32⟩
  | 61 => ⟨S8x1x1, .i32⟩
  | 62 => ⟨S8x1x4, .f32⟩
  | 63 => ⟨S8x1x1, .f32⟩
  | 64 => ⟨S8x1, .f32⟩
  | 65 => ⟨S8x5000x1, .f32⟩
  | 66 => ⟨S8x5000, .f32⟩
  | 67 => ⟨S8x5000, .f32⟩
  | 68 => ⟨S8x5000, .f32⟩
  | 69 => ⟨S8x1x1, .f32⟩
  | 70 => ⟨S8x1, .f32⟩
  | 71 => ⟨S8x5000x1, .f32⟩
  | 72 => ⟨S8x5000, .f32⟩
  | 73 => ⟨S8x5000, .f32⟩
  | 74 => ⟨S8x5000, .f32⟩
  | 75 => ⟨S8x1x1, .f32⟩
  | 76 => ⟨S8x1, .f32⟩
  | 77 => ⟨S8x5000x1, .f32⟩
  | 78 => ⟨S8x5000, .f32⟩
  | 79 => ⟨S8x5000, .f32⟩
  | 80 => ⟨S8x5000, .f32⟩
  | 81 => ⟨S8x1x1, .f32⟩
  | 82 => ⟨S8x1, .f32⟩
  | 83 => ⟨S8x5000x1, .f32⟩
  | 84 => ⟨S8x5000, .f32⟩
  | 85 => ⟨S8x5000, .f32⟩
  | 86 => ⟨S8x5000, .f32⟩
  | 87 => ⟨S8x5000, .f32⟩
  | 88 => ⟨S_, .f32⟩
  | 89 => ⟨S8x5000, .f32⟩
  | 90 => ⟨S8x5000, .f32⟩
  | 91 => ⟨S8x5000, .f32⟩
  | 92 => ⟨S_, .f32⟩
  | 93 => ⟨S8x5000, .f32⟩
  | 94 => ⟨S8x5000, .f32⟩
  | 95 => ⟨S8x5000, .f32⟩
  | 96 => ⟨S8x1x1, .f32⟩
  | 97 => ⟨S8x1, .f32⟩
  | 98 => ⟨S8x1x1, .f32⟩
  | 99 => ⟨S8x1, .f32⟩
  | 100 => ⟨S8x1, .f32⟩
  | 101 => ⟨S8x1x1, .f32⟩
  | 102 => ⟨S8x1, .f32⟩
  | 103 => ⟨S8x1x1, .f32⟩
  | 104 => ⟨S8x1, .f32⟩
  | 105 => ⟨S8x1, .f32⟩
  | 106 => ⟨S8x1, .f32⟩
  | 107 => ⟨S8x5000, .f32⟩
  | 108 => ⟨S8x5000, .f32⟩
  | 109 => ⟨S8x5000, .f32⟩
  | 110 => ⟨S_, .f32⟩
  | 111 => ⟨S8x5000, .f32⟩
  | 112 => ⟨S8x5000, .f32⟩
  | 113 => ⟨S8x5000, .f32⟩
  | 114 => ⟨S_, .f32⟩
  | 115 => ⟨S8x5000, .f32⟩
  | 116 => ⟨S_, .f32⟩
  | 117 => ⟨S8x5000, .f32⟩
  | 118 => ⟨S8x5000, .i1⟩
  | 119 => ⟨S8x5000, .f32⟩
  | 120 => ⟨S8x5000, .i32⟩
  | 121 => ⟨S8x5000, .i32⟩
  | 122 => ⟨S8x5000, .i1⟩
  | 123 => ⟨S8x5000, .f32⟩
  | 124 => ⟨S8x1x1, .i32⟩
  | 125 => ⟨S8x1x4, .f32⟩
  | 126 => ⟨S8x4, .f32⟩
  | 127 => ⟨S8, .f32⟩
  | _ => ⟨S8x810x64x64, .f32⟩

abbrev hbmTy0_2 (i : Nat) : BufTy := match i % 128 with
  | 0 => ⟨S8x1x1, .i32⟩
  | 1 => ⟨S8x1, .f32⟩
  | 2 => ⟨S8, .f32⟩
  | 3 => ⟨S1x8x4, .f32⟩
  | 4 => ⟨S_, .i32⟩
  | 5 => ⟨S_, .i32⟩
  | 6 => ⟨S100x8x4, .f32⟩
  | 7 => ⟨S1x8, .f32⟩
  | 8 => ⟨S_, .i32⟩
  | 9 => ⟨S100x8, .f32⟩
  | 10 => ⟨S1x8, .f32⟩
  | 11 => ⟨S_, .i32⟩
  | 12 => ⟨S100x8, .f32⟩
  | 13 => ⟨S_, .i32⟩
  | 14 => ⟨S_, .i32⟩
  | 15 => ⟨S8x100x4, .f32⟩
  | 16 => ⟨S8x1x1, .f32⟩
  | 17 => ⟨S8x100x4, .f32⟩
  | 18 => ⟨S8x100x4, .f32⟩
  | 19 => ⟨S8x100x1, .f32⟩
  | 20 => ⟨S8x100, .f32⟩
  | 21 => ⟨S8x100x1, .f32⟩
  | 22 => ⟨S8x100, .f32⟩
  | 23 => ⟨S8x100x1, .f32⟩
  | 24 => ⟨S8x100, .f32⟩
  | 25 => ⟨S8x100x1, .f32⟩
  | 26 => ⟨S8x100, .f32⟩
  | 27 => ⟨S8x100, .f32⟩
  | 28 => ⟨S8x100x1, .f32⟩
  | 29 => ⟨S8x100, .f32⟩
  | 30 => ⟨S8x100x1, .f32⟩
  | 31 => ⟨S8x100, .f32⟩
  | 32 => ⟨S8x100, .f32⟩
  | 33 => ⟨S8x100, .f32⟩
  | 34 => ⟨S8x100, .f32⟩
  | 35 => ⟨S8x100x1, .f32⟩
  | 36 => ⟨S8x100x1, .f32⟩
  | 37 => ⟨S8x100x1, .f32⟩
  | 38 => ⟨S8x100x1, .f32⟩
  | 39 => ⟨S8x100x1, .f32⟩
  | 40 => ⟨S8x100x1, .f32⟩
  | 41 => ⟨S8x100x6, .f32⟩
  | _ => ⟨S8x810x64x64, .f32⟩

abbrev hbmTy (i : Nat) : BufTy := match i / 128 with
  | 0 => hbmTy0_0 i
  | 1 => hbmTy0_1 i
  | 2 => hbmTy0_2 i
  | _ => ⟨S8x810x64x64, .f32⟩

abbrev bufTy : (tb : Table) → Fin (tcTables nBuf tb) → BufTy
  | .hbm, ⟨i, _⟩ => hbmTy i
  | _, _ => ⟨S8x810x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_values : Ref sig .tc := ⟨.hbm, 35, rfl⟩
abbrev main_indices : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v23 : Ref sig .tc := ⟨.hbm, 54, rfl⟩
abbrev main_c_0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call3_v0 : Ref sig .tc := ⟨.hbm, 63, rfl⟩
abbrev main_v31 : Ref sig .tc := ⟨.hbm, 64, rfl⟩
abbrev main_v32 : Ref sig .tc := ⟨.hbm, 65, rfl⟩
abbrev main_c_1 : Ref sig .tc := ⟨.hbm, 66, rfl⟩
abbrev main_v33 : Ref sig .tc := ⟨.hbm, 67, rfl⟩
abbrev main_v34 : Ref sig .tc := ⟨.hbm, 68, rfl⟩
abbrev main_c_2 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_3 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_4 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_5 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_6 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_7 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_8 : Ref sig .tc := ⟨.hbm, 138, rfl⟩
abbrev main_v97 : Ref sig .tc := ⟨.hbm, 139, rfl⟩
abbrev main_v98 : Ref sig .tc := ⟨.hbm, 140, rfl⟩
abbrev main_cst_9 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_10 : Ref sig .tc := ⟨.hbm, 146, rfl⟩
abbrev main_v103 : Ref sig .tc := ⟨.hbm, 147, rfl⟩
abbrev main_v104 : Ref sig .tc := ⟨.hbm, 148, rfl⟩
abbrev main_cst_11 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_12 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_13 : Ref sig .tc := ⟨.hbm, 159, rfl⟩
abbrev main_v113 : Ref sig .tc := ⟨.hbm, 160, rfl⟩
abbrev main_cst_14 : Ref sig .tc := ⟨.hbm, 161, rfl⟩
abbrev main_v114 : Ref sig .tc := ⟨.hbm, 162, rfl⟩
abbrev main_cst_15 : Ref sig .tc := ⟨.hbm, 163, rfl⟩
abbrev main_v115 : Ref sig .tc := ⟨.hbm, 164, rfl⟩
abbrev main_c_16 : Ref sig .tc := ⟨.hbm, 165, rfl⟩
abbrev main_v116_0 : Ref sig .tc := ⟨.hbm, 166, rfl⟩
abbrev main_v116_1 : Ref sig .tc := ⟨.hbm, 167, rfl⟩
abbrev main_v116_2 : Ref sig .tc := ⟨.hbm, 168, rfl⟩
abbrev main_v116_3 : Ref sig .tc := ⟨.hbm, 169, rfl⟩
abbrev main_v116_4 : Ref sig .tc := ⟨.hbm, 170, rfl⟩
abbrev main_v116_5 : Ref sig .tc := ⟨.hbm, 171, rfl⟩
abbrev main_v116_6 : Ref sig .tc := ⟨.hbm, 172, rfl⟩
abbrev main_v116_7 : Ref sig .tc := ⟨.hbm, 173, rfl⟩
abbrev main_while0c_c_24 : Ref sig .tc := ⟨.hbm, 174, rfl⟩
abbrev main_while0c_v144 : Ref sig .tc := ⟨.hbm, 175, rfl⟩
abbrev main_while0b_v144 : Ref sig .tc := ⟨.hbm, 176, rfl⟩
abbrev main_while0b_v145 : Ref sig .tc := ⟨.hbm, 177, rfl⟩
abbrev main_while0b_v146 : Ref sig .tc := ⟨.hbm, 178, rfl⟩
abbrev main_while0b_v147 : Ref sig .tc := ⟨.hbm, 179, rfl⟩
abbrev main_while0b_v148 : Ref sig .tc := ⟨.hbm, 180, rfl⟩
abbrev main_while0b_v149 : Ref sig .tc := ⟨.hbm, 181, rfl⟩
abbrev main_while0b_v150 : Ref sig .tc := ⟨.hbm, 182, rfl⟩
abbrev main_while0b_v151 : Ref sig .tc := ⟨.hbm, 183, rfl⟩
abbrev main_while0b_v152 : Ref sig .tc := ⟨.hbm, 184, rfl⟩
abbrev main_while0b_v153 : Ref sig .tc := ⟨.hbm, 185, rfl⟩
abbrev main_while0b_v154 : Ref sig .tc := ⟨.hbm, 186, rfl⟩
abbrev main_while0b_values_24 : Ref sig .tc := ⟨.hbm, 187, rfl⟩
abbrev main_while0b_indices_25 : Ref sig .tc := ⟨.hbm, 188, rfl⟩
abbrev main_while0b_v155 : Ref sig .tc := ⟨.hbm, 189, rfl⟩
abbrev main_while0b_v156 : Ref sig .tc := ⟨.hbm, 190, rfl⟩
abbrev main_while0b_v157 : Ref sig .tc := ⟨.hbm, 191, rfl⟩
abbrev main_while0b_v158 : Ref sig .tc := ⟨.hbm, 192, rfl⟩
abbrev main_while0b_v159 : Ref sig .tc := ⟨.hbm, 193, rfl⟩
abbrev main_while0b_v160 : Ref sig .tc := ⟨.hbm, 194, rfl⟩
abbrev main_while0b_v161 : Ref sig .tc := ⟨.hbm, 195, rfl⟩
abbrev main_while0b_v162 : Ref sig .tc := ⟨.hbm, 196, rfl⟩
abbrev main_while0b_v163 : Ref sig .tc := ⟨.hbm, 197, rfl⟩
abbrev main_while0b_v164 : Ref sig .tc := ⟨.hbm, 198, rfl⟩
abbrev main_while0b_v165 : Ref sig .tc := ⟨.hbm, 199, rfl⟩
abbrev main_while0b_v166 : Ref sig .tc := ⟨.hbm, 200, rfl⟩
abbrev main_while0b_v167 : Ref sig .tc := ⟨.hbm, 201, rfl⟩
abbrev main_while0b_v168 : Ref sig .tc := ⟨.hbm, 202, rfl⟩
abbrev main_while0b_v169 : Ref sig .tc := ⟨.hbm, 203, rfl⟩
abbrev main_while0b_v170 : Ref sig .tc := ⟨.hbm, 204, rfl⟩
abbrev main_while0b_v171 : Ref sig .tc := ⟨.hbm, 205, rfl⟩
abbrev main_while0b_v172 : Ref sig .tc := ⟨.hbm, 206, rfl⟩
abbrev main_while0b_v173 : Ref sig .tc := ⟨.hbm, 207, rfl⟩
abbrev main_while0b_v174 : Ref sig .tc := ⟨.hbm, 208, rfl⟩
abbrev main_while0b_v175 : Ref sig .tc := ⟨.hbm, 209, rfl⟩
abbrev main_while0b_v176 : Ref sig .tc := ⟨.hbm, 210, rfl⟩
abbrev main_while0b_v177 : Ref sig .tc := ⟨.hbm, 211, rfl⟩
abbrev main_while0b_v178 : Ref sig .tc := ⟨.hbm, 212, rfl⟩
abbrev main_while0b_v179 : Ref sig .tc := ⟨.hbm, 213, rfl⟩
abbrev main_while0b_v180 : Ref sig .tc := ⟨.hbm, 214, rfl⟩
abbrev main_while0b_v181 : Ref sig .tc := ⟨.hbm, 215, rfl⟩
abbrev main_while0b_cst_26 : Ref sig .tc := ⟨.hbm, 216, rfl⟩
abbrev main_while0b_v182 : Ref sig .tc := ⟨.hbm, 217, rfl⟩
abbrev main_while0b_v183 : Ref sig .tc := ⟨.hbm, 218, rfl⟩
abbrev main_while0b_v184 : Ref sig .tc := ⟨.hbm, 219, rfl⟩
abbrev main_while0b_cst_27 : Ref sig .tc := ⟨.hbm, 220, rfl⟩
abbrev main_while0b_v185 : Ref sig .tc := ⟨.hbm, 221, rfl⟩
abbrev main_while0b_v186 : Ref sig .tc := ⟨.hbm, 222, rfl⟩
abbrev main_while0b_v187 : Ref sig .tc := ⟨.hbm, 223, rfl⟩
abbrev main_while0b_v188 : Ref sig .tc := ⟨.hbm, 224, rfl⟩
abbrev main_while0b_v189 : Ref sig .tc := ⟨.hbm, 225, rfl⟩
abbrev main_while0b_v190 : Ref sig .tc := ⟨.hbm, 226, rfl⟩
abbrev main_while0b_v191 : Ref sig .tc := ⟨.hbm, 227, rfl⟩
abbrev main_while0b_v192 : Ref sig .tc := ⟨.hbm, 228, rfl⟩
abbrev main_while0b_v193 : Ref sig .tc := ⟨.hbm, 229, rfl⟩
abbrev main_while0b_v194 : Ref sig .tc := ⟨.hbm, 230, rfl⟩
abbrev main_while0b_v195 : Ref sig .tc := ⟨.hbm, 231, rfl⟩
abbrev main_while0b_v196 : Ref sig .tc := ⟨.hbm, 232, rfl⟩
abbrev main_while0b_v197 : Ref sig .tc := ⟨.hbm, 233, rfl⟩
abbrev main_while0b_v198 : Ref sig .tc := ⟨.hbm, 234, rfl⟩
abbrev main_while0b_v199 : Ref sig .tc := ⟨.hbm, 235, rfl⟩
abbrev main_while0b_v200 : Ref sig .tc := ⟨.hbm, 236, rfl⟩
abbrev main_while0b_v201 : Ref sig .tc := ⟨.hbm, 237, rfl⟩
abbrev main_while0b_cst_28 : Ref sig .tc := ⟨.hbm, 238, rfl⟩
abbrev main_while0b_v202 : Ref sig .tc := ⟨.hbm, 239, rfl⟩
abbrev main_while0b_v203 : Ref sig .tc := ⟨.hbm, 240, rfl⟩
abbrev main_while0b_v204 : Ref sig .tc := ⟨.hbm, 241, rfl⟩
abbrev main_while0b_cst_29 : Ref sig .tc := ⟨.hbm, 242, rfl⟩
abbrev main_while0b_v205 : Ref sig .tc := ⟨.hbm, 243, rfl⟩
abbrev main_while0b_cst_30 : Ref sig .tc := ⟨.hbm, 244, rfl⟩
abbrev main_while0b_v206 : Ref sig .tc := ⟨.hbm, 245, rfl⟩
abbrev main_while0b_v207 : Ref sig .tc := ⟨.hbm, 246, rfl⟩
abbrev main_while0b_v208 : Ref sig .tc := ⟨.hbm, 247, rfl⟩
abbrev main_while0b_v209 : Ref sig .tc := ⟨.hbm, 248, rfl⟩
abbrev main_while0b_v210 : Ref sig .tc := ⟨.hbm, 249, rfl⟩
abbrev main_while0b_v211 : Ref sig .tc := ⟨.hbm, 250, rfl⟩
abbrev main_while0b_v212 : Ref sig .tc := ⟨.hbm, 251, rfl⟩
abbrev main_while0b_v213 : Ref sig .tc := ⟨.hbm, 252, rfl⟩
abbrev main_while0b_v214 : Ref sig .tc := ⟨.hbm, 253, rfl⟩
abbrev main_while0b_v215 : Ref sig .tc := ⟨.hbm, 254, rfl⟩
abbrev main_while0b_v216 : Ref sig .tc := ⟨.hbm, 255, rfl⟩
abbrev main_while0b_call6_v0 : Ref sig .tc := ⟨.hbm, 256, rfl⟩
abbrev main_while0b_v217 : Ref sig .tc := ⟨.hbm, 257, rfl⟩
abbrev main_while0b_v218 : Ref sig .tc := ⟨.hbm, 258, rfl⟩
abbrev main_while0b_call7_v0 : Ref sig .tc := ⟨.hbm, 259, rfl⟩
abbrev main_while0b_call7_c : Ref sig .tc := ⟨.hbm, 260, rfl⟩
abbrev main_while0b_call7_c_0 : Ref sig .tc := ⟨.hbm, 261, rfl⟩
abbrev main_while0b_v219 : Ref sig .tc := ⟨.hbm, 262, rfl⟩
abbrev main_while0b_call8_v0 : Ref sig .tc := ⟨.hbm, 263, rfl⟩
abbrev main_while0b_call8_c : Ref sig .tc := ⟨.hbm, 264, rfl⟩
abbrev main_while0b_v220 : Ref sig .tc := ⟨.hbm, 265, rfl⟩
abbrev main_while0b_call9_v0 : Ref sig .tc := ⟨.hbm, 266, rfl⟩
abbrev main_while0b_call9_c : Ref sig .tc := ⟨.hbm, 267, rfl⟩
abbrev main_while0b_v221 : Ref sig .tc := ⟨.hbm, 268, rfl⟩
abbrev main_while0b_c_31 : Ref sig .tc := ⟨.hbm, 269, rfl⟩
abbrev main_while0b_v222 : Ref sig .tc := ⟨.hbm, 270, rfl⟩
abbrev main_v117 : Ref sig .tc := ⟨.hbm, 271, rfl⟩
abbrev main_v118 : Ref sig .tc := ⟨.hbm, 272, rfl⟩
abbrev main_v119 : Ref sig .tc := ⟨.hbm, 273, rfl⟩
abbrev main_v120 : Ref sig .tc := ⟨.hbm, 274, rfl⟩
abbrev main_v121 : Ref sig .tc := ⟨.hbm, 275, rfl⟩
abbrev main_v122 : Ref sig .tc := ⟨.hbm, 276, rfl⟩
abbrev main_v123 : Ref sig .tc := ⟨.hbm, 277, rfl⟩
abbrev main_v124 : Ref sig .tc := ⟨.hbm, 278, rfl⟩
abbrev main_v125 : Ref sig .tc := ⟨.hbm, 279, rfl⟩
abbrev main_v126 : Ref sig .tc := ⟨.hbm, 280, rfl⟩
abbrev main_v127 : Ref sig .tc := ⟨.hbm, 281, rfl⟩
abbrev main_v128 : Ref sig .tc := ⟨.hbm, 282, rfl⟩
abbrev main_v129 : Ref sig .tc := ⟨.hbm, 283, rfl⟩
abbrev main_v130 : Ref sig .tc := ⟨.hbm, 284, rfl⟩
abbrev main_v131 : Ref sig .tc := ⟨.hbm, 285, rfl⟩
abbrev main_v132 : Ref sig .tc := ⟨.hbm, 286, rfl⟩
abbrev main_v133 : Ref sig .tc := ⟨.hbm, 287, rfl⟩
abbrev main_v134 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev main_v139 : Ref sig .tc := ⟨.hbm, 293, rfl⟩
abbrev main_v140 : Ref sig .tc := ⟨.hbm, 294, rfl⟩
abbrev main_v141 : Ref sig .tc := ⟨.hbm, 295, rfl⟩
abbrev main_v142 : Ref sig .tc := ⟨.hbm, 296, rfl⟩
abbrev main_v143 : Ref sig .tc := ⟨.hbm, 297, rfl⟩

abbrev nD : Nat := 1
abbrev τ : Topo := Topo.v7x

variable {F : FTy → Type} [FloatOps F]

abbrev main_while0_count : Scf.Loop 32 := ⟨0#32, 100#32, 1#32⟩
-- ==== Proof.RunIdeal.lean ====
/-
  What one grid point of the suppression kernel leaves, and the run of its body.

  At a grid point the kernel reads ten blocks (8 x 640) and one scale, runs a loop of one hundred rounds which touches no
  memory, and stores one block (8 x 128). The loop is a fold of a pure function, `round`.
-/
module

public import proofs.«01_k».proof.Proof.Gen.KernelIdeal.Frame
public import proofs.«01_k».proof.Proof.Gen.KernelIdeal.Loops
public import Idealize.ShloMosaic.Lib.Pipeline.Value
public import Idealize.ShloMosaic.Lib.Quiescent

@[expose] public section

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- What the loop carries: the scores still alive and the six result rows. -/
abbrev Carry (F : FTy → Type) : Type :=
  FVec F S8x640 .f32 × FVec F S1x128 .f32 × FVec F S1x128 .f32 × FVec F S1x128 .f32 × FVec F S1x128 .f32 × FVec F S1x128 .f32 × FVec F S1x128 .f32

/-- One round: the best live candidate is picked, written at lane `k` of the result rows, and it and every candidate that
    overlaps it too much are struck out. -/
def round (v1 : F .f32) (v21 v28 v53 v60 v67 : FVec F S8x640 .f32) (cst_43 : F .f32) (v72 : FVec F S8x640 .f32)
    (k : Fin k0_t1_loop.trips) (acc : Carry F) : Carry F :=
  (k0_pay19 (k0_pay4 v21 v60) (k0_pay5 v21 v67) (k0_pay6 v21 cst_43 v72) (k0_pay7 v21 v53 v60 v67 cst_43 v72) acc.1 (k0_pay12 v28 acc.1) (k0_pay13 v28 (k0_pay3 v21 v53) acc.1) (k0_pay14 v28 (k0_pay4 v21 v60) acc.1) (k0_pay15 v28 (k0_pay5 v21 v67) acc.1) (k0_pay16 v28 (k0_pay6 v21 cst_43 v72) acc.1) (k0_pay18 v28 (k0_pay3 v21 v53) acc.1),
   k0_pay21 v1 (k0_pay8 (F := F)) acc.2.1 (Scf.iv 0#32 1#32 k) (k0_pay14 v28 (k0_pay4 v21 v60) acc.1) (k0_pay17 v28 (k0_pay2 v21) acc.1),
   k0_pay22 v1 (k0_pay8 (F := F)) acc.2.2.1 (Scf.iv 0#32 1#32 k) (k0_pay13 v28 (k0_pay3 v21 v53) acc.1) (k0_pay17 v28 (k0_pay2 v21) acc.1),
   k0_pay23 v1 (k0_pay8 (F := F)) acc.2.2.2.1 (Scf.iv 0#32 1#32 k) (k0_pay14 v28 (k0_pay4 v21 v60) acc.1) (k0_pay16 v28 (k0_pay6 v21 cst_43 v72) acc.1),
   k0_pay24 v1 (k0_pay8 (F := F)) acc.2.2.2.2.1 (Scf.iv 0#32 1#32 k) (k0_pay13 v28 (k0_pay3 v21 v53) acc.1) (k0_pay15 v28 (k0_pay5 v21 v67) acc.1),
   k0_pay25 (k0_pay8 (F := F)) acc.2.2.2.2.2.1 (Scf.iv 0#32 1#32 k) (k0_pay11 acc.1),
   k0_pay26 (k0_pay8 (F := F)) acc.2.2.2.2.2.2 (Scf.iv 0#32 1#32 k) (k0_pay17 v28 (k0_pay2 v21) acc.1))

/-- The loop's region returns `round`, touching nothing. -/
theorem region_pure (i : grid0.Coords) (M0 : Memref sig .tc .vmem S1x8x640 .f32) (h0 : M0.IsWhole)
    (M1 : Memref sig .tc .vmem S1x8x640 .f32) (h1 : M1.IsWhole)
    (M2 : Memref sig .tc .vmem S1x8x640 .f32) (h2 : M2.IsWhole)
    (M3 : Memref sig .tc .vmem S1x8x640 .f32) (h3 : M3.IsWhole)
    (M4 : Memref sig .tc .vmem S1x8x640 .f32) (h4 : M4.IsWhole)
    (M5 : Memref sig .tc .vmem S1x8x640 .f32) (h5 : M5.IsWhole)
    (M6 : Memref sig .tc .vmem S1x8x640 .f32) (h6 : M6.IsWhole)
    (M7 : Memref sig .tc .vmem S1x8x640 .f32) (h7 : M7.IsWhole)
    (M8 : Memref sig .tc .vmem S1x8x640 .f32) (h8 : M8.IsWhole)
    (M9 : Memref sig .tc .vmem S1x8x640 .f32) (h9 : M9.IsWhole)
    (M10 : Memref sig .tc .smem S8 .f32) (h10 : M10.IsWhole)
    (M11 : Memref sig .tc .vmem S1x8x128 .f32) (h11 : M11.IsWhole)
    (v1 : F .f32) (v21 v28 v53 v60 v67 : FVec F S8x640 .f32) (cst_43 : F .f32) (v72 : FVec F S8x640 .f32) (k : Fin k0_t1_loop.trips) (acc : Carry F) :
    k0_t1_body i M0 h0 M1 h1 M2 h2 M3 h3 M4 h4 M5 h5 M6 h6 M7 h7 M8 h8 M9 h9 M10 h10 M11 h11 v1 v21 v28 v53 v60 v67 cst_43 v72 k acc = .ret (round v1 v21 v28 v53 v60 v67 cst_43 v72 k acc) := rfl

theorem loop_pure (i : grid0.Coords) (M0 : Memref sig .tc .vmem S1x8x640 .f32) (h0 : M0.IsWhole)
    (M1 : Memref sig .tc .vmem S1x8x640 .f32) (h1 : M1.IsWhole)
    (M2 : Memref sig .tc .vmem S1x8x640 .f32) (h2 : M2.IsWhole)
    (M3 : Memref sig .tc .vmem S1x8x640 .f32) (h3 : M3.IsWhole)
    (M4 : Memref sig .tc .vmem S1x8x640 .f32) (h4 : M4.IsWhole)
    (M5 : Memref sig .tc .vmem S1x8x640 .f32) (h5 : M5.IsWhole)
    (M6 : Memref sig .tc .vmem S1x8x640 .f32) (h6 : M6.IsWhole)
    (M7 : Memref sig .tc .vmem S1x8x640 .f32) (h7 : M7.IsWhole)
    (M8 : Memref sig .tc .vmem S1x8x640 .f32) (h8 : M8.IsWhole)
    (M9 : Memref sig .tc .vmem S1x8x640 .f32) (h9 : M9.IsWhole)
    (M10 : Memref sig .tc .smem S8 .f32) (h10 : M10.IsWhole)
    (M11 : Memref sig .tc .vmem S1x8x128 .f32) (h11 : M11.IsWhole)
    (v1 : F .f32) (v21 v28 v53 v60 v67 : FVec F S8x640 .f32) (cst_43 : F .f32) (v72 : FVec F S8x640 .f32) (init : Carry F) :
    Scf.Loop.for k0_t1_loop k0_t1_ok init (k0_t1_body i M0 h0 M1 h1 M2 h2 M3 h3 M4 h4 M5 h5 M6 h6 M7 h7 M8 h8 M9 h9 M10 h10 M11 h11 v1 v21 v28 v53 v60 v67 cst_43 v72)
      = .ret (Scf.fold (round v1 v21 v28 v53 v60 v67 cst_43 v72) init) :=
  Scf.for_pure _ _ _ _ _ _ _ fun k acc => region_pure i M0 h0 M1 h1 M2 h2 M3 h3 M4 h4 M5 h5 M6 h6 M7 h7 M8 h8 M9 h9 M10 h10 M11 h11 v1 v21 v28 v53 v60 v67 cst_43 v72 k acc

theorem hz3 : (![0, 0, 0] : Fin 3 → Nat) = fun _ => 0 := funext fun a => by fin_cases a <;> rfl

/-- The rows a grid point ends with, from its ten blocks as 8 x 640 arrays and its image's scale: the fold of `round` over the
    hundred trips. -/
def rows (v3 v5 v7 v9 v11 v13 v15 v17 v19 v21 : FVec F S8x640 .f32) (s : F .f32) : Carry F :=
  Scf.fold (round s v21 (k0_pay39 (k0_pay37 (F := F)) (k0_pay38 (F := F))) (k0_pay47 v3 v7 v11 v15) (k0_pay48 v5 v9 v13 v17) (k0_pay49 v3 v7 v11 v15)
      (Scalar.ofBits .f32 0x44000000#32) (k0_pay50 v5 v9 v13 v17))
    (k0_pay1 v19 (k0_pay40 (k0_pay37 (F := F)) (k0_pay38 (F := F))), k0_pay9 (F := F), k0_pay9 (F := F), k0_pay9 (F := F), k0_pay9 (F := F), k0_pay9 (F := F), k0_pay9 (F := F))

/-- The block a grid point stores, from the blocks it reads. -/
def outBlk (X0 X1 X2 X3 X4 X5 X6 X7 X8 X9 : S1x8x640.Idx → Elt F .f32) (s : F .f32) : S1x8x128.Idx → Elt F .f32 :=
  let r := rows (k0_pay27 X0) (k0_pay28 X1) (k0_pay29 X2) (k0_pay30 X3) (k0_pay31 X4) (k0_pay32 X5) (k0_pay33 X6) (k0_pay34 X7) (k0_pay35 X8) (k0_pay36 X9) s
  k0_pay10 r.2.1 r.2.2.1 r.2.2.2.1 r.2.2.2.2.1 r.2.2.2.2.2.1 r.2.2.2.2.2.2

/-- The scale a grid point reads: the entry of its own image. -/
def scaleAt (i : grid0.Coords) (X10 : S8.Idx → Elt F .f32) : F .f32 :=
  X10 ((Rect.unit (s := S8) (k0_off1 i) S1.size (k0_off1_inb i)).idx (Shape.Idx.first (s := S1) (by decide)))

/-- A load through the whole of a block reads what the block holds. -/
theorem ld_whole (M : Memref sig .tc .vmem S1x8x640 .f32) (f : M.view.ty.Contents (Elt F)) (X : S1x8x640.Idx → Elt F .f32) (e : M.view.read (Elt F) f = X) :
    M.view.readAt (Elt F) (Rect.unit (s := S1x8x640) ![0, 0, 0] S1x8x640.size inb_S1x8x640_S1x8x640_0_0_0).toLoadRect f = X := by
  subst e
  exact View.ld_unit_zero hz3 _ (M.view.read (Elt F) f)

/-- A store of the whole result block leaves its payload. -/
theorem st_whole (M : Memref sig .tc .vmem S1x8x128 .f32) (f : M.view.ty.Contents (Elt F)) (w : S1x8x128.Idx → Elt F .f32) :
    M.view.read (Elt F) (M.view.writes (Elt F) f [⟨Rect.unit (s := S1x8x128) ![0, 0, 0] S1x8x128.size inb_S1x8x128_S1x8x128_0_0_0, w⟩]) = w := by
  have hc : ∀ y : S1x8x128.Idx, y ∈ (Rect.unit (s := S1x8x128) ![0, 0, 0] S1x8x128.size inb_S1x8x128_S1x8x128_0_0_0).set :=
    View.mem_set_unit_zero (S := S1x8x128) (off := ![0, 0, 0]) hz3 inb_S1x8x128_S1x8x128_0_0_0
  exact (View.read_writes_eq_canon M.view f [⟨Rect.unit (s := S1x8x128) ![0, 0, 0] S1x8x128.size inb_S1x8x128_S1x8x128_0_0_0, w⟩]
    fun y => ⟨_, List.mem_singleton_self _, hc y⟩).trans (View.canon_unit_zero (S := S1x8x128) (off := ![0, 0, 0]) hz3 inb_S1x8x128_S1x8x128_0_0_0 w)

set_option maxHeartbeats 1000000 in
/-- The body at a grid point: from its twelve buffers held whole it runs to its end, the eleven it reads as they were, the
    result's at `outBlk`. -/
theorem kernel_run (c : Dev nD) (i : grid0.Coords) (M0 : Memref sig .tc .vmem S1x8x640 .f32) (h0 : M0.IsWhole)
    (M1 : Memref sig .tc .vmem S1x8x640 .f32) (h1 : M1.IsWhole)
    (M2 : Memref sig .tc .vmem S1x8x640 .f32) (h2 : M2.IsWhole)
    (M3 : Memref sig .tc .vmem S1x8x640 .f32) (h3 : M3.IsWhole)
    (M4 : Memref sig .tc .vmem S1x8x640 .f32) (h4 : M4.IsWhole)
    (M5 : Memref sig .tc .vmem S1x8x640 .f32) (h5 : M5.IsWhole)
    (M6 : Memref sig .tc .vmem S1x8x640 .f32) (h6 : M6.IsWhole)
    (M7 : Memref sig .tc .vmem S1x8x640 .f32) (h7 : M7.IsWhole)
    (M8 : Memref sig .tc .vmem S1x8x640 .f32) (h8 : M8.IsWhole)
    (M9 : Memref sig .tc .vmem S1x8x640 .f32) (h9 : M9.IsWhole)
    (M10 : Memref sig .tc .smem S8 .f32) (h10 : M10.IsWhole)
    (M11 : Memref sig .tc .vmem S1x8x128 .f32) (h11 : M11.IsWhole)
    (X0 X1 X2 X3 X4 X5 X6 X7 X8 X9 : S1x8x640.Idx → Elt F .f32) (X10 : S8.Idx → Elt F .f32) (X11 : S1x8x128.Idx → Elt F .f32)
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
            ∗ owns (c : Thread nD τ) M11 fullShare (outBlk X0 X1 X2 X3 X4 X5 X6 X7 X8 X9 (scaleAt i X10))) -∗ K ⟨⟩))
      ⊢ wp frame (wpE (defs₀ (F := F)) Variants.none c none) Set.univ (cc0__nms_body i M0 h0 M1 h1 M2 h2 M3 h3 M4 h4 M5 h5 M6 h6 M7 h7 M8 h8 M9 h9 M10 h10 M11 h11) K := by
  simp only [cc0__nms_body_eq_skeleton]; unfold cc0__nms_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  sl_exec_parts!
  simp only [loop_pure, Prog.bind_ret]
  generalize hr : Scf.fold _ _ = r
  obtain ⟨w0, w1, w2, w3, w4, w5, w6⟩ := r
  dsimp only
  sl_exec
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]; · iexists _; isplitr; swap; (· iexact H9); ipureintro; exact e9
  isplitl [H10]; · iexists _; isplitr; swap; (· iexact H10); ipureintro; exact e10
  iexists _; isplitr; swap; (· iexact H11); ipureintro
  refine (st_whole M11 f11 _).trans ?_
  have hr' : rows (k0_pay27 X0) (k0_pay28 X1) (k0_pay29 X2) (k0_pay30 X3) (k0_pay31 X4) (k0_pay32 X5) (k0_pay33 X6) (k0_pay34 X7) (k0_pay35 X8) (k0_pay36 X9) (scaleAt i X10)
      = (w0, w1, w2, w3, w4, w5, w6) := by
    refine Eq.trans ?_ hr
    unfold rows
    refine congrArg₂ Scf.fold (congr (congr (congr (congr (congr (congr (congr (congrArg round ?_) ?_) ?_) ?_) ?_) ?_) rfl) ?_) (congrArg₂ Prod.mk (congrArg₂ k0_pay1 ?_ ?_) rfl)
    · rw [← e10]; rfl
    · exact congrArg k0_pay36 (ld_whole M9 f9 X9 e9).symm
    · rfl
    · rw [← ld_whole M0 f0 X0 e0, ← ld_whole M2 f2 X2 e2, ← ld_whole M4 f4 X4 e4, ← ld_whole M6 f6 X6 e6]; rfl
    · rw [← ld_whole M1 f1 X1 e1, ← ld_whole M3 f3 X3 e3, ← ld_whole M5 f5 X5 e5, ← ld_whole M7 f7 X7 e7]; rfl
    · rw [← ld_whole M0 f0 X0 e0, ← ld_whole M2 f2 X2 e2, ← ld_whole M4 f4 X4 e4, ← ld_whole M6 f6 X6 e6]; rfl
    · rw [← ld_whole M1 f1 X1 e1, ← ld_whole M3 f3 X3 e3, ← ld_whole M5 f5 X5 e5, ← ld_whole M7 f7 X7 e7]; rfl
    · exact congrArg k0_pay35 (ld_whole M8 f8 X8 e8).symm
    · rfl
  unfold outBlk; rw [hr']

/-! ## The pipeline's proof data and the run -/

variable (m : (ℓ : Loc nD τ sig) → Buf (Elt F) ℓ) (ρ : Dev nD → PrngReg)

/-- What the body leaves in the result's buffer at point `t`. -/
def outAt (c : Dev nD) (t : Fin cfg0.N) : S1x8x128.Idx → Elt F .f32 :=
  outBlk (iblk m c 0 t) (iblk m c 1 t) (iblk m c 2 t) (iblk m c 3 t) (iblk m c 4 t) (iblk m c 5 t) (iblk m c 6 t) (iblk m c 7 t)
    (iblk m c 8 t) (iblk m c 9 t) (scaleAt (grid0.coords t) (iblk m c 10 t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = outAt m c t := rfl

set_option maxHeartbeats 2000000 in
theorem body_obligation (c : Dev nD) : BodyObligationLoose (dats m 0 c) (defs₀ (F := F)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0_of m (dats m 0 c) rfl (fun _ => rfl) t d0, before0_1_of m (dats m 0 c) rfl (fun _ => rfl) t d1, before0_2_of m (dats m 0 c) rfl (fun _ => rfl) t d2, before0_3_of m (dats m 0 c) rfl (fun _ => rfl) t d3, before0_4_of m (dats m 0 c) rfl (fun _ => rfl) t d4, before0_5_of m (dats m 0 c) rfl (fun _ => rfl) t d5, before0_6_of m (dats m 0 c) rfl (fun _ => rfl) t d6, before0_7_of m (dats m 0 c) rfl (fun _ => rfl) t d7, before0_8_of m (dats m 0 c) rfl (fun _ => rfl) t d8, before0_9_of m (dats m 0 c) rfl (fun _ => rfl) t d9, before0_10_of m (dats m 0 c) rfl (fun _ => rfl) t d10]
  rw [after_0, after_1, after_2, after_3, after_4, after_5, after_6, after_7, after_8, after_9, after_10, after_11]
  unfold outAt
  iapply (kernel_run c (grid0.coords t) _ (hstage0_0 (cfg0.slots t 0)) _ (hstage0_1 (cfg0.slots t 1)) _ (hstage0_2 (cfg0.slots t 2)) _ (hstage0_3 (cfg0.slots t 3)) _ (hstage0_4 (cfg0.slots t 4)) _ (hstage0_5 (cfg0.slots t 5)) _ (hstage0_6 (cfg0.slots t 6)) _ (hstage0_7 (cfg0.slots t 7)) _ (hstage0_8 (cfg0.slots t 8)) _ (hstage0_9 (cfg0.slots t 9)) _ (hstage0_10 (cfg0.slots t 10)) _ (hstage0_11 (cfg0.slots t 11)) _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- Every run ends with the arrays at what the pipeline leaves and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl) _ (fun _ h => h)

end Cert.KernelIdeal.Nms

end
-- ==== Proof.FrameIdeal.lean ====
/-
  The kernel's run keeps its arguments and leaves every counter at zero.
-/
module

public import proofs.«01_k».proof.Proof.RunIdeal

@[expose] public section

noncomputable section

namespace Cert.KernelIdeal.Nms

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- A memory as the run leaves it holds the arguments as they were at the start. -/
theorem args_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).1 10).trans (((dats m 0 c).arrAt_in 10 rfl _).trans (V_main_arg10 m c)),
    ((h c).2 main_arg11 (Pipeline.mem_restRefs_of main_arg11 (by decide) (by decide))).trans (W_main_arg11 m (dats m) c)⟩

end Cert.KernelIdeal.Nms

end
-- ==== Proof.Five.lean ====
/-
  What an operation over five listed operands leaves: its function of each operand's contents at that operand's own reference.
-/
module

public import Idealize.ShloMosaic.Lib.StableHlo.RunRead

@[expose] public section

namespace Idealize.ShloMosaic.StableHlo.Five

open Idealize.ShloMosaic Idealize.ShloMosaic.StableHlo

variable {τ : Topo} {sig : RefSig} {Val : EltTy → Type} {y a0 a1 a2 a3 a4 : Ref sig .tc}

theorem nary_five (f : ((k : Fin 5) → ((![a0, a1, a2, a3, a4] : Fin 5 → Ref sig .tc) k).ty.Contents Val) → y.ty.Contents Val) (hxs hy)
    (V : Valuation τ sig Val) :
    (nary (τ := τ) ![a0, a1, a2, a3, a4] y f hxs hy).result V (no_index (Proc.devRef .tc y))
      = f (Fin.cons (V (Proc.devRef .tc a0)) (Fin.cons (V (Proc.devRef .tc a1)) (Fin.cons (V (Proc.devRef .tc a2)) (Fin.cons (V (Proc.devRef .tc a3))
    (Fin.cons (V (Proc.devRef .tc a4)) (fun i => i.elim0)))))) := by
  refine (nary_result _ y f hxs hy V).trans (congrArg f (funext fun k => ?_))
  fin_cases k <;> rfl

end Idealize.ShloMosaic.StableHlo.Five
-- ==== Proof.RefRun.lean ====
/- The reference's run (Gen/ReferenceIdeal/Run.lean) stated over the
   step of Gen/ReferenceIdeal/Step.lean: at a valuation that HOLDS a state (the state at the carried buffers the body writes, the set-up
   values at the loop's constants, the trip's number at its counters) every value of one trip is that module's, one lemma
   each, so one application of the run's `STEP` keeps holding with `step` applied; what @main leaves before the loop holds
   `init`; and the run's results are the fields of `step` iterated from `init`. -/
module

public import proofs.«01_k».proof.Proof.Gen.ReferenceIdeal.Run
public import proofs.«01_k».proof.Proof.Gen.ReferenceIdeal.Step
public import proofs.«01_k».proof.Proof.Five

@[expose] public section

noncomputable section

namespace Cert.ReferenceIdeal.Rounds

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v116_4) = s.main_v116_4
  f_5 : V0 (Proc.devRef .tc main_v116_5) = s.main_v116_5
  f_6 : V0 (Proc.devRef .tc main_v116_6) = s.main_v116_6
  f_7 : V0 (Proc.devRef .tc main_v116_7) = s.main_v116_7
  f_0 : V0 (Proc.devRef .tc main_v116_0) = s.main_v116_0
  f_1 : V0 (Proc.devRef .tc main_v116_1) = s.main_v116_1
  f_2 : V0 (Proc.devRef .tc main_v116_2) = s.main_v116_2
  n_3 : V0 (Proc.devRef .tc main_v116_3) = constantI S_ 32 (BitVec.ofNat 32 j)

variable {V0 s j}

set_option maxRecDepth 8192 in
theorem al_0 (h : Holds V0 s j) : (extractStridedSlice S8x5000x1 ![0, 0, 2] (V0 (Proc.devRef .tc main_v116_0)) slices_S8x5000x4_S8x5000x1_0_0_2 : (Proc.devRef .tc main_while0b_v144 : DevRef τ sig).ty.Contents (Elt F)) = Cert.ReferenceIdeal.Step.b0 j s := by
  unfold Cert.ReferenceIdeal.Step.b0
  rw [h.f_0]
  try rfl
set_option maxRecDepth 8192 in
theorem al_1 (h : Holds V0 s j) : (shapeCast S8x5000 (extractStridedSlice S8x5000x1 ![0, 0, 2] (V0 (Proc.devRef .tc main_v116_0)) slices_S8x5000x4_S8x5000x1_0_0_2) shapeCasts_S8x5000x1_S8x5000 : (Proc.devRef .tc main_while0b_v145 : DevRef τ sig).ty.Contents (Elt F)) = Cert.ReferenceIdeal.Step.b1 j s := by
  unfold Cert.ReferenceIdeal.Step.b1
  rw [← al_0 h]
  try rfl
set_option maxRecDepth 8192 in
theorem al_2 (h : Holds V0 s j) : (extractStridedSlice S8x5000x1 ![0, 0, 0] (V0 (Proc.devRef .tc main_v116_0)) slices_S8x5000x4_S8x5000x1_0_0_0 : (Proc.devRef .tc main_while0b_v146 : DevRef τ sig).ty.Contents (Elt F)) = Cert.ReferenceIdeal.Step.b2 j s := by
  unfold Cert.ReferenceIdeal.Step.b2
  rw [h.f_0]
  try rfl
set_option maxRecDepth 8192 in
theorem al_3 (h : Holds V0 s j) : (shapeCast S8x5000 (extractStridedSlice S8x5000x1 ![0, 0, 0] (V0 (Proc.devRef .tc main_v116_0)) slices_S8x5000x4_S8x5000x1_0_0_0) shapeCasts_S8x5000x1_S8x5000 : (Proc.devRef .tc main_while0b_v147 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000) : (Proc.devRef .tc main_while0b_v148 : DevRef τ sig).ty.Contents (Elt F)) = Cert.ReferenceIdeal.Step.b4 j s := by
  unfold Cert.ReferenceIdeal.Step.b4
  rw [← al_1 h, ← al_3 h]
  try rfl
set_option maxRecDepth 8192 in
theorem al_5 (h : Holds V0 s j) : (extractStridedSlice S8x5000x1 ![0, 0, 3] (V0 (Proc.devRef .tc main_v116_0)) slices_S8x5000x4_S8x5000x1_0_0_3 : (Proc.devRef .tc main_while0b_v149 : DevRef τ sig).ty.Contents (Elt F)) = Cert.ReferenceIdeal.Step.b5 j s := by
  unfold Cert.ReferenceIdeal.Step.b5
  rw [h.f_0]
  try rfl
set_option maxRecDepth 8192 in
theorem al_6 (h : Holds V0 s j) : (shapeCast S8x5000 (extractStridedSlice S8x5000x1 ![0, 0, 3] (V0 (Proc.devRef .tc main_v116_0)) slices_S8x5000x4_S8x5000x1_0_0_3) shapeCasts_S8x5000x1_S8x5000 : (Proc.devRef .tc main_while0b_v150 : DevRef τ sig).ty.Contents (Elt F)) = Cert.ReferenceIdeal.Step.b6 j s := by
  unfold Cert.ReferenceIdeal.Step.b6
  rw [← al_5 h]
  try rfl
set_option maxRecDepth 8192 in
theorem al_7 (h : Holds V0 s j) : (extractStridedSlice S8x5000x1 ![0, 0, 1] (V0 (Proc.devRef .tc main_v116_0)) slices_S8x5000x4_S8x5000x1_0_0_1 : (Proc.devRef .tc main_while0b_v151 : DevRef τ sig).ty.Contents (Elt F)) = Cert.ReferenceIdeal.Step.b7 j s := by
  unfold Cert.ReferenceIdeal.Step.b7
  rw [h.f_0]
  try rfl
set_option maxRecDepth 8192 in
theorem al_8 (h : Holds V0 s j) : (shapeCast S8x5000 (extractStridedSlice S8x5000x1 ![0, 0, 1] (V0 (Proc.devRef .tc main_v116_0)) slices_S8x5000x4_S8x5000x1_0_0_1) shapeCasts_S8x5000x1_S8x5000 : (Proc.devRef .tc main_while0b_v152 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000) : (Proc.devRef .tc main_while0b_v153 : DevRef τ sig).ty.Contents (Elt F)) = Cert.ReferenceIdeal.Step.b9 j s := by
  unfold Cert.ReferenceIdeal.Step.b9
  rw [← al_6 h, ← al_8 h]
  try rfl
set_option maxRecDepth 8192 in
theorem al_10 (h : Holds V0 s j) : (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)) : (Proc.devRef .tc main_while0b_v154 : DevRef τ sig).ty.Contents (Elt F)) = Cert.ReferenceIdeal.Step.b10 j s := by
  unfold Cert.ReferenceIdeal.Step.b10
  rw [← al_4 h, ← al_9 h]
  try rfl
set_option maxRecDepth 8192 in
theorem al_11 (h : Holds V0 s j) : ((Host.topK S8x1 1 (FloatOps.cmpfTotal .gt) (V0 (Proc.devRef .tc main_v116_4)) sliceFits_S8x5000_S8x1).1 : (Proc.devRef .tc main_while0b_values_24 : DevRef τ sig).ty.Contents (Elt F)) = Cert.ReferenceIdeal.Step.b11 j s := by
  unfold Cert.ReferenceIdeal.Step.b11
  rw [h.f_4]
  try rfl
set_option maxRecDepth 8192 in
theorem al_12 (h : Holds V0 s j) : (res_main_while0b_indices_25 V0 : (Proc.devRef .tc main_while0b_indices_25 : DevRef τ sig).ty.Contents (Elt F)) = Cert.ReferenceIdeal.Step.b12 j s := by
  unfold res_main_while0b_indices_25 Cert.ReferenceIdeal.Step.b12
  rw [h.f_4]
  try rfl
set_option maxRecDepth 8192 in
theorem al_13 (h : Holds V0 s j) : (broadcastInDim S8x1x1 ![0, 1] bcast_S8x1_S8x1x1_0_1 (res_main_while0b_indices_25 V0) : (Proc.devRef .tc main_while0b_v155 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (res_main_while0b_v156 V0 : (Proc.devRef .tc main_while0b_v156 : DevRef τ sig).ty.Contents (Elt F)) = Cert.ReferenceIdeal.Step.b14 j s := by
  unfold res_main_while0b_v156 Cert.ReferenceIdeal.Step.b14
  rw [← al_13 h, h.f_0]
  try rfl
set_option maxRecDepth 8192 in
theorem al_15 (h : Holds V0 s j) : (extractStridedSlice S8x1x1 ![0, 0, 0] (res_main_while0b_v156 V0) slices_S8x1x4_S8x1x1_0_0_0 : (Proc.devRef .tc main_while0b_v157 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (shapeCast S8x1 (extractStridedSlice S8x1x1 ![0, 0, 0] (res_main_while0b_v156 V0) slices_S8x1x4_S8x1x1_0_0_0) shapeCasts_S8x1x1_S8x1 : (Proc.devRef .tc main_while0b_v158 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (extractStridedSlice S8x5000x1 ![0, 0, 0] (V0 (Proc.devRef .tc main_v116_0)) slices_S8x5000x4_S8x5000x1_0_0_0 : (Proc.devRef .tc main_while0b_v159 : DevRef τ sig).ty.Contents (Elt F)) = Cert.ReferenceIdeal.Step.b17 j s := by
  unfold Cert.ReferenceIdeal.Step.b17
  rw [h.f_0]
  try rfl
set_option maxRecDepth 8192 in
theorem al_18 (h : Holds V0 s j) : (shapeCast S8x5000 (extractStridedSlice S8x5000x1 ![0, 0, 0] (V0 (Proc.devRef .tc main_v116_0)) slices_S8x5000x4_S8x5000x1_0_0_0) shapeCasts_S8x5000x1_S8x5000 : (Proc.devRef .tc main_while0b_v160 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (broadcastInDim S8x5000 ![0, 1] bcast_S8x1_S8x5000_0_1 (shapeCast S8x1 (extractStridedSlice S8x1x1 ![0, 0, 0] (res_main_while0b_v156 V0) slices_S8x1x4_S8x1x1_0_0_0) shapeCasts_S8x1x1_S8x1) : (Proc.devRef .tc main_while0b_v161 : DevRef τ sig).ty.Contents (Elt F)) = Cert.ReferenceIdeal.Step.b19 j s := by
  unfold Cert.ReferenceIdeal.Step.b19
  rw [← al_16 h]
  try rfl
set_option maxRecDepth 8192 in
theorem al_20 (h : Holds V0 s j) : (maximumf (broadcastInDim S8x5000 ![0, 1] bcast_S8x1_S8x5000_0_1 (shapeCast S8x1 (extractStridedSlice S8x1x1 ![0, 0, 0] (res_main_while0b_v156 V0) slices_S8x1x4_S8x1x1_0_0_0) shapeCasts_S8x1x1_S8x1)) (shapeCast S8x5000 (extractStridedSlice S8x5000x1 ![0, 0, 0] (V0 (Proc.devRef .tc main_v116_0)) slices_S8x5000x4_S8x5000x1_0_0_0) shapeCasts_S8x5000x1_S8x5000) : (Proc.devRef .tc main_while0b_v162 : DevRef τ sig).ty.Contents (Elt F)) = Cert.ReferenceIdeal.Step.b20 j s := by
  unfold Cert.ReferenceIdeal.Step.b20
  rw [← al_19 h, ← al_18 h]
  try rfl
set_option maxRecDepth 8192 in
theorem al_21 (h : Holds V0 s j) : (extractStridedSlice S8x1x1 ![0, 0, 1] (res_main_while0b_v156 V0) slices_S8x1x4_S8x1x1_0_0_1 : (Proc.devRef .tc main_while0b_v163 : DevRef τ sig).ty.Contents (Elt F)) = Cert.ReferenceIdeal.Step.b21 j s := by
  unfold Cert.ReferenceIdeal.Step.b21
  rw [← al_14 h]
  try rfl
set_option maxRecDepth 8192 in
theorem al_22 (h : Holds V0 s j) : (shapeCast S8x1 (extractStridedSlice S8x1x1 ![0, 0, 1] (res_main_while0b_v156 V0) slices_S8x1x4_S8x1x1_0_0_1) shapeCasts_S8x1x1_S8x1 : (Proc.devRef .tc main_while0b_v164 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (extractStridedSlice S8x5000x1 ![0, 0, 1] (V0 (Proc.devRef .tc main_v116_0)) slices_S8x5000x4_S8x5000x1_0_0_1 : (Proc.devRef .tc main_while0b_v165 : DevRef τ sig).ty.Contents (Elt F)) = Cert.ReferenceIdeal.Step.b23 j s := by
  unfold Cert.ReferenceIdeal.Step.b23
  rw [h.f_0]
  try rfl
set_option maxRecDepth 8192 in
theorem al_24 (h : Holds V0 s j) : (shapeCast S8x5000 (extractStridedSlice S8x5000x1 ![0, 0, 1] (V0 (Proc.devRef .tc main_v116_0)) slices_S8x5000x4_S8x5000x1_0_0_1) shapeCasts_S8x5000x1_S8x5000 : (Proc.devRef .tc main_while0b_v166 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (broadcastInDim S8x5000 ![0, 1] bcast_S8x1_S8x5000_0_1 (shapeCast S8x1 (extractStridedSlice S8x1x1 ![0, 0, 1] (res_main_while0b_v156 V0) slices_S8x1x4_S8x1x1_0_0_1) shapeCasts_S8x1x1_S8x1) : (Proc.devRef .tc main_while0b_v167 : DevRef τ sig).ty.Contents (Elt F)) = Cert.ReferenceIdeal.Step.b25 j s := by
  unfold Cert.ReferenceIdeal.Step.b25
  rw [← al_22 h]
  try rfl
set_option maxRecDepth 8192 in
theorem al_26 (h : Holds V0 s j) : (maximumf (broadcastInDim S8x5000 ![0, 1] bcast_S8x1_S8x5000_0_1 (shapeCast S8x1 (extractStridedSlice S8x1x1 ![0, 0, 1] (res_main_while0b_v156 V0) slices_S8x1x4_S8x1x1_0_0_1) shapeCasts_S8x1x1_S8x1)) (shapeCast S8x5000 (extractStridedSlice S8x5000x1 ![0, 0, 1] (V0 (Proc.devRef .tc main_v116_0)) slices_S8x5000x4_S8x5000x1_0_0_1) shapeCasts_S8x5000x1_S8x5000) : (Proc.devRef .tc main_while0b_v168 : DevRef τ sig).ty.Contents (Elt F)) = Cert.ReferenceIdeal.Step.b26 j s := by
  unfold Cert.ReferenceIdeal.Step.b26
  rw [← al_25 h, ← al_24 h]
  try rfl
set_option maxRecDepth 8192 in
theorem al_27 (h : Holds V0 s j) : (extractStridedSlice S8x1x1 ![0, 0, 2] (res_main_while0b_v156 V0) slices_S8x1x4_S8x1x1_0_0_2 : (Proc.devRef .tc main_while0b_v169 : DevRef τ sig).ty.Contents (Elt F)) = Cert.ReferenceIdeal.Step.b27 j s := by
  unfold Cert.ReferenceIdeal.Step.b27
  rw [← al_14 h]
  try rfl
set_option maxRecDepth 8192 in
theorem al_28 (h : Holds V0 s j) : (shapeCast S8x1 (extractStridedSlice S8x1x1 ![0, 0, 2] (res_main_while0b_v156 V0) slices_S8x1x4_S8x1x1_0_0_2) shapeCasts_S8x1x1_S8x1 : (Proc.devRef .tc main_while0b_v170 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (extractStridedSlice S8x5000x1 ![0, 0, 2] (V0 (Proc.devRef .tc main_v116_0)) slices_S8x5000x4_S8x5000x1_0_0_2 : (Proc.devRef .tc main_while0b_v171 : DevRef τ sig).ty.Contents (Elt F)) = Cert.ReferenceIdeal.Step.b29 j s := by
  unfold Cert.ReferenceIdeal.Step.b29
  rw [h.f_0]
  try rfl
set_option maxRecDepth 8192 in
theorem al_30 (h : Holds V0 s j) : (shapeCast S8x5000 (extractStridedSlice S8x5000x1 ![0, 0, 2] (V0 (Proc.devRef .tc main_v116_0)) slices_S8x5000x4_S8x5000x1_0_0_2) shapeCasts_S8x5000x1_S8x5000 : (Proc.devRef .tc main_while0b_v172 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (broadcastInDim S8x5000 ![0, 1] bcast_S8x1_S8x5000_0_1 (shapeCast S8x1 (extractStridedSlice S8x1x1 ![0, 0, 2] (res_main_while0b_v156 V0) slices_S8x1x4_S8x1x1_0_0_2) shapeCasts_S8x1x1_S8x1) : (Proc.devRef .tc main_while0b_v173 : DevRef τ sig).ty.Contents (Elt F)) = Cert.ReferenceIdeal.Step.b31 j s := by
  unfold Cert.ReferenceIdeal.Step.b31
  rw [← al_28 h]
  try rfl
set_option maxRecDepth 8192 in
theorem al_32 (h : Holds V0 s j) : (minimumf (broadcastInDim S8x5000 ![0, 1] bcast_S8x1_S8x5000_0_1 (shapeCast S8x1 (extractStridedSlice S8x1x1 ![0, 0, 2] (res_main_while0b_v156 V0) slices_S8x1x4_S8x1x1_0_0_2) shapeCasts_S8x1x1_S8x1)) (shapeCast S8x5000 (extractStridedSlice S8x5000x1 ![0, 0, 2] (V0 (Proc.devRef .tc main_v116_0)) slices_S8x5000x4_S8x5000x1_0_0_2) shapeCasts_S8x5000x1_S8x5000) : (Proc.devRef .tc main_while0b_v174 : DevRef τ sig).ty.Contents (Elt F)) = Cert.ReferenceIdeal.Step.b32 j s := by
  unfold Cert.ReferenceIdeal.Step.b32
  rw [← al_31 h, ← al_30 h]
  try rfl
set_option maxRecDepth 8192 in
theorem al_33 (h : Holds V0 s j) : (extractStridedSlice S8x1x1 ![0, 0, 3] (res_main_while0b_v156 V0) slices_S8x1x4_S8x1x1_0_0_3 : (Proc.devRef .tc main_while0b_v175 : DevRef τ sig).ty.Contents (Elt F)) = Cert.ReferenceIdeal.Step.b33 j s := by
  unfold Cert.ReferenceIdeal.Step.b33
  rw [← al_14 h]
  try rfl
set_option maxRecDepth 8192 in
theorem al_34 (h : Holds V0 s j) : (shapeCast S8x1 (extractStridedSlice S8x1x1 ![0, 0, 3] (res_main_while0b_v156 V0) slices_S8x1x4_S8x1x1_0_0_3) shapeCasts_S8x1x1_S8x1 : (Proc.devRef .tc main_while0b_v176 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (extractStridedSlice S8x5000x1 ![0, 0, 3] (V0 (Proc.devRef .tc main_v116_0)) slices_S8x5000x4_S8x5000x1_0_0_3 : (Proc.devRef .tc main_while0b_v177 : DevRef τ sig).ty.Contents (Elt F)) = Cert.ReferenceIdeal.Step.b35 j s := by
  unfold Cert.ReferenceIdeal.Step.b35
  rw [h.f_0]
  try rfl
set_option maxRecDepth 8192 in
theorem al_36 (h : Holds V0 s j) : (shapeCast S8x5000 (extractStridedSlice S8x5000x1 ![0, 0, 3] (V0 (Proc.devRef .tc main_v116_0)) slices_S8x5000x4_S8x5000x1_0_0_3) shapeCasts_S8x5000x1_S8x5000 : (Proc.devRef .tc main_while0b_v178 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (broadcastInDim S8x5000 ![0, 1] bcast_S8x1_S8x5000_0_1 (shapeCast S8x1 (extractStridedSlice S8x1x1 ![0, 0, 3] (res_main_while0b_v156 V0) slices_S8x1x4_S8x1x1_0_0_3) shapeCasts_S8x1x1_S8x1) : (Proc.devRef .tc main_while0b_v179 : DevRef τ sig).ty.Contents (Elt F)) = Cert.ReferenceIdeal.Step.b37 j s := by
  unfold Cert.ReferenceIdeal.Step.b37
  rw [← al_34 h]
  try rfl
set_option maxRecDepth 8192 in
theorem al_38 (h : Holds V0 s j) : (minimumf (broadcastInDim S8x5000 ![0, 1] bcast_S8x1_S8x5000_0_1 (shapeCast S8x1 (extractStridedSlice S8x1x1 ![0, 0, 3] (res_main_while0b_v156 V0) slices_S8x1x4_S8x1x1_0_0_3) shapeCasts_S8x1x1_S8x1)) (shapeCast S8x5000 (extractStridedSlice S8x5000x1 ![0, 0, 3] (V0 (Proc.devRef .tc main_v116_0)) slices_S8x5000x4_S8x5000x1_0_0_3) shapeCasts_S8x5000x1_S8x5000) : (Proc.devRef .tc main_while0b_v180 : DevRef τ sig).ty.Contents (Elt F)) = Cert.ReferenceIdeal.Step.b38 j s := by
  unfold Cert.ReferenceIdeal.Step.b38
  rw [← al_37 h, ← al_36 h]
  try rfl
set_option maxRecDepth 8192 in
theorem al_39 (h : Holds V0 s j) : (subf (minimumf (broadcastInDim S8x5000 ![0, 1] bcast_S8x1_S8x5000_0_1 (shapeCast S8x1 (extractStridedSlice S8x1x1 ![0, 0, 2] (res_main_while0b_v156 V0) slices_S8x1x4_S8x1x1_0_0_2) shapeCasts_S8x1x1_S8x1)) (shapeCast S8x5000 (extractStridedSlice S8x5000x1 ![0, 0, 2] (V0 (Proc.devRef .tc main_v116_0)) slices_S8x5000x4_S8x5000x1_0_0_2) shapeCasts_S8x5000x1_S8x5000)) (maximumf (broadcastInDim S8x5000 ![0, 1] bcast_S8x1_S8x5000_0_1 (shapeCast S8x1 (extractStridedSlice S8x1x1 ![0, 0, 0] (res_main_while0b_v156 V0) slices_S8x1x4_S8x1x1_0_0_0) shapeCasts_S8x1x1_S8x1)) (shapeCast S8x5000 (extractStridedSlice S8x5000x1 ![0, 0, 0] (V0 (Proc.devRef .tc main_v116_0)) slices_S8x5000x4_S8x5000x1_0_0_0) shapeCasts_S8x5000x1_S8x5000)) : (Proc.devRef .tc main_while0b_v181 : DevRef τ sig).ty.Contents (Elt F)) = Cert.ReferenceIdeal.Step.b39 j s := by
  unfold Cert.ReferenceIdeal.Step.b39
  rw [← al_32 h, ← al_20 h]
  try rfl
set_option maxRecDepth 8192 in
theorem al_40 (h : Holds V0 s j) : (constant S_ .f32 0x00000000#32 : (Proc.devRef .tc main_while0b_cst_26 : DevRef τ sig).ty.Contents (Elt F)) = Cert.ReferenceIdeal.Step.b40 j s := by
  unfold Cert.ReferenceIdeal.Step.b40
  rfl
set_option maxRecDepth 8192 in
theorem al_41 (h : Holds V0 s j) : (broadcastInDim S8x5000 ![] bcast_S_S8x5000 (constant S_ .f32 0x00000000#32) : (Proc.devRef .tc main_while0b_v182 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (maximumf (subf (minimumf (broadcastInDim S8x5000 ![0, 1] bcast_S8x1_S8x5000_0_1 (shapeCast S8x1 (extractStridedSlice S8x1x1 ![0, 0, 2] (res_main_while0b_v156 V0) slices_S8x1x4_S8x1x1_0_0_2) shapeCasts_S8x1x1_S8x1)) (shapeCast S8x5000 (extractStridedSlice S8x5000x1 ![0, 0, 2] (V0 (Proc.devRef .tc main_v116_0)) slices_S8x5000x4_S8x5000x1_0_0_2) shapeCasts_S8x5000x1_S8x5000)) (maximumf (broadcastInDim S8x5000 ![0, 1] bcast_S8x1_S8x5000_0_1 (shapeCast S8x1 (extractStridedSlice S8x1x1 ![0, 0, 0] (res_main_while0b_v156 V0) slices_S8x1x4_S8x1x1_0_0_0) shapeCasts_S8x1x1_S8x1)) (shapeCast S8x5000 (extractStridedSlice S8x5000x1 ![0, 0, 0] (V0 (Proc.devRef .tc main_v116_0)) slices_S8x5000x4_S8x5000x1_0_0_0) shapeCasts_S8x5000x1_S8x5000))) (broadcastInDim S8x5000 ![] bcast_S_S8x5000 (constant S_ .f32 0x00000000#32)) : (Proc.devRef .tc main_while0b_v183 : DevRef τ sig).ty.Contents (Elt F)) = Cert.ReferenceIdeal.Step.b42 j s := by
  unfold Cert.ReferenceIdeal.Step.b42
  rw [← al_39 h, ← al_41 h]
  try rfl
set_option maxRecDepth 8192 in
theorem al_43 (h : Holds V0 s j) : (subf (minimumf (broadcastInDim S8x5000 ![0, 1] bcast_S8x1_S8x5000_0_1 (shapeCast S8x1 (extractStridedSlice S8x1x1 ![0, 0, 3] (res_main_while0b_v156 V0) slices_S8x1x4_S8x1x1_0_0_3) shapeCasts_S8x1x1_S8x1)) (shapeCast S8x5000 (extractStridedSlice S8x5000x1 ![0, 0, 3] (V0 (Proc.devRef .tc main_v116_0)) slices_S8x5000x4_S8x5000x1_0_0_3) shapeCasts_S8x5000x1_S8x5000)) (maximumf (broadcastInDim S8x5000 ![0, 1] bcast_S8x1_S8x5000_0_1 (shapeCast S8x1 (extractStridedSlice S8x1x1 ![0, 0, 1] (res_main_while0b_v156 V0) slices_S8x1x4_S8x1x1_0_0_1) shapeCasts_S8x1x1_S8x1)) (shapeCast S8x5000 (extractStridedSlice S8x5000x1 ![0, 0, 1] (V0 (Proc.devRef .tc main_v116_0)) slices_S8x5000x4_S8x5000x1_0_0_1) shapeCasts_S8x5000x1_S8x5000)) : (Proc.devRef .tc main_while0b_v184 : DevRef τ sig).ty.Contents (Elt F)) = Cert.ReferenceIdeal.Step.b43 j s := by
  unfold Cert.ReferenceIdeal.Step.b43
  rw [← al_38 h, ← al_26 h]
  try rfl
set_option maxRecDepth 8192 in
theorem al_44 (h : Holds V0 s j) : (constant S_ .f32 0x00000000#32 : (Proc.devRef .tc main_while0b_cst_27 : DevRef τ sig).ty.Contents (Elt F)) = Cert.ReferenceIdeal.Step.b44 j s := by
  unfold Cert.ReferenceIdeal.Step.b44
  rfl
set_option maxRecDepth 8192 in
theorem al_45 (h : Holds V0 s j) : (broadcastInDim S8x5000 ![] bcast_S_S8x5000 (constant S_ .f32 0x00000000#32) : (Proc.devRef .tc main_while0b_v185 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (maximumf (subf (minimumf (broadcastInDim S8x5000 ![0, 1] bcast_S8x1_S8x5000_0_1 (shapeCast S8x1 (extractStridedSlice S8x1x1 ![0, 0, 3] (res_main_while0b_v156 V0) slices_S8x1x4_S8x1x1_0_0_3) shapeCasts_S8x1x1_S8x1)) (shapeCast S8x5000 (extractStridedSlice S8x5000x1 ![0, 0, 3] (V0 (Proc.devRef .tc main_v116_0)) slices_S8x5000x4_S8x5000x1_0_0_3) shapeCasts_S8x5000x1_S8x5000)) (maximumf (broadcastInDim S8x5000 ![0, 1] bcast_S8x1_S8x5000_0_1 (shapeCast S8x1 (extractStridedSlice S8x1x1 ![0, 0, 1] (res_main_while0b_v156 V0) slices_S8x1x4_S8x1x1_0_0_1) shapeCasts_S8x1x1_S8x1)) (shapeCast S8x5000 (extractStridedSlice S8x5000x1 ![0, 0, 1] (V0 (Proc.devRef .tc main_v116_0)) slices_S8x5000x4_S8x5000x1_0_0_1) shapeCasts_S8x5000x1_S8x5000))) (broadcastInDim S8x5000 ![] bcast_S_S8x5000 (constant S_ .f32 0x00000000#32)) : (Proc.devRef .tc main_while0b_v186 : DevRef τ sig).ty.Contents (Elt F)) = Cert.ReferenceIdeal.Step.b46 j s := by
  unfold Cert.ReferenceIdeal.Step.b46
  rw [← al_43 h, ← al_45 h]
  try rfl
set_option maxRecDepth 8192 in
theorem al_47 (h : Holds V0 s j) : (res_main_while0b_v187 V0 : (Proc.devRef .tc main_while0b_v187 : DevRef τ sig).ty.Contents (Elt F)) = Cert.ReferenceIdeal.Step.b47 j s := by
  unfold res_main_while0b_v187 Cert.ReferenceIdeal.Step.b47
  rw [← al_42 h, ← al_46 h]
  try rfl
set_option maxRecDepth 8192 in
theorem al_48 (h : Holds V0 s j) : (extractStridedSlice S8x1x1 ![0, 0, 2] (res_main_while0b_v156 V0) slices_S8x1x4_S8x1x1_0_0_2 : (Proc.devRef .tc main_while0b_v188 : DevRef τ sig).ty.Contents (Elt F)) = Cert.ReferenceIdeal.Step.b48 j s := by
  unfold Cert.ReferenceIdeal.Step.b48
  rw [← al_14 h]
  try rfl
set_option maxRecDepth 8192 in
theorem al_49 (h : Holds V0 s j) : (shapeCast S8x1 (extractStridedSlice S8x1x1 ![0, 0, 2] (res_main_while0b_v156 V0) slices_S8x1x4_S8x1x1_0_0_2) shapeCasts_S8x1x1_S8x1 : (Proc.devRef .tc main_while0b_v189 : DevRef τ sig).ty.Contents (Elt F)) = Cert.ReferenceIdeal.Step.b49 j s := by
  unfold Cert.ReferenceIdeal.Step.b49
  rw [← al_48 h]
  try rfl
set_option maxRecDepth 8192 in
theorem al_50 (h : Holds V0 s j) : (extractStridedSlice S8x1x1 ![0, 0, 0] (res_main_while0b_v156 V0) slices_S8x1x4_S8x1x1_0_0_0 : (Proc.devRef .tc main_while0b_v190 : DevRef τ sig).ty.Contents (Elt F)) = Cert.ReferenceIdeal.Step.b50 j s := by
  unfold Cert.ReferenceIdeal.Step.b50
  rw [← al_14 h]
  try rfl
set_option maxRecDepth 8192 in
theorem al_51 (h : Holds V0 s j) : (shapeCast S8x1 (extractStridedSlice S8x1x1 ![0, 0, 0] (res_main_while0b_v156 V0) slices_S8x1x4_S8x1x1_0_0_0) shapeCasts_S8x1x1_S8x1 : (Proc.devRef .tc main_while0b_v191 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1) : (Proc.devRef .tc main_while0b_v192 : DevRef τ sig).ty.Contents (Elt F)) = Cert.ReferenceIdeal.Step.b52 j s := by
  unfold Cert.ReferenceIdeal.Step.b52
  rw [← al_49 h, ← al_51 h]
  try rfl
set_option maxRecDepth 8192 in
theorem al_53 (h : Holds V0 s j) : (extractStridedSlice S8x1x1 ![0, 0, 3] (res_main_while0b_v156 V0) slices_S8x1x4_S8x1x1_0_0_3 : (Proc.devRef .tc main_while0b_v193 : DevRef τ sig).ty.Contents (Elt F)) = Cert.ReferenceIdeal.Step.b53 j s := by
  unfold Cert.ReferenceIdeal.Step.b53
  rw [← al_14 h]
  try rfl
set_option maxRecDepth 8192 in
theorem al_54 (h : Holds V0 s j) : (shapeCast S8x1 (extractStridedSlice S8x1x1 ![0, 0, 3] (res_main_while0b_v156 V0) slices_S8x1x4_S8x1x1_0_0_3) shapeCasts_S8x1x1_S8x1 : (Proc.devRef .tc main_while0b_v194 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (extractStridedSlice S8x1x1 ![0, 0, 1] (res_main_while0b_v156 V0) slices_S8x1x4_S8x1x1_0_0_1 : (Proc.devRef .tc main_while0b_v195 : DevRef τ sig).ty.Contents (Elt F)) = Cert.ReferenceIdeal.Step.b55 j s := by
  unfold Cert.ReferenceIdeal.Step.b55
  rw [← al_14 h]
  try rfl
set_option maxRecDepth 8192 in
theorem al_56 (h : Holds V0 s j) : (shapeCast S8x1 (extractStridedSlice S8x1x1 ![0, 0, 1] (res_main_while0b_v156 V0) slices_S8x1x4_S8x1x1_0_0_1) shapeCasts_S8x1x1_S8x1 : (Proc.devRef .tc main_while0b_v196 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1) : (Proc.devRef .tc main_while0b_v197 : DevRef τ sig).ty.Contents (Elt F)) = Cert.ReferenceIdeal.Step.b57 j s := by
  unfold Cert.ReferenceIdeal.Step.b57
  rw [← al_54 h, ← al_56 h]
  try rfl
set_option maxRecDepth 8192 in
theorem al_58 (h : Holds V0 s j) : (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)) : (Proc.devRef .tc main_while0b_v198 : DevRef τ sig).ty.Contents (Elt F)) = Cert.ReferenceIdeal.Step.b58 j s := by
  unfold Cert.ReferenceIdeal.Step.b58
  rw [← al_52 h, ← al_57 h]
  try rfl
set_option maxRecDepth 8192 in
theorem al_59 (h : Holds V0 s j) : (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1))) : (Proc.devRef .tc main_while0b_v199 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000))) : (Proc.devRef .tc main_while0b_v200 : DevRef τ sig).ty.Contents (Elt F)) = Cert.ReferenceIdeal.Step.b60 j s := by
  unfold Cert.ReferenceIdeal.Step.b60
  rw [← al_59 h, ← al_10 h]
  try rfl
set_option maxRecDepth 8192 in
theorem al_61 (h : Holds V0 s j) : (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0) : (Proc.devRef .tc main_while0b_v201 : DevRef τ sig).ty.Contents (Elt F)) = Cert.ReferenceIdeal.Step.b61 j s := by
  unfold Cert.ReferenceIdeal.Step.b61
  rw [← al_60 h, ← al_47 h]
  try rfl
set_option maxRecDepth 8192 in
theorem al_62 (h : Holds V0 s j) : (constant S_ .f32 0x322BCC77#32 : (Proc.devRef .tc main_while0b_cst_28 : DevRef τ sig).ty.Contents (Elt F)) = Cert.ReferenceIdeal.Step.b62 j s := by
  unfold Cert.ReferenceIdeal.Step.b62
  rfl
set_option maxRecDepth 8192 in
theorem al_63 (h : Holds V0 s j) : (broadcastInDim S8x5000 ![] bcast_S_S8x5000 (constant S_ .f32 0x322BCC77#32) : (Proc.devRef .tc main_while0b_v202 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (addf (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0)) (broadcastInDim S8x5000 ![] bcast_S_S8x5000 (constant S_ .f32 0x322BCC77#32)) : (Proc.devRef .tc main_while0b_v203 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (Host.divf (res_main_while0b_v187 V0) (addf (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0)) (broadcastInDim S8x5000 ![] bcast_S_S8x5000 (constant S_ .f32 0x322BCC77#32))) : (Proc.devRef .tc main_while0b_v204 : DevRef τ sig).ty.Contents (Elt F)) = Cert.ReferenceIdeal.Step.b65 j s := by
  unfold Cert.ReferenceIdeal.Step.b65
  rw [← al_47 h, ← al_64 h]
  try rfl
set_option maxRecDepth 8192 in
theorem al_66 (h : Holds V0 s j) : (constant S_ .f32 0xCE6E6B28#32 : (Proc.devRef .tc main_while0b_cst_29 : DevRef τ sig).ty.Contents (Elt F)) = Cert.ReferenceIdeal.Step.b66 j s := by
  unfold Cert.ReferenceIdeal.Step.b66
  rfl
set_option maxRecDepth 8192 in
theorem al_67 (h : Holds V0 s j) : (res_main_while0b_v205 V0 : (Proc.devRef .tc main_while0b_v205 : DevRef τ sig).ty.Contents (Elt F)) = Cert.ReferenceIdeal.Step.b67 j s := by
  unfold res_main_while0b_v205 Cert.ReferenceIdeal.Step.b67
  rw [← al_66 h]
  try rfl
set_option maxRecDepth 8192 in
theorem al_68 (h : Holds V0 s j) : (constant S_ .f32 0x3F000000#32 : (Proc.devRef .tc main_while0b_cst_30 : DevRef τ sig).ty.Contents (Elt F)) = Cert.ReferenceIdeal.Step.b68 j s := by
  unfold Cert.ReferenceIdeal.Step.b68
  rfl
set_option maxRecDepth 8192 in
theorem al_69 (h : Holds V0 s j) : (broadcastInDim S8x5000 ![] bcast_S_S8x5000 (constant S_ .f32 0x3F000000#32) : (Proc.devRef .tc main_while0b_v206 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (cmpf .ogt (Host.divf (res_main_while0b_v187 V0) (addf (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0)) (broadcastInDim S8x5000 ![] bcast_S_S8x5000 (constant S_ .f32 0x322BCC77#32)))) (broadcastInDim S8x5000 ![] bcast_S_S8x5000 (constant S_ .f32 0x3F000000#32)) : (Proc.devRef .tc main_while0b_v207 : DevRef τ sig).ty.Contents (Elt F)) = Cert.ReferenceIdeal.Step.b70 j s := by
  unfold Cert.ReferenceIdeal.Step.b70
  rw [← al_65 h, ← al_69 h]
  try rfl
set_option maxRecDepth 8192 in
theorem al_71 (h : Holds V0 s j) : (select (cmpf .ogt (Host.divf (res_main_while0b_v187 V0) (addf (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0)) (broadcastInDim S8x5000 ![] bcast_S_S8x5000 (constant S_ .f32 0x322BCC77#32)))) (broadcastInDim S8x5000 ![] bcast_S_S8x5000 (constant S_ .f32 0x3F000000#32))) (res_main_while0b_v205 V0) (V0 (Proc.devRef .tc main_v116_4)) : (Proc.devRef .tc main_while0b_v208 : DevRef τ sig).ty.Contents (Elt F)) = Cert.ReferenceIdeal.Step.b71 j s := by
  unfold Cert.ReferenceIdeal.Step.b71
  rw [← al_70 h, ← al_67 h, h.f_4]
  try rfl
set_option maxRecDepth 8192 in
theorem al_72 (h : Holds V0 s j) : (iotaInDim S8x5000 32 1 : (Proc.devRef .tc main_while0b_v209 : DevRef τ sig).ty.Contents (Elt F)) = Cert.ReferenceIdeal.Step.b72 j s := by
  unfold Cert.ReferenceIdeal.Step.b72
  rfl
set_option maxRecDepth 8192 in
theorem al_73 (h : Holds V0 s j) : (broadcastInDim S8x5000 ![0, 1] bcast_S8x1_S8x5000_0_1 (res_main_while0b_indices_25 V0) : (Proc.devRef .tc main_while0b_v210 : DevRef τ sig).ty.Contents (Elt F)) = Cert.ReferenceIdeal.Step.b73 j s := by
  unfold Cert.ReferenceIdeal.Step.b73
  rw [← al_12 h]
  try rfl
set_option maxRecDepth 8192 in
theorem al_74 (h : Holds V0 s j) : (cmpi .eq (iotaInDim S8x5000 32 1) (broadcastInDim S8x5000 ![0, 1] bcast_S8x1_S8x5000_0_1 (res_main_while0b_indices_25 V0)) : (Proc.devRef .tc main_while0b_v211 : DevRef τ sig).ty.Contents (Elt F)) = Cert.ReferenceIdeal.Step.b74 j s := by
  unfold Cert.ReferenceIdeal.Step.b74
  rw [← al_72 h, ← al_73 h]
  try rfl
set_option maxRecDepth 8192 in
theorem al_75 (h : Holds V0 s j) : (select (cmpi .eq (iotaInDim S8x5000 32 1) (broadcastInDim S8x5000 ![0, 1] bcast_S8x1_S8x5000_0_1 (res_main_while0b_indices_25 V0))) (res_main_while0b_v205 V0) (select (cmpf .ogt (Host.divf (res_main_while0b_v187 V0) (addf (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0)) (broadcastInDim S8x5000 ![] bcast_S_S8x5000 (constant S_ .f32 0x322BCC77#32)))) (broadcastInDim S8x5000 ![] bcast_S_S8x5000 (constant S_ .f32 0x3F000000#32))) (res_main_while0b_v205 V0) (V0 (Proc.devRef .tc main_v116_4))) : (Proc.devRef .tc main_while0b_v212 : DevRef τ sig).ty.Contents (Elt F)) = Cert.ReferenceIdeal.Step.b75 j s := by
  unfold Cert.ReferenceIdeal.Step.b75
  rw [← al_74 h, ← al_67 h, ← al_71 h]
  try rfl
set_option maxRecDepth 8192 in
theorem al_76 (h : Holds V0 s j) : (broadcastInDim S8x1x1 ![0, 1] bcast_S8x1_S8x1x1_0_1 (res_main_while0b_indices_25 V0) : (Proc.devRef .tc main_while0b_v213 : DevRef τ sig).ty.Contents (Elt F)) = Cert.ReferenceIdeal.Step.b76 j s := by
  unfold Cert.ReferenceIdeal.Step.b76
  rw [← al_12 h]
  try rfl
set_option maxRecDepth 8192 in
theorem al_77 (h : Holds V0 s j) : (Host.gather gather_S8x5000x4_S8x1x1_S8x1x4_2_1_0_0_1_2_114 (V0 (Proc.devRef .tc main_v116_1)) (broadcastInDim S8x1x1 ![0, 1] bcast_S8x1_S8x1x1_0_1 (res_main_while0b_indices_25 V0)) : (Proc.devRef .tc main_while0b_v214 : DevRef τ sig).ty.Contents (Elt F)) = Cert.ReferenceIdeal.Step.b77 j s := by
  unfold Cert.ReferenceIdeal.Step.b77
  rw [← al_76 h, h.f_1]
  try rfl
set_option maxRecDepth 8192 in
theorem al_78 (h : Holds V0 s j) : (shapeCast S8x4 (Host.gather gather_S8x5000x4_S8x1x1_S8x1x4_2_1_0_0_1_2_114 (V0 (Proc.devRef .tc main_v116_1)) (broadcastInDim S8x1x1 ![0, 1] bcast_S8x1_S8x1x1_0_1 (res_main_while0b_indices_25 V0))) shapeCasts_S8x1x4_S8x4 : (Proc.devRef .tc main_while0b_v215 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (shapeCast S8 ((Host.topK S8x1 1 (FloatOps.cmpfTotal .gt) (V0 (Proc.devRef .tc main_v116_4)) sliceFits_S8x5000_S8x1).1) shapeCasts_S8x1_S8 : (Proc.devRef .tc main_while0b_v216 : DevRef τ sig).ty.Contents (Elt F)) = Cert.ReferenceIdeal.Step.b79 j s := by
  unfold Cert.ReferenceIdeal.Step.b79
  rw [← al_11 h]
  try rfl
set_option maxRecDepth 8192 in
theorem al_80 (h : Holds V0 s j) : (shapeCast S8x1x1 (res_main_while0b_indices_25 V0) shapeCasts_S8x1_S8x1x1 : (Proc.devRef .tc main_while0b_call6_v0 : DevRef τ sig).ty.Contents (Elt F)) = Cert.ReferenceIdeal.Step.b80 j s := by
  unfold Cert.ReferenceIdeal.Step.b80
  rw [← al_12 h]
  try rfl
set_option maxRecDepth 8192 in
theorem al_81 (h : Holds V0 s j) : (Host.gather gather_S8x5000_S8x1x1_S8x1_n_1_0_0_1_2_11 (V0 (Proc.devRef .tc main_v116_2)) (shapeCast S8x1x1 (res_main_while0b_indices_25 V0) shapeCasts_S8x1_S8x1x1) : (Proc.devRef .tc main_while0b_v217 : DevRef τ sig).ty.Contents (Elt F)) = Cert.ReferenceIdeal.Step.b81 j s := by
  unfold Cert.ReferenceIdeal.Step.b81
  rw [← al_80 h, h.f_2]
  try rfl
set_option maxRecDepth 8192 in
theorem al_82 (h : Holds V0 s j) : (shapeCast S8 (Host.gather gather_S8x5000_S8x1x1_S8x1_n_1_0_0_1_2_11 (V0 (Proc.devRef .tc main_v116_2)) (shapeCast S8x1x1 (res_main_while0b_indices_25 V0) shapeCasts_S8x1_S8x1x1)) shapeCasts_S8x1_S8 : (Proc.devRef .tc main_while0b_v218 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (broadcastInDim S1x8x4 ![1, 2] bcast_S8x4_S1x8x4_1_2 (shapeCast S8x4 (Host.gather gather_S8x5000x4_S8x1x1_S8x1x4_2_1_0_0_1_2_114 (V0 (Proc.devRef .tc main_v116_1)) (broadcastInDim S8x1x1 ![0, 1] bcast_S8x1_S8x1x1_0_1 (res_main_while0b_indices_25 V0))) shapeCasts_S8x1x4_S8x4) : (Proc.devRef .tc main_while0b_call7_v0 : DevRef τ sig).ty.Contents (Elt F)) = Cert.ReferenceIdeal.Step.b83 j s := by
  unfold Cert.ReferenceIdeal.Step.b83
  rw [← al_78 h]
  try rfl
set_option maxRecDepth 8192 in
theorem al_84 (h : Holds V0 s j) : (constantI S_ 32 0#32 : (Proc.devRef .tc main_while0b_call7_c : DevRef τ sig).ty.Contents (Elt F)) = Cert.ReferenceIdeal.Step.b84 j s := by
  unfold Cert.ReferenceIdeal.Step.b84
  rfl
set_option maxRecDepth 8192 in
theorem al_85 (h : Holds V0 s j) : (constantI S_ 32 0#32 : (Proc.devRef .tc main_while0b_call7_c_0 : DevRef τ sig).ty.Contents (Elt F)) = Cert.ReferenceIdeal.Step.b85 j s := by
  unfold Cert.ReferenceIdeal.Step.b85
  rfl
set_option maxRecDepth 8192 in
theorem al_86 (h : Holds V0 s j) : (Host.dynamicUpdateSlice (V0 (Proc.devRef .tc main_v116_5)) (broadcastInDim S1x8x4 ![1, 2] bcast_S8x4_S1x8x4_1_2 (shapeCast S8x4 (Host.gather gather_S8x5000x4_S8x1x1_S8x1x4_2_1_0_0_1_2_114 (V0 (Proc.devRef .tc main_v116_1)) (broadcastInDim S8x1x1 ![0, 1] bcast_S8x1_S8x1x1_0_1 (res_main_while0b_indices_25 V0))) shapeCasts_S8x1x4_S8x4)) (fun k => (((![V0 (Proc.devRef .tc main_v116_3), constantI S_ 32 0#32, constantI S_ 32 0#32] : Fin 3 → (⟨S_, .i32⟩ : BufTy).Contents (Elt F))) k (Shape.Idx.first h_S_)).toInt) updateFits_S100x8x4_S1x8x4 : (Proc.devRef .tc main_while0b_v219 : DevRef τ sig).ty.Contents (Elt F)) = Cert.ReferenceIdeal.Step.b86 j s := by
  unfold Cert.ReferenceIdeal.Step.b86
  rw [← al_83 h, ← al_84 h, ← al_85 h, h.f_5, h.n_3]
  try rfl
set_option maxRecDepth 8192 in
theorem al_87 (h : Holds V0 s j) : (broadcastInDim S1x8 ![1] bcast_S8_S1x8_1 (shapeCast S8 ((Host.topK S8x1 1 (FloatOps.cmpfTotal .gt) (V0 (Proc.devRef .tc main_v116_4)) sliceFits_S8x5000_S8x1).1) shapeCasts_S8x1_S8) : (Proc.devRef .tc main_while0b_call8_v0 : DevRef τ sig).ty.Contents (Elt F)) = Cert.ReferenceIdeal.Step.b87 j s := by
  unfold Cert.ReferenceIdeal.Step.b87
  rw [← al_79 h]
  try rfl
set_option maxRecDepth 8192 in
theorem al_88 (h : Holds V0 s j) : (constantI S_ 32 0#32 : (Proc.devRef .tc main_while0b_call8_c : DevRef τ sig).ty.Contents (Elt F)) = Cert.ReferenceIdeal.Step.b88 j s := by
  unfold Cert.ReferenceIdeal.Step.b88
  rfl
set_option maxRecDepth 8192 in
theorem al_89 (h : Holds V0 s j) : (Host.dynamicUpdateSlice (V0 (Proc.devRef .tc main_v116_6)) (broadcastInDim S1x8 ![1] bcast_S8_S1x8_1 (shapeCast S8 ((Host.topK S8x1 1 (FloatOps.cmpfTotal .gt) (V0 (Proc.devRef .tc main_v116_4)) sliceFits_S8x5000_S8x1).1) shapeCasts_S8x1_S8)) (fun k => (((![V0 (Proc.devRef .tc main_v116_3), constantI S_ 32 0#32] : Fin 2 → (⟨S_, .i32⟩ : BufTy).Contents (Elt F))) k (Shape.Idx.first h_S_)).toInt) updateFits_S100x8_S1x8 : (Proc.devRef .tc main_while0b_v220 : DevRef τ sig).ty.Contents (Elt F)) = Cert.ReferenceIdeal.Step.b89 j s := by
  unfold Cert.ReferenceIdeal.Step.b89
  rw [← al_87 h, ← al_88 h, h.f_6, h.n_3]
  try rfl
set_option maxRecDepth 8192 in
theorem al_90 (h : Holds V0 s j) : (broadcastInDim S1x8 ![1] bcast_S8_S1x8_1 (shapeCast S8 (Host.gather gather_S8x5000_S8x1x1_S8x1_n_1_0_0_1_2_11 (V0 (Proc.devRef .tc main_v116_2)) (shapeCast S8x1x1 (res_main_while0b_indices_25 V0) shapeCasts_S8x1_S8x1x1)) shapeCasts_S8x1_S8) : (Proc.devRef .tc main_while0b_call9_v0 : DevRef τ sig).ty.Contents (Elt F)) = Cert.ReferenceIdeal.Step.b90 j s := by
  unfold Cert.ReferenceIdeal.Step.b90
  rw [← al_82 h]
  try rfl
set_option maxRecDepth 8192 in
theorem al_91 (h : Holds V0 s j) : (constantI S_ 32 0#32 : (Proc.devRef .tc main_while0b_call9_c : DevRef τ sig).ty.Contents (Elt F)) = Cert.ReferenceIdeal.Step.b91 j s := by
  unfold Cert.ReferenceIdeal.Step.b91
  rfl
set_option maxRecDepth 8192 in
theorem al_92 (h : Holds V0 s j) : (Host.dynamicUpdateSlice (V0 (Proc.devRef .tc main_v116_7)) (broadcastInDim S1x8 ![1] bcast_S8_S1x8_1 (shapeCast S8 (Host.gather gather_S8x5000_S8x1x1_S8x1_n_1_0_0_1_2_11 (V0 (Proc.devRef .tc main_v116_2)) (shapeCast S8x1x1 (res_main_while0b_indices_25 V0) shapeCasts_S8x1_S8x1x1)) shapeCasts_S8x1_S8)) (fun k => (((![V0 (Proc.devRef .tc main_v116_3), constantI S_ 32 0#32] : Fin 2 → (⟨S_, .i32⟩ : BufTy).Contents (Elt F))) k (Shape.Idx.first h_S_)).toInt) updateFits_S100x8_S1x8 : (Proc.devRef .tc main_while0b_v221 : DevRef τ sig).ty.Contents (Elt F)) = Cert.ReferenceIdeal.Step.b92 j s := by
  unfold Cert.ReferenceIdeal.Step.b92
  rw [← al_90 h, ← al_91 h, h.f_7, h.n_3]
  try rfl

/-! One trip's step of the carried values is `step`, field by field; a counter steps to the next number. -/

theorem step_4 (h : Holds V0 s j) : step_main_v116_4 V0 = (step j s).main_v116_4 := by
  unfold step_main_v116_4 Cert.ReferenceIdeal.Step.step
  show id (select (cmpi .eq (iotaInDim S8x5000 32 1) (broadcastInDim S8x5000 ![0, 1] bcast_S8x1_S8x5000_0_1 (res_main_while0b_indices_25 V0))) (res_main_while0b_v205 V0) (select (cmpf .ogt (Host.divf (res_main_while0b_v187 V0) (addf (subf (addf (broadcastInDim S8x5000 ![0, 1] bcast_S8x1_S8x5000_0_1 (mulf (subf (shapeCast S8x1 (extractStridedSlice S8x1x1 ![0, 0, 2] (res_main_while0b_v156 V0) slices_S8x1x4_S8x1x1_0_0_2) shapeCasts_S8x1x1_S8x1) (shapeCast S8x1 (extractStridedSlice S8x1x1 ![0, 0, 0] (res_main_while0b_v156 V0) slices_S8x1x4_S8x1x1_0_0_0) shapeCasts_S8x1x1_S8x1)) (subf (shapeCast S8x1 (extractStridedSlice S8x1x1 ![0, 0, 3] (res_main_while0b_v156 V0) slices_S8x1x4_S8x1x1_0_0_3) shapeCasts_S8x1x1_S8x1) (shapeCast S8x1 (extractStridedSlice S8x1x1 ![0, 0, 1] (res_main_while0b_v156 V0) slices_S8x1x4_S8x1x1_0_0_1) shapeCasts_S8x1x1_S8x1)))) (mulf (subf (shapeCast S8x5000 (extractStridedSlice S8x5000x1 ![0, 0, 2] (V0 (Proc.devRef .tc main_v116_0)) slices_S8x5000x4_S8x5000x1_0_0_2) shapeCasts_S8x5000x1_S8x5000) (shapeCast S8x5000 (extractStridedSlice S8x5000x1 ![0, 0, 0] (V0 (Proc.devRef .tc main_v116_0)) slices_S8x5000x4_S8x5000x1_0_0_0) shapeCasts_S8x5000x1_S8x5000)) (subf (shapeCast S8x5000 (extractStridedSlice S8x5000x1 ![0, 0, 3] (V0 (Proc.devRef .tc main_v116_0)) slices_S8x5000x4_S8x5000x1_0_0_3) shapeCasts_S8x5000x1_S8x5000) (shapeCast S8x5000 (extractStridedSlice S8x5000x1 ![0, 0, 1] (V0 (Proc.devRef .tc main_v116_0)) slices_S8x5000x4_S8x5000x1_0_0_1) shapeCasts_S8x5000x1_S8x5000)))) (res_main_while0b_v187 V0)) (broadcastInDim S8x5000 ![] bcast_S_S8x5000 (constant S_ .f32 0x322BCC77#32)))) (broadcastInDim S8x5000 ![] bcast_S_S8x5000 (constant S_ .f32 0x3F000000#32))) (res_main_while0b_v205 V0) (V0 (Proc.devRef .tc main_v116_4)))) = _
  rw [al_75 h]
  try rfl
theorem step_5 (h : Holds V0 s j) : step_main_v116_5 V0 = (step j s).main_v116_5 := al_86 h
theorem step_6 (h : Holds V0 s j) : step_main_v116_6 V0 = (step j s).main_v116_6 := al_89 h
theorem step_7 (h : Holds V0 s j) : step_main_v116_7 V0 = (step j s).main_v116_7 := al_92 h
theorem step_3 (h : Holds V0 s j) : step_main_v116_3 V0 = constantI S_ 32 (BitVec.ofNat 32 (j + 1)) := by
  unfold step_main_v116_3
  rw [h.n_3]
  funext i
  show BitVec.ofNat 32 j + 1#32 = BitVec.ofNat 32 (j + 1)
  simp only [BitVec.ofNat_add]

set_option maxRecDepth 8192 in
theorem out_main_v143_holds (h : Holds V0 s j) {x_main_arg10 : (⟨S8, .f32⟩ : BufTy).Contents (Elt F)} (h_main_arg10 : V0 (Proc.devRef .tc main_arg10) = x_main_arg10) : out_main_v143 V0 = Cert.ReferenceIdeal.Step.R_main_v143 s x_main_arg10 := by
  unfold out_main_v143 Cert.ReferenceIdeal.Step.R_main_v143
  rw [h.f_5, h.f_6, h.f_7, h_main_arg10]
  try rfl

/-- One trip keeps the valuation holding: `step` of the state, the same set-up values, the next number. -/
theorem holds_step (h : Holds V0 s j) : Holds (STEP V0) (step j s) (j + 1) where
  f_4 := (STEP_main_v116_4 V0).trans (step_4 h)
  f_5 := (STEP_main_v116_5 V0).trans (step_5 h)
  f_6 := (STEP_main_v116_6 V0).trans (step_6 h)
  f_7 := (STEP_main_v116_7 V0).trans (step_7 h)
  n_3 := (STEP_main_v116_3 V0).trans (step_3 h)
  f_0 := (STEP_main_v116_0 V0).trans h.f_0
  f_1 := (STEP_main_v116_1 V0).trans h.f_1
  f_2 := (STEP_main_v116_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))

variable (m : (ℓ : Loc nD τ sig) → Buf (Elt F) ℓ) (c : Dev nD)

set_option maxRecDepth 65536 in
set_option maxHeartbeats 4000000 in
theorem first_v10 : after hostOps0 (launchContents m c) (Proc.devRef .tc main_v10) = Cert.ReferenceIdeal.Step.A_main_v10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  after_reads_simp; rfl

set_option maxRecDepth 65536 in
set_option maxHeartbeats 4000000 in
theorem first_v21 : after hostOps0 (launchContents m c) (Proc.devRef .tc main_v21) = Cert.ReferenceIdeal.Step.A_main_v21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  after_reads_simp; rfl

set_option maxRecDepth 65536 in
set_option maxHeartbeats 4000000 in
theorem first_indices : after hostOps0 (launchContents m c) (Proc.devRef .tc main_indices) = Cert.ReferenceIdeal.Step.A_main_indices (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  after_reads_simp; rfl

set_option maxRecDepth 65536 in
set_option maxHeartbeats 4000000 in
theorem first_c : after hostOps0 (launchContents m c) (Proc.devRef .tc main_c) = Cert.ReferenceIdeal.Step.K_main_c (F := F) := by
  after_reads_simp; rfl

set_option maxRecDepth 65536 in
set_option maxHeartbeats 4000000 in
theorem first_arg11 : after hostOps0 (launchContents m c) (Proc.devRef .tc main_arg11) = (m ((c.tc : Thread nD τ).loc main_arg11)) := by
  after_reads_simp

set_option maxRecDepth 16384 in
set_option maxHeartbeats 1000000 in
theorem piece1_v23 (V : Valuation τ sig (Elt F)) (h_indices : V (Proc.devRef .tc main_indices) = Cert.ReferenceIdeal.Step.A_main_indices (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_c : V (Proc.devRef .tc main_c) = Cert.ReferenceIdeal.Step.K_main_c (F := F)) : after hostOps0_1 V (Proc.devRef .tc main_v23) = Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v23 Cert.ReferenceIdeal.Step.A_main_call0_v13 Cert.ReferenceIdeal.Step.A_main_call0_v11 Cert.ReferenceIdeal.Step.A_main_call0_v10 Cert.ReferenceIdeal.Step.A_main_call0_v8 Cert.ReferenceIdeal.Step.A_main_call0_v6 Cert.ReferenceIdeal.Step.A_main_call0_v3 Cert.ReferenceIdeal.Step.A_main_call0_v2 Cert.ReferenceIdeal.Step.K_main_call0_v12 Cert.ReferenceIdeal.Step.K_main_call0_c_0 Cert.ReferenceIdeal.Step.K_main_call0_v9 Cert.ReferenceIdeal.Step.K_main_call0_c Cert.ReferenceIdeal.Step.K_main_call0_v7 Cert.ReferenceIdeal.Step.K_main_call0_v5 Cert.ReferenceIdeal.Step.K_main_call0_v4 Cert.ReferenceIdeal.Step.K_main_call0_v1 Cert.ReferenceIdeal.Step.K_main_call0_v0
  generalize Cert.ReferenceIdeal.Step.A_main_indices (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_indices at h_indices ⊢
  generalize Cert.ReferenceIdeal.Step.K_main_c (F := F) = x_c at h_c ⊢
  subst h_indices
  subst h_c
  after_reads_simp
  first | done | rfl

theorem keep1_indices (V : Valuation τ sig (Elt F)) : after hostOps0_1 V (Proc.devRef .tc main_indices) = V (Proc.devRef .tc main_indices) := by
  after_reads_simp

theorem keep1_v10 (V : Valuation τ sig (Elt F)) : after hostOps0_1 V (Proc.devRef .tc main_v10) = V (Proc.devRef .tc main_v10) := by
  after_reads_simp

theorem keep1_v21 (V : Valuation τ sig (Elt F)) : after hostOps0_1 V (Proc.devRef .tc main_v21) = V (Proc.devRef .tc main_v21) := by
  after_reads_simp

theorem keep1_arg11 (V : Valuation τ sig (Elt F)) : after hostOps0_1 V (Proc.devRef .tc main_arg11) = V (Proc.devRef .tc main_arg11) := by
  after_reads_simp

set_option maxRecDepth 16384 in
set_option maxHeartbeats 1000000 in
theorem piece2_v25 (V : Valuation τ sig (Elt F)) (h_indices : V (Proc.devRef .tc main_indices) = Cert.ReferenceIdeal.Step.A_main_indices (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_2 V (Proc.devRef .tc main_v25) = Cert.ReferenceIdeal.Step.A_main_v25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v25 Cert.ReferenceIdeal.Step.K_main_v24 Cert.ReferenceIdeal.Step.K_main_c_0
  generalize Cert.ReferenceIdeal.Step.A_main_indices (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_indices at h_indices ⊢
  subst h_indices
  after_reads_simp
  first | done | rfl

set_option maxRecDepth 16384 in
set_option maxHeartbeats 1000000 in
theorem piece2_v26 (V : Valuation τ sig (Elt F)) (h_v23 : V (Proc.devRef .tc main_v23) = Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_2 V (Proc.devRef .tc main_v26) = Cert.ReferenceIdeal.Step.A_main_v26 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v26
  generalize Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v23 at h_v23 ⊢
  subst h_v23
  after_reads_simp
  first | done | rfl

theorem keep2_v23 (V : Valuation τ sig (Elt F)) : after hostOps0_2 V (Proc.devRef .tc main_v23) = V (Proc.devRef .tc main_v23) := by
  after_reads_simp

theorem keep2_indices (V : Valuation τ sig (Elt F)) : after hostOps0_2 V (Proc.devRef .tc main_indices) = V (Proc.devRef .tc main_indices) := by
  after_reads_simp

theorem keep2_v10 (V : Valuation τ sig (Elt F)) : after hostOps0_2 V (Proc.devRef .tc main_v10) = V (Proc.devRef .tc main_v10) := by
  after_reads_simp

theorem keep2_v21 (V : Valuation τ sig (Elt F)) : after hostOps0_2 V (Proc.devRef .tc main_v21) = V (Proc.devRef .tc main_v21) := by
  after_reads_simp

theorem keep2_arg11 (V : Valuation τ sig (Elt F)) : after hostOps0_2 V (Proc.devRef .tc main_arg11) = V (Proc.devRef .tc main_arg11) := by
  after_reads_simp

set_option maxRecDepth 16384 in
set_option maxHeartbeats 1000000 in
theorem piece3_v27 (V : Valuation τ sig (Elt F)) (h_v26 : V (Proc.devRef .tc main_v26) = Cert.ReferenceIdeal.Step.A_main_v26 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_v21 : V (Proc.devRef .tc main_v21) = Cert.ReferenceIdeal.Step.A_main_v21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_3 V (Proc.devRef .tc main_v27) = Cert.ReferenceIdeal.Step.A_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v27
  generalize Cert.ReferenceIdeal.Step.A_main_v26 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v26 at h_v26 ⊢
  generalize Cert.ReferenceIdeal.Step.A_main_v21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v21 at h_v21 ⊢
  subst h_v26
  subst h_v21
  after_reads_simp
  first | done | rfl

theorem keep3_v25 (V : Valuation τ sig (Elt F)) : after hostOps0_3 V (Proc.devRef .tc main_v25) = V (Proc.devRef .tc main_v25) := by
  after_reads_simp

theorem keep3_v23 (V : Valuation τ sig (Elt F)) : after hostOps0_3 V (Proc.devRef .tc main_v23) = V (Proc.devRef .tc main_v23) := by
  after_reads_simp

theorem keep3_indices (V : Valuation τ sig (Elt F)) : after hostOps0_3 V (Proc.devRef .tc main_indices) = V (Proc.devRef .tc main_indices) := by
  after_reads_simp

theorem keep3_v10 (V : Valuation τ sig (Elt F)) : after hostOps0_3 V (Proc.devRef .tc main_v10) = V (Proc.devRef .tc main_v10) := by
  after_reads_simp

theorem keep3_arg11 (V : Valuation τ sig (Elt F)) : after hostOps0_3 V (Proc.devRef .tc main_arg11) = V (Proc.devRef .tc main_arg11) := by
  after_reads_simp

set_option maxRecDepth 16384 in
set_option maxHeartbeats 1000000 in
theorem piece4_v28 (V : Valuation τ sig (Elt F)) (h_v23 : V (Proc.devRef .tc main_v23) = Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_4 V (Proc.devRef .tc main_v28) = Cert.ReferenceIdeal.Step.A_main_v28 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v28
  generalize Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v23 at h_v23 ⊢
  subst h_v23
  after_reads_simp
  first | done | rfl

theorem keep4_v27 (V : Valuation τ sig (Elt F)) : after hostOps0_4 V (Proc.devRef .tc main_v27) = V (Proc.devRef .tc main_v27) := by
  after_reads_simp

theorem keep4_v25 (V : Valuation τ sig (Elt F)) : after hostOps0_4 V (Proc.devRef .tc main_v25) = V (Proc.devRef .tc main_v25) := by
  after_reads_simp

theorem keep4_v23 (V : Valuation τ sig (Elt F)) : after hostOps0_4 V (Proc.devRef .tc main_v23) = V (Proc.devRef .tc main_v23) := by
  after_reads_simp

theorem keep4_indices (V : Valuation τ sig (Elt F)) : after hostOps0_4 V (Proc.devRef .tc main_indices) = V (Proc.devRef .tc main_indices) := by
  after_reads_simp

theorem keep4_v10 (V : Valuation τ sig (Elt F)) : after hostOps0_4 V (Proc.devRef .tc main_v10) = V (Proc.devRef .tc main_v10) := by
  after_reads_simp

theorem keep4_arg11 (V : Valuation τ sig (Elt F)) : after hostOps0_4 V (Proc.devRef .tc main_arg11) = V (Proc.devRef .tc main_arg11) := by
  after_reads_simp

set_option maxRecDepth 16384 in
set_option maxHeartbeats 1000000 in
theorem piece5_v29 (V : Valuation τ sig (Elt F)) (h_v28 : V (Proc.devRef .tc main_v28) = Cert.ReferenceIdeal.Step.A_main_v28 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_v10 : V (Proc.devRef .tc main_v10) = Cert.ReferenceIdeal.Step.A_main_v10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_5 V (Proc.devRef .tc main_v29) = Cert.ReferenceIdeal.Step.A_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v29
  generalize Cert.ReferenceIdeal.Step.A_main_v28 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v28 at h_v28 ⊢
  generalize Cert.ReferenceIdeal.Step.A_main_v10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v10 at h_v10 ⊢
  subst h_v28
  subst h_v10
  after_reads_simp
  first | done | rfl

theorem keep5_v27 (V : Valuation τ sig (Elt F)) : after hostOps0_5 V (Proc.devRef .tc main_v27) = V (Proc.devRef .tc main_v27) := by
  after_reads_simp

theorem keep5_v25 (V : Valuation τ sig (Elt F)) : after hostOps0_5 V (Proc.devRef .tc main_v25) = V (Proc.devRef .tc main_v25) := by
  after_reads_simp

theorem keep5_v23 (V : Valuation τ sig (Elt F)) : after hostOps0_5 V (Proc.devRef .tc main_v23) = V (Proc.devRef .tc main_v23) := by
  after_reads_simp

theorem keep5_indices (V : Valuation τ sig (Elt F)) : after hostOps0_5 V (Proc.devRef .tc main_indices) = V (Proc.devRef .tc main_indices) := by
  after_reads_simp

theorem keep5_arg11 (V : Valuation τ sig (Elt F)) : after hostOps0_5 V (Proc.devRef .tc main_arg11) = V (Proc.devRef .tc main_arg11) := by
  after_reads_simp

set_option maxRecDepth 16384 in
set_option maxHeartbeats 1000000 in
theorem piece6_v30 (V : Valuation τ sig (Elt F)) (h_v25 : V (Proc.devRef .tc main_v25) = Cert.ReferenceIdeal.Step.A_main_v25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_6 V (Proc.devRef .tc main_v30) = Cert.ReferenceIdeal.Step.A_main_v30 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v30
  generalize Cert.ReferenceIdeal.Step.A_main_v25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v25 at h_v25 ⊢
  subst h_v25
  after_reads_simp
  first | done | rfl

theorem keep6_v29 (V : Valuation τ sig (Elt F)) : after hostOps0_6 V (Proc.devRef .tc main_v29) = V (Proc.devRef .tc main_v29) := by
  after_reads_simp

theorem keep6_v27 (V : Valuation τ sig (Elt F)) : after hostOps0_6 V (Proc.devRef .tc main_v27) = V (Proc.devRef .tc main_v27) := by
  after_reads_simp

theorem keep6_v25 (V : Valuation τ sig (Elt F)) : after hostOps0_6 V (Proc.devRef .tc main_v25) = V (Proc.devRef .tc main_v25) := by
  after_reads_simp

theorem keep6_v23 (V : Valuation τ sig (Elt F)) : after hostOps0_6 V (Proc.devRef .tc main_v23) = V (Proc.devRef .tc main_v23) := by
  after_reads_simp

theorem keep6_indices (V : Valuation τ sig (Elt F)) : after hostOps0_6 V (Proc.devRef .tc main_indices) = V (Proc.devRef .tc main_indices) := by
  after_reads_simp

theorem keep6_arg11 (V : Valuation τ sig (Elt F)) : after hostOps0_6 V (Proc.devRef .tc main_arg11) = V (Proc.devRef .tc main_arg11) := by
  after_reads_simp

set_option maxRecDepth 16384 in
set_option maxHeartbeats 1000000 in
theorem piece7_v31 (V : Valuation τ sig (Elt F)) (h_v30 : V (Proc.devRef .tc main_v30) = Cert.ReferenceIdeal.Step.A_main_v30 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_v29 : V (Proc.devRef .tc main_v29) = Cert.ReferenceIdeal.Step.A_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_7 V (Proc.devRef .tc main_v31) = Cert.ReferenceIdeal.Step.A_main_v31 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v31 Cert.ReferenceIdeal.Step.A_main_call3_v0
  generalize Cert.ReferenceIdeal.Step.A_main_v30 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v30 at h_v30 ⊢
  generalize Cert.ReferenceIdeal.Step.A_main_v29 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v29 at h_v29 ⊢
  subst h_v30
  subst h_v29
  after_reads_simp
  first | done | rfl

theorem keep7_v27 (V : Valuation τ sig (Elt F)) : after hostOps0_7 V (Proc.devRef .tc main_v27) = V (Proc.devRef .tc main_v27) := by
  after_reads_simp

theorem keep7_v25 (V : Valuation τ sig (Elt F)) : after hostOps0_7 V (Proc.devRef .tc main_v25) = V (Proc.devRef .tc main_v25) := by
  after_reads_simp

theorem keep7_v23 (V : Valuation τ sig (Elt F)) : after hostOps0_7 V (Proc.devRef .tc main_v23) = V (Proc.devRef .tc main_v23) := by
  after_reads_simp

theorem keep7_indices (V : Valuation τ sig (Elt F)) : after hostOps0_7 V (Proc.devRef .tc main_indices) = V (Proc.devRef .tc main_indices) := by
  after_reads_simp

theorem keep7_arg11 (V : Valuation τ sig (Elt F)) : after hostOps0_7 V (Proc.devRef .tc main_arg11) = V (Proc.devRef .tc main_arg11) := by
  after_reads_simp

set_option maxRecDepth 16384 in
set_option maxHeartbeats 1000000 in
theorem piece8_v106 (V : Valuation τ sig (Elt F)) (h_v31 : V (Proc.devRef .tc main_v31) = Cert.ReferenceIdeal.Step.A_main_v31 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) : after hostOps0_8 V (Proc.devRef .tc main_v116_4) = Cert.ReferenceIdeal.Step.A_main_v106 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v106 Cert.ReferenceIdeal.Step.A_main_v104 Cert.ReferenceIdeal.Step.A_main_v102 Cert.ReferenceIdeal.Step.A_main_v101 Cert.ReferenceIdeal.Step.A_main_v32 Cert.ReferenceIdeal.Step.K_main_v105 Cert.ReferenceIdeal.Step.K_main_cst_11 Cert.ReferenceIdeal.Step.K_main_v103 Cert.ReferenceIdeal.Step.K_main_cst_10
  generalize Cert.ReferenceIdeal.Step.A_main_v31 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v31 at h_v31 ⊢
  subst h_v31
  simp (disch := decide) only [readAfter, readUpto, readPieces, nullary_result', unary_result', binary_result', ternary_result', quaternary_result', reshape_result', nary4_result', unaryIndexed_result', binaryIndexed_result']
  first | done | rfl

set_option maxRecDepth 16384 in
set_option maxHeartbeats 1000000 in
theorem piece8_v112 (V : Valuation τ sig (Elt F)) (h_v27 : V (Proc.devRef .tc main_v27) = Cert.ReferenceIdeal.Step.A_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_v25 : V (Proc.devRef .tc main_v25) = Cert.ReferenceIdeal.Step.A_main_v25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_v23 : V (Proc.devRef .tc main_v23) = Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_arg11 : V (Proc.devRef .tc main_arg11) = (m ((c.tc : Thread nD τ).loc main_arg11))) : after hostOps0_8 V (Proc.devRef .tc main_v116_0) = Cert.ReferenceIdeal.Step.A_main_v112 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v112 Cert.ReferenceIdeal.Step.A_main_v111 Cert.ReferenceIdeal.Step.A_main_v110 Cert.ReferenceIdeal.Step.A_main_v108 Cert.ReferenceIdeal.Step.A_main_v107 Cert.ReferenceIdeal.Step.A_main_v100 Cert.ReferenceIdeal.Step.A_main_v98 Cert.ReferenceIdeal.Step.A_main_v96 Cert.ReferenceIdeal.Step.A_main_v95 Cert.ReferenceIdeal.Step.A_main_v94 Cert.ReferenceIdeal.Step.A_main_v93 Cert.ReferenceIdeal.Step.A_main_v92 Cert.ReferenceIdeal.Step.A_main_v91 Cert.ReferenceIdeal.Step.A_main_v90 Cert.ReferenceIdeal.Step.A_main_v88 Cert.ReferenceIdeal.Step.A_main_v87 Cert.ReferenceIdeal.Step.A_main_v85 Cert.ReferenceIdeal.Step.A_main_v84 Cert.ReferenceIdeal.Step.A_main_v82 Cert.ReferenceIdeal.Step.A_main_v81 Cert.ReferenceIdeal.Step.A_main_v79 Cert.ReferenceIdeal.Step.A_main_v78 Cert.ReferenceIdeal.Step.A_main_v77 Cert.ReferenceIdeal.Step.A_main_v76 Cert.ReferenceIdeal.Step.A_main_v75 Cert.ReferenceIdeal.Step.A_main_v74 Cert.ReferenceIdeal.Step.A_main_v73 Cert.ReferenceIdeal.Step.A_main_v72 Cert.ReferenceIdeal.Step.A_main_v71 Cert.ReferenceIdeal.Step.A_main_v70 Cert.ReferenceIdeal.Step.A_main_v69 Cert.ReferenceIdeal.Step.A_main_v68 Cert.ReferenceIdeal.Step.A_main_v67 Cert.ReferenceIdeal.Step.A_main_v66 Cert.ReferenceIdeal.Step.A_main_v65 Cert.ReferenceIdeal.Step.A_main_v64 Cert.ReferenceIdeal.Step.A_main_v63 Cert.ReferenceIdeal.Step.A_main_v62 Cert.ReferenceIdeal.Step.A_main_v61 Cert.ReferenceIdeal.Step.A_main_v60 Cert.ReferenceIdeal.Step.A_main_v59 Cert.ReferenceIdeal.Step.A_main_v58 Cert.ReferenceIdeal.Step.A_main_v57 Cert.ReferenceIdeal.Step.A_main_v56 Cert.ReferenceIdeal.Step.A_main_v55 Cert.ReferenceIdeal.Step.A_main_v54 Cert.ReferenceIdeal.Step.A_main_v53 Cert.ReferenceIdeal.Step.A_main_v51 Cert.ReferenceIdeal.Step.A_main_v50 Cert.ReferenceIdeal.Step.A_main_v49 Cert.ReferenceIdeal.Step.A_main_v48 Cert.ReferenceIdeal.Step.A_main_v47 Cert.ReferenceIdeal.Step.A_main_v46 Cert.ReferenceIdeal.Step.A_main_v44 Cert.ReferenceIdeal.Step.A_main_v43 Cert.ReferenceIdeal.Step.A_main_v42 Cert.ReferenceIdeal.Step.A_main_v41 Cert.ReferenceIdeal.Step.A_main_v40 Cert.ReferenceIdeal.Step.A_main_v39 Cert.ReferenceIdeal.Step.A_main_v38 Cert.ReferenceIdeal.Step.A_main_v37 Cert.ReferenceIdeal.Step.A_main_v36 Cert.ReferenceIdeal.Step.A_main_v34 Cert.ReferenceIdeal.Step.K_main_v109 Cert.ReferenceIdeal.Step.K_main_cst_12 Cert.ReferenceIdeal.Step.K_main_v99 Cert.ReferenceIdeal.Step.K_main_cst_9 Cert.ReferenceIdeal.Step.K_main_v97 Cert.ReferenceIdeal.Step.K_main_cst_8 Cert.ReferenceIdeal.Step.K_main_v89 Cert.ReferenceIdeal.Step.K_main_cst_7 Cert.ReferenceIdeal.Step.K_main_v86 Cert.ReferenceIdeal.Step.K_main_cst_6 Cert.ReferenceIdeal.Step.K_main_v83 Cert.ReferenceIdeal.Step.K_main_cst_5 Cert.ReferenceIdeal.Step.K_main_v80 Cert.ReferenceIdeal.Step.K_main_cst_4 Cert.ReferenceIdeal.Step.K_main_v52 Cert.ReferenceIdeal.Step.K_main_cst_3 Cert.ReferenceIdeal.Step.K_main_v45 Cert.ReferenceIdeal.Step.K_main_cst Cert.ReferenceIdeal.Step.K_main_v35 Cert.ReferenceIdeal.Step.K_main_c_2 Cert.ReferenceIdeal.Step.K_main_v33 Cert.ReferenceIdeal.Step.K_main_c_1
  generalize Cert.ReferenceIdeal.Step.A_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v27 at h_v27 ⊢
  generalize Cert.ReferenceIdeal.Step.A_main_v25 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v25 at h_v25 ⊢
  generalize Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v23 at h_v23 ⊢
  generalize (m ((c.tc : Thread nD τ).loc main_arg11)) = x_arg11 at h_arg11 ⊢
  subst h_v27
  subst h_v25
  subst h_v23
  subst h_arg11
  simp (disch := decide) only [readAfter, readUpto, readPieces, nullary_result', unary_result', binary_result', ternary_result', quaternary_result', reshape_result', nary4_result', unaryIndexed_result', binaryIndexed_result']
  first | done | rfl

set_option maxRecDepth 16384 in
set_option maxHeartbeats 1000000 in
theorem piece8_v100 (V : Valuation τ sig (Elt F)) (h_v27 : V (Proc.devRef .tc main_v27) = Cert.ReferenceIdeal.Step.A_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_v23 : V (Proc.devRef .tc main_v23) = Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11))) (h_arg11 : V (Proc.devRef .tc main_arg11) = (m ((c.tc : Thread nD τ).loc main_arg11))) : after hostOps0_8 V (Proc.devRef .tc main_v116_1) = Cert.ReferenceIdeal.Step.A_main_v100 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) := by
  delta Cert.ReferenceIdeal.Step.A_main_v100 Cert.ReferenceIdeal.Step.A_main_v98 Cert.ReferenceIdeal.Step.A_main_v96 Cert.ReferenceIdeal.Step.A_main_v95 Cert.ReferenceIdeal.Step.A_main_v94 Cert.ReferenceIdeal.Step.A_main_v93 Cert.ReferenceIdeal.Step.A_main_v92 Cert.ReferenceIdeal.Step.A_main_v91 Cert.ReferenceIdeal.Step.A_main_v90 Cert.ReferenceIdeal.Step.A_main_v88 Cert.ReferenceIdeal.Step.A_main_v87 Cert.ReferenceIdeal.Step.A_main_v85 Cert.ReferenceIdeal.Step.A_main_v84 Cert.ReferenceIdeal.Step.A_main_v82 Cert.ReferenceIdeal.Step.A_main_v81 Cert.ReferenceIdeal.Step.A_main_v79 Cert.ReferenceIdeal.Step.A_main_v78 Cert.ReferenceIdeal.Step.A_main_v77 Cert.ReferenceIdeal.Step.A_main_v76 Cert.ReferenceIdeal.Step.A_main_v75 Cert.ReferenceIdeal.Step.A_main_v74 Cert.ReferenceIdeal.Step.A_main_v73 Cert.ReferenceIdeal.Step.A_main_v72 Cert.ReferenceIdeal.Step.A_main_v71 Cert.ReferenceIdeal.Step.A_main_v70 Cert.ReferenceIdeal.Step.A_main_v69 Cert.ReferenceIdeal.Step.A_main_v68 Cert.ReferenceIdeal.Step.A_main_v67 Cert.ReferenceIdeal.Step.A_main_v66 Cert.ReferenceIdeal.Step.A_main_v65 Cert.ReferenceIdeal.Step.A_main_v64 Cert.ReferenceIdeal.Step.A_main_v63 Cert.ReferenceIdeal.Step.A_main_v62 Cert.ReferenceIdeal.Step.A_main_v61 Cert.ReferenceIdeal.Step.A_main_v60 Cert.ReferenceIdeal.Step.A_main_v59 Cert.ReferenceIdeal.Step.A_main_v58 Cert.ReferenceIdeal.Step.A_main_v57 Cert.ReferenceIdeal.Step.A_main_v56 Cert.ReferenceIdeal.Step.A_main_v55 Cert.ReferenceIdeal.Step.A_main_v54 Cert.ReferenceIdeal.Step.A_main_v53 Cert.ReferenceIdeal.Step.A_main_v51 Cert.ReferenceIdeal.Step.A_main_v50 Cert.ReferenceIdeal.Step.A_main_v49 Cert.ReferenceIdeal.Step.A_main_v48 Cert.ReferenceIdeal.Step.A_main_v47 Cert.ReferenceIdeal.Step.A_main_v46 Cert.ReferenceIdeal.Step.A_main_v44 Cert.ReferenceIdeal.Step.A_main_v43 Cert.ReferenceIdeal.Step.A_main_v42 Cert.ReferenceIdeal.Step.A_main_v41 Cert.ReferenceIdeal.Step.A_main_v40 Cert.ReferenceIdeal.Step.A_main_v39 Cert.ReferenceIdeal.Step.A_main_v38 Cert.ReferenceIdeal.Step.A_main_v37 Cert.ReferenceIdeal.Step.A_main_v36 Cert.ReferenceIdeal.Step.A_main_v34 Cert.ReferenceIdeal.Step.K_main_v99 Cert.ReferenceIdeal.Step.K_main_cst_9 Cert.ReferenceIdeal.Step.K_main_v97 Cert.ReferenceIdeal.Step.K_main_cst_8 Cert.ReferenceIdeal.Step.K_main_v89 Cert.ReferenceIdeal.Step.K_main_cst_7 Cert.ReferenceIdeal.Step.K_main_v86 Cert.ReferenceIdeal.Step.K_main_cst_6 Cert.ReferenceIdeal.Step.K_main_v83 Cert.ReferenceIdeal.Step.K_main_cst_5 Cert.ReferenceIdeal.Step.K_main_v80 Cert.ReferenceIdeal.Step.K_main_cst_4 Cert.ReferenceIdeal.Step.K_main_v52 Cert.ReferenceIdeal.Step.K_main_cst_3 Cert.ReferenceIdeal.Step.K_main_v45 Cert.ReferenceIdeal.Step.K_main_cst Cert.ReferenceIdeal.Step.K_main_v35 Cert.ReferenceIdeal.Step.K_main_c_2 Cert.ReferenceIdeal.Step.K_main_v33 Cert.ReferenceIdeal.Step.K_main_c_1
  generalize Cert.ReferenceIdeal.Step.A_main_v27 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v27 at h_v27 ⊢
  generalize Cert.ReferenceIdeal.Step.A_main_v23 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) = x_v23 at h_v23 ⊢
  generalize (m ((c.tc : Thread nD τ).loc main_arg11)) = x_arg11 at h_arg11 ⊢
  subst h_v27
  subst h_v23
  subst h_arg11
  simp (disch := decide) only [readAfter, readUpto, readPieces, nullary_result', unary_result', binary_result', ternary_result', quaternary_result', reshape_result', nary4_result', unaryIndexed_result', binaryIndexed_result']
  first | done | rfl

set_option maxRecDepth 65536 in
set_option maxHeartbeats 4000000 in
theorem entry_4 : entryContents preI m c (Proc.devRef .tc main_v116_4) = (initState m c).main_v116_4 := by
  simp only [entryContents, afterL_cons, afterL_nil]
  have k0_v10 := first_v10 m c
  have k0_v21 := first_v21 m c
  have k0_indices := first_indices m c
  have k0_c := first_c m c
  have k0_arg11 := first_arg11 m c
  generalize after hostOps0 (launchContents m c) = V1 at k0_v10 k0_v21 k0_indices k0_c k0_arg11 ⊢
  have k1_v23 := piece1_v23 m c V1 k0_indices k0_c
  have k1_indices := (keep1_indices V1).trans k0_indices
  have k1_v10 := (keep1_v10 V1).trans k0_v10
  have k1_v21 := (keep1_v21 V1).trans k0_v21
  have k1_arg11 := (keep1_arg11 V1).trans k0_arg11
  generalize after hostOps0_1 V1 = V2 at k1_v23 k1_indices k1_v10 k1_v21 k1_arg11 ⊢
  have k2_v25 := piece2_v25 m c V2 k1_indices
  have k2_v26 := piece2_v26 m c V2 k1_v23
  have k2_v23 := (keep2_v23 V2).trans k1_v23
  have k2_indices := (keep2_indices V2).trans k1_indices
  have k2_v10 := (keep2_v10 V2).trans k1_v10
  have k2_v21 := (keep2_v21 V2).trans k1_v21
  have k2_arg11 := (keep2_arg11 V2).trans k1_arg11
  generalize after hostOps0_2 V2 = V3 at k2_v25 k2_v26 k2_v23 k2_indices k2_v10 k2_v21 k2_arg11 ⊢
  have k3_v27 := piece3_v27 m c V3 k2_v26 k2_v21
  have k3_v25 := (keep3_v25 V3).trans k2_v25
  have k3_v23 := (keep3_v23 V3).trans k2_v23
  have k3_indices := (keep3_indices V3).trans k2_indices
  have k3_v10 := (keep3_v10 V3).trans k2_v10
  have k3_arg11 := (keep3_arg11 V3).trans k2_arg11
  generalize after hostOps0_3 V3 = V4 at k3_v27 k3_v25 k3_v23 k3_indices k3_v10 k3_arg11 ⊢
  have k4_v28 := piece4_v28 m c V4 k3_v23
  have k4_v27 := (keep4_v27 V4).trans k3_v27
  have k4_v25 := (keep4_v25 V4).trans k3_v25
  have k4_v23 := (keep4_v23 V4).trans k3_v23
  have k4_indices := (keep4_indices V4).trans k3_indices
  have k4_v10 := (keep4_v10 V4).trans k3_v10
  have k4_arg11 := (keep4_arg11 V4).trans k3_arg11
  generalize after hostOps0_4 V4 = V5 at k4_v28 k4_v27 k4_v25 k4_v23 k4_indices k4_v10 k4_arg11 ⊢
  have k5_v29 := piece5_v29 m c V5 k4_v28 k4_v10
  have k5_v27 := (keep5_v27 V5).trans k4_v27
  have k5_v25 := (keep5_v25 V5).trans k4_v25
  have k5_v23 := (keep5_v23 V5).trans k4_v23
  have k5_indices := (keep5_indices V5).trans k4_indices
  have k5_arg11 := (keep5_arg11 V5).trans k4_arg11
  generalize after hostOps0_5 V5 = V6 at k5_v29 k5_v27 k5_v25 k5_v23 k5_indices k5_arg11 ⊢
  have k6_v30 := piece6_v30 m c V6 k5_v25
  have k6_v29 := (keep6_v29 V6).trans k5_v29
  have k6_v27 := (keep6_v27 V6).trans k5_v27
  have k6_v25 := (keep6_v25 V6).trans k5_v25
  have k6_v23 := (keep6_v23 V6).trans k5_v23
  have k6_indices := (keep6_indices V6).trans k5_indices
  have k6_arg11 := (keep6_arg11 V6).trans k5_arg11
  generalize after hostOps0_6 V6 = V7 at k6_v30 k6_v29 k6_v27 k6_v25 k6_v23 k6_indices k6_arg11 ⊢
  have k7_v31 := piece7_v31 m c V7 k6_v30 k6_v29
  have k7_v27 := (keep7_v27 V7).trans k6_v27
  have k7_v25 := (keep7_v25 V7).trans k6_v25
  have k7_v23 := (keep7_v23 V7).trans k6_v23
  have k7_indices := (keep7_indices V7).trans k6_indices
  have k7_arg11 := (keep7_arg11 V7).trans k6_arg11
  generalize after hostOps0_7 V7 = V8 at k7_v31 k7_v27 k7_v25 k7_v23 k7_indices k7_arg11 ⊢
  exact piece8_v106 m c V8 k7_v31
set_option maxRecDepth 65536 in
set_option maxHeartbeats 4000000 in
theorem entry_5 : entryContents preI m c (Proc.devRef .tc main_v116_5) = (initState m c).main_v116_5 := by
  simp only [entryContents, afterL_cons, afterL_nil]; after_reads_simp
  rfl
set_option maxRecDepth 65536 in
set_option maxHeartbeats 4000000 in
theorem entry_6 : entryContents preI m c (Proc.devRef .tc main_v116_6) = (initState m c).main_v116_6 := by
  simp only [entryContents, afterL_cons, afterL_nil]; after_reads_simp
  rfl
set_option maxRecDepth 65536 in
set_option maxHeartbeats 4000000 in
theorem entry_7 : entryContents preI m c (Proc.devRef .tc main_v116_7) = (initState m c).main_v116_7 := by
  simp only [entryContents, afterL_cons, afterL_nil]; after_reads_simp
  rfl
set_option maxRecDepth 65536 in
set_option maxHeartbeats 4000000 in
theorem entry_0 : entryContents preI m c (Proc.devRef .tc main_v116_0) = (initState m c).main_v116_0 := by
  simp only [entryContents, afterL_cons, afterL_nil]
  have k0_v10 := first_v10 m c
  have k0_v21 := first_v21 m c
  have k0_indices := first_indices m c
  have k0_c := first_c m c
  have k0_arg11 := first_arg11 m c
  generalize after hostOps0 (launchContents m c) = V1 at k0_v10 k0_v21 k0_indices k0_c k0_arg11 ⊢
  have k1_v23 := piece1_v23 m c V1 k0_indices k0_c
  have k1_indices := (keep1_indices V1).trans k0_indices
  have k1_v10 := (keep1_v10 V1).trans k0_v10
  have k1_v21 := (keep1_v21 V1).trans k0_v21
  have k1_arg11 := (keep1_arg11 V1).trans k0_arg11
  generalize after hostOps0_1 V1 = V2 at k1_v23 k1_indices k1_v10 k1_v21 k1_arg11 ⊢
  have k2_v25 := piece2_v25 m c V2 k1_indices
  have k2_v26 := piece2_v26 m c V2 k1_v23
  have k2_v23 := (keep2_v23 V2).trans k1_v23
  have k2_indices := (keep2_indices V2).trans k1_indices
  have k2_v10 := (keep2_v10 V2).trans k1_v10
  have k2_v21 := (keep2_v21 V2).trans k1_v21
  have k2_arg11 := (keep2_arg11 V2).trans k1_arg11
  generalize after hostOps0_2 V2 = V3 at k2_v25 k2_v26 k2_v23 k2_indices k2_v10 k2_v21 k2_arg11 ⊢
  have k3_v27 := piece3_v27 m c V3 k2_v26 k2_v21
  have k3_v25 := (keep3_v25 V3).trans k2_v25
  have k3_v23 := (keep3_v23 V3).trans k2_v23
  have k3_indices := (keep3_indices V3).trans k2_indices
  have k3_v10 := (keep3_v10 V3).trans k2_v10
  have k3_arg11 := (keep3_arg11 V3).trans k2_arg11
  generalize after hostOps0_3 V3 = V4 at k3_v27 k3_v25 k3_v23 k3_indices k3_v10 k3_arg11 ⊢
  have k4_v28 := piece4_v28 m c V4 k3_v23
  have k4_v27 := (keep4_v27 V4).trans k3_v27
  have k4_v25 := (keep4_v25 V4).trans k3_v25
  have k4_v23 := (keep4_v23 V4).trans k3_v23
  have k4_indices := (keep4_indices V4).trans k3_indices
  have k4_v10 := (keep4_v10 V4).trans k3_v10
  have k4_arg11 := (keep4_arg11 V4).trans k3_arg11
  generalize after hostOps0_4 V4 = V5 at k4_v28 k4_v27 k4_v25 k4_v23 k4_indices k4_v10 k4_arg11 ⊢
  have k5_v29 := piece5_v29 m c V5 k4_v28 k4_v10
  have k5_v27 := (keep5_v27 V5).trans k4_v27
  have k5_v25 := (keep5_v25 V5).trans k4_v25
  have k5_v23 := (keep5_v23 V5).trans k4_v23
  have k5_indices := (keep5_indices V5).trans k4_indices
  have k5_arg11 := (keep5_arg11 V5).trans k4_arg11
  generalize after hostOps0_5 V5 = V6 at k5_v29 k5_v27 k5_v25 k5_v23 k5_indices k5_arg11 ⊢
  have k6_v30 := piece6_v30 m c V6 k5_v25
  have k6_v29 := (keep6_v29 V6).trans k5_v29
  have k6_v27 := (keep6_v27 V6).trans k5_v27
  have k6_v25 := (keep6_v25 V6).trans k5_v25
  have k6_v23 := (keep6_v23 V6).trans k5_v23
  have k6_indices := (keep6_indices V6).trans k5_indices
  have k6_arg11 := (keep6_arg11 V6).trans k5_arg11
  generalize after hostOps0_6 V6 = V7 at k6_v30 k6_v29 k6_v27 k6_v25 k6_v23 k6_indices k6_arg11 ⊢
  have k7_v31 := piece7_v31 m c V7 k6_v30 k6_v29
  have k7_v27 := (keep7_v27 V7).trans k6_v27
  have k7_v25 := (keep7_v25 V7).trans k6_v25
  have k7_v23 := (keep7_v23 V7).trans k6_v23
  have k7_indices := (keep7_indices V7).trans k6_indices
  have k7_arg11 := (keep7_arg11 V7).trans k6_arg11
  generalize after hostOps0_7 V7 = V8 at k7_v31 k7_v27 k7_v25 k7_v23 k7_indices k7_arg11 ⊢
  exact piece8_v112 m c V8 k7_v27 k7_v25 k7_v23 k7_arg11
set_option maxRecDepth 65536 in
set_option maxHeartbeats 4000000 in
theorem entry_1 : entryContents preI m c (Proc.devRef .tc main_v116_1) = (initState m c).main_v116_1 := by
  simp only [entryContents, afterL_cons, afterL_nil]
  have k0_v10 := first_v10 m c
  have k0_v21 := first_v21 m c
  have k0_indices := first_indices m c
  have k0_c := first_c m c
  have k0_arg11 := first_arg11 m c
  generalize after hostOps0 (launchContents m c) = V1 at k0_v10 k0_v21 k0_indices k0_c k0_arg11 ⊢
  have k1_v23 := piece1_v23 m c V1 k0_indices k0_c
  have k1_indices := (keep1_indices V1).trans k0_indices
  have k1_v10 := (keep1_v10 V1).trans k0_v10
  have k1_v21 := (keep1_v21 V1).trans k0_v21
  have k1_arg11 := (keep1_arg11 V1).trans k0_arg11
  generalize after hostOps0_1 V1 = V2 at k1_v23 k1_indices k1_v10 k1_v21 k1_arg11 ⊢
  have k2_v25 := piece2_v25 m c V2 k1_indices
  have k2_v26 := piece2_v26 m c V2 k1_v23
  have k2_v23 := (keep2_v23 V2).trans k1_v23
  have k2_indices := (keep2_indices V2).trans k1_indices
  have k2_v10 := (keep2_v10 V2).trans k1_v10
  have k2_v21 := (keep2_v21 V2).trans k1_v21
  have k2_arg11 := (keep2_arg11 V2).trans k1_arg11
  generalize after hostOps0_2 V2 = V3 at k2_v25 k2_v26 k2_v23 k2_indices k2_v10 k2_v21 k2_arg11 ⊢
  have k3_v27 := piece3_v27 m c V3 k2_v26 k2_v21
  have k3_v25 := (keep3_v25 V3).trans k2_v25
  have k3_v23 := (keep3_v23 V3).trans k2_v23
  have k3_indices := (keep3_indices V3).trans k2_indices
  have k3_v10 := (keep3_v10 V3).trans k2_v10
  have k3_arg11 := (keep3_arg11 V3).trans k2_arg11
  generalize after hostOps0_3 V3 = V4 at k3_v27 k3_v25 k3_v23 k3_indices k3_v10 k3_arg11 ⊢
  have k4_v28 := piece4_v28 m c V4 k3_v23
  have k4_v27 := (keep4_v27 V4).trans k3_v27
  have k4_v25 := (keep4_v25 V4).trans k3_v25
  have k4_v23 := (keep4_v23 V4).trans k3_v23
  have k4_indices := (keep4_indices V4).trans k3_indices
  have k4_v10 := (keep4_v10 V4).trans k3_v10
  have k4_arg11 := (keep4_arg11 V4).trans k3_arg11
  generalize after hostOps0_4 V4 = V5 at k4_v28 k4_v27 k4_v25 k4_v23 k4_indices k4_v10 k4_arg11 ⊢
  have k5_v29 := piece5_v29 m c V5 k4_v28 k4_v10
  have k5_v27 := (keep5_v27 V5).trans k4_v27
  have k5_v25 := (keep5_v25 V5).trans k4_v25
  have k5_v23 := (keep5_v23 V5).trans k4_v23
  have k5_indices := (keep5_indices V5).trans k4_indices
  have k5_arg11 := (keep5_arg11 V5).trans k4_arg11
  generalize after hostOps0_5 V5 = V6 at k5_v29 k5_v27 k5_v25 k5_v23 k5_indices k5_arg11 ⊢
  have k6_v30 := piece6_v30 m c V6 k5_v25
  have k6_v29 := (keep6_v29 V6).trans k5_v29
  have k6_v27 := (keep6_v27 V6).trans k5_v27
  have k6_v25 := (keep6_v25 V6).trans k5_v25
  have k6_v23 := (keep6_v23 V6).trans k5_v23
  have k6_indices := (keep6_indices V6).trans k5_indices
  have k6_arg11 := (keep6_arg11 V6).trans k5_arg11
  generalize after hostOps0_6 V6 = V7 at k6_v30 k6_v29 k6_v27 k6_v25 k6_v23 k6_indices k6_arg11 ⊢
  have k7_v31 := piece7_v31 m c V7 k6_v30 k6_v29
  have k7_v27 := (keep7_v27 V7).trans k6_v27
  have k7_v25 := (keep7_v25 V7).trans k6_v25
  have k7_v23 := (keep7_v23 V7).trans k6_v23
  have k7_indices := (keep7_indices V7).trans k6_indices
  have k7_arg11 := (keep7_arg11 V7).trans k6_arg11
  generalize after hostOps0_7 V7 = V8 at k7_v31 k7_v27 k7_v25 k7_v23 k7_indices k7_arg11 ⊢
  exact piece8_v100 m c V8 k7_v27 k7_v23 k7_arg11
set_option maxRecDepth 65536 in
set_option maxHeartbeats 4000000 in
theorem entry_2 : entryContents preI m c (Proc.devRef .tc main_v116_2) = (initState m c).main_v116_2 := by
  simp only [entryContents, afterL_cons, afterL_nil]; after_reads_simp
  rfl
set_option maxRecDepth 65536 in
set_option maxHeartbeats 4000000 in
theorem entry_3 : entryContents preI m c (Proc.devRef .tc main_v116_3) = constantI S_ 32 (BitVec.ofNat 32 0) := by
  simp only [entryContents, afterL_cons, afterL_nil]; after_reads_simp
  rfl
/-- What @main's operations before the loop leave: the set-up values, number 0, the initial state. -/
theorem entry_holds : Holds (entryContents preI m c) (initState m c) 0 :=
  ⟨entry_4 m c, entry_5 m c, entry_6 m c, entry_7 m c, entry_0 m c, entry_1 m c, entry_2 m c, entry_3 m c⟩

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 100 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v143) = Cert.ReferenceIdeal.Step.R_main_v143 (it c 100) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 100
    ⟨(h c).1.trans (out_main_v143_holds hk (iter_main_arg10 m c 100)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.Rounds

end
-- ==== Proof.Greedy.lean ====
/-
  Greedy suppression of one image's five thousand candidates as plain mathematics, and what a reduction over the kernel's
  8 × 640 lanes finds of it: the largest score, the first candidate that has it, and that candidate's numbers.
-/
module

public import Idealize.ShloMosaic.Lib.Pointwise

@[expose] public section

noncomputable section

namespace Cert.Greedy

open Idealize.ShloMosaic

/-- The lanes a candidate array is laid out over. -/
abbrev Lane : Type := Fin 8 × Fin 640

/-- The lane of a candidate. -/
def lane (n : Fin 5000) : Lane := (⟨n.val / 640, by omega⟩, ⟨n.val % 640, by omega⟩)

/-- The number of a lane in reading order. -/
def flat (x : Lane) : ℕ := x.1.val * 640 + x.2.val

theorem flat_lane (n : Fin 5000) : flat (lane n) = n.val := by
  simp only [flat, lane]; omega

theorem flat_inj {x y : Lane} (h : flat x = flat y) : x = y := by
  simp only [flat] at h
  have h1 := x.2.isLt
  have h2 := y.2.isLt
  ext
  · omega
  · omega

theorem lane_inj {m n : Fin 5000} (h : lane m = lane n) : m = n := by
  have := congrArg flat h
  rw [flat_lane, flat_lane] at this
  exact Fin.ext this

/-- A lane below 5000 is a candidate's. -/
theorem eq_lane (x : Lane) (h : flat x < 5000) : x = lane ⟨flat x, h⟩ := flat_inj (by rw [flat_lane])

/-- The overlap of two boxes (top, left, bottom, right) is more than half their union. -/
def Overlaps (b q : Fin 4 → EReal) : Prop :=
  Ideal.ofBits FTy.f32 0x3F000000#32 <
    Ideal.div (max 0 (min (b 2) (q 2) - max (b 0) (q 0)) * max 0 (min (b 3) (q 3) - max (b 1) (q 1)))
      ((b 2 - b 0) * (b 3 - b 1) + (q 2 - q 0) * (q 3 - q 1)
          - max 0 (min (b 2) (q 2) - max (b 0) (q 0)) * max 0 (min (b 3) (q 3) - max (b 1) (q 1))
        + Ideal.ofBits FTy.f32 0x322BCC77#32)

/-- The score of a struck candidate. -/
def gone : EReal := Ideal.ofBits FTy.f32 0xCE6E6B28#32

/-- The first of the candidates with the largest score. -/
structure IsPick (sw : Fin 5000 → EReal) (p : Fin 5000) : Prop where
  top : ∀ n, sw n ≤ sw p
  first : ∀ n, sw n = sw p → p ≤ n

theorem IsPick.unique {sw : Fin 5000 → EReal} {p q : Fin 5000} (h : IsPick sw p) (h' : IsPick sw q) : p = q :=
  le_antisymm (h.first q (le_antisymm (h.top q) (h'.top p))) (h'.first p (le_antisymm (h'.top p) (h.top q)))

open Classical in
/-- The scores after a round that picks `p`: it and what overlaps it are struck. -/
def struck (bn : Fin 5000 → Fin 4 → EReal) (sw : Fin 5000 → EReal) (p n : Fin 5000) : EReal :=
  if n = p then gone else if Overlaps (bn p) (bn n) then gone else sw n

theorem ninf : Ideal.ofBits FTy.f32 0xFF800000#32 = (⊥ : EReal) := by
  simp [Ideal.ofBits, Ideal.ieee]
theorem pinf : Ideal.ofBits FTy.f32 0x7F800000#32 = (⊤ : EReal) := by
  simp [Ideal.ofBits, Ideal.ieee]
theorem billion : Ideal.ofBits FTy.f32 0x4E6E6B28#32 = ((1000000000 : ℝ) : EReal) := by
  simp [Ideal.ofBits, Ideal.ieee, -EReal.coe_mul]; norm_num
theorem gone_eq : gone = ((-1000000000 : ℝ) : EReal) := by
  simp [gone, Ideal.ofBits, Ideal.ieee, -EReal.coe_mul, -EReal.coe_neg]; norm_num
theorem gone_neg : gone < 0 := by
  rw [gone_eq]; exact_mod_cast (by norm_num : (-1000000000 : ℝ) < 0)

/-- Scores over the lanes: the candidates' at their lanes, and something negative at the lanes that hold no candidate. -/
structure Lies (a : Lane → EReal) (sw : Fin 5000 → EReal) : Prop where
  at_lane : ∀ n, a (lane n) = sw n
  off_lane : ∀ x, 5000 ≤ flat x → a x < 0

variable {a : Lane → EReal} {sw : Fin 5000 → EReal} {p : Fin 5000}

theorem Lies.le (h : Lies a sw) (hp : IsPick sw p) (h0 : 0 ≤ sw p) (x : Lane) : a x ≤ sw p := by
  by_cases hx : flat x < 5000
  · rw [eq_lane x hx, h.at_lane]; exact hp.top _
  · exact (h.off_lane x (by omega)).le.trans h0

theorem fold_max (h : Lies a sw) (hp : IsPick sw p) (h0 : 0 ≤ sw p) :
    Finset.fold max (Ideal.ofBits FTy.f32 0xFF800000#32) a Finset.univ = sw p := by
  rw [ninf]
  apply le_antisymm
  · rw [Finset.fold_max_le]
    exact ⟨bot_le, fun x _ => h.le hp h0 x⟩
  · rw [Finset.le_fold_max]
    exact Or.inr ⟨lane p, Finset.mem_univ _, (h.at_lane p).ge⟩

open Classical in
theorem fold_min (h : Lies a sw) (hp : IsPick sw p) (h0 : 0 ≤ sw p) :
    Finset.fold min (Ideal.ofBits FTy.f32 0x7F800000#32)
      (fun x => if a x = sw p then (((flat x : ℕ) : ℝ) : EReal) else Ideal.ofBits FTy.f32 0x4E6E6B28#32) Finset.univ
      = (((p.val : ℕ) : ℝ) : EReal) := by
  rw [pinf, billion]
  apply le_antisymm
  · rw [Finset.fold_min_le]
    refine Or.inr ⟨lane p, Finset.mem_univ _, ?_⟩
    rw [if_pos (h.at_lane p), flat_lane]
  · rw [Finset.le_fold_min]
    refine ⟨le_top, fun x _ => ?_⟩
    split
    · rename_i e
      by_cases hx : flat x < 5000
      · rw [eq_lane x hx, h.at_lane] at e
        have := hp.first _ e
        exact_mod_cast (show p.val ≤ flat x from this)
      · exact absurd (h.off_lane x (by omega)) (not_lt.mpr (e ▸ h0))
    · have := p.isLt
      exact_mod_cast (show ((p.val : ℕ) : ℝ) ≤ 1000000000 by
        have : ((p.val : ℕ) : ℝ) ≤ 5000 := by exact_mod_cast this.le
        linarith)

/-- A sum over the lanes that keeps one of them. -/
theorem sum_pick (M : Lane → BitVec 1) (v : Lane → EReal) (hM : ∀ x, M x = BitVec.ofBool (decide (x = lane p))) :
    (∑ r : Fin 8, ∑ l : Fin 640, Scalar.select (M (r, l)) (v (r, l)) 0) = v (lane p) := by
  have h : ∀ x : Lane, Scalar.select (M x) (v x) 0 = if x = lane p then v (lane p) else 0 := by
    intro x
    rw [hM]
    by_cases e : x = lane p
    · subst e; simp [Scalar.select]
    · simp [e, Scalar.select]
  rw [← Fintype.sum_prod_type' (f := fun r l => Scalar.select (M (r, l)) (v (r, l)) (0 : EReal))]
  simp [h]

/-- Scores after a round lie over the lanes as the scores before did. -/
theorem Lies.next {bn : Fin 5000 → Fin 4 → EReal} {a' : Lane → EReal} (h : Lies a sw)
    (h1 : ∀ n, a' (lane n) = struck bn sw p n) (h2 : ∀ x, 5000 ≤ flat x → a' x = gone ∨ a' x = a x) :
    Lies a' (struck bn sw p) :=
  ⟨h1, fun x hx => (h2 x hx).elim (fun e => e ▸ gone_neg) (fun e => e ▸ h.off_lane x hx)⟩

/-- Rounds: each picks the best candidate, whose score is not negative, and strikes. -/
structure Rounds (bn : Fin 5000 → Fin 4 → EReal) (sws : ℕ → Fin 5000 → EReal) (picks : ℕ → Fin 5000) : Prop where
  pick : ∀ k, IsPick (sws k) (picks k)
  next : ∀ k, sws (k + 1) = struck bn (sws k) (picks k)
  live : ∀ k < 100, 0 ≤ sws k (picks k)

/-- The largest score of a round is at most that of the round before, unless it is a struck one. -/
theorem live_of_next {bn : Fin 5000 → Fin 4 → EReal} {q : Fin 5000} (hp : IsPick sw p) (h : 0 ≤ struck bn sw p q) : 0 ≤ sw p := by
  unfold struck at h
  split at h
  · exact absurd gone_neg (not_lt.mpr h)
  · split at h
    · exact absurd gone_neg (not_lt.mpr h)
    · exact h.trans (hp.top q)

/-- If the hundredth round still finds a live candidate, so does every round before. -/
theorem live_of_last {bn : Fin 5000 → Fin 4 → EReal} {sws : ℕ → Fin 5000 → EReal} {picks : ℕ → Fin 5000}
    (hp : ∀ k, IsPick (sws k) (picks k)) (hn : ∀ k, sws (k + 1) = struck bn (sws k) (picks k))
    (h : 0 ≤ sws 99 (picks 99)) : Rounds bn sws picks := by
  refine ⟨hp, hn, ?_⟩
  have : ∀ d ≤ 99, 0 ≤ sws (99 - d) (picks (99 - d)) := by
    intro d
    induction d with
    | zero => intro _; exact h
    | succ d ih =>
      intro hd
      have h' := ih (by omega)
      have e : 99 - d = (99 - (d + 1)) + 1 := by omega
      rw [e, hn] at h'
      exact live_of_next (hp _) h'
  intro k hk
  have := this (99 - k) (by omega)
  rwa [show 99 - (99 - k) = k by omega] at this

/-- A fold over the numbers below `n` keeps an invariant counted by them. -/
theorem fold_keeps {α : Type} {n : ℕ} (g : Fin n → α → α) (I : ℕ → α → Prop) (init : α) (h0 : I 0 init)
    (hs : ∀ (k : Fin n) a, I k.val a → I (k.val + 1) (g k a)) : I n ((List.finRange n).foldl (fun acc k => g k acc) init) := by
  induction n with
  | zero => simpa using h0
  | succ n ih =>
    rw [List.finRange_succ_last, List.foldl_append, List.foldl_map]
    exact hs (Fin.last n) _ (ih (fun k => g k.castSucc) (fun k a => hs k.castSucc a))

end Cert.Greedy
-- ==== Proof.KRound.lean ====
/-
  One round of the kernel's loop over its 8 × 640 lanes, as a round of greedy suppression.
-/
module

public import proofs.«01_k».proof.Proof.RunIdeal
public import proofs.«01_k».proof.Proof.Greedy

@[expose] public section

noncomputable section

namespace Cert.KernelIdeal.Nms

open Cert.KernelIdeal Cert.KernelIdeal.Gen
open Idealize.ShloMosaic Idealize.ShloMosaic.TcCoe
open Cert.Greedy

/-- An 8 × 640 array by its lanes. -/
def lanes {α : Type} (a : S8x640.Idx → α) (x : Lane) : α := a (ix2 x.1 x.2)

/-- The lanes' numbers as the kernel computes them. -/
abbrev num : FVec Ideal S8x640 .f32 := k0_pay39 (k0_pay37 (F := Ideal)) (k0_pay38 (F := Ideal))

theorem sitofp_ofNat (n : ℕ) (h : n < 2 ^ 31) : FloatOps.sitofp (F := Ideal) FTy.f32 (BitVec.ofNat 32 n) = (((n : ℕ) : ℝ) : EReal) := by
  show (((BitVec.ofNat 32 n).toInt : ℝ) : EReal) = _
  have e : (BitVec.ofNat 32 n).toNat = n := by rw [BitVec.toNat_ofNat, Nat.mod_eq_of_lt (by omega)]
  rw [BitVec.toInt_eq_toNat_of_lt (by omega), e]
  norm_num

theorem iv_toInt (n : ℕ) (h : n < 2 ^ 31) : (((Scf.iv 0#32 1#32 n).toInt : ℝ) : EReal) = (((n : ℕ) : ℝ) : EReal) := by
  have e : Scf.iv 0#32 1#32 n = BitVec.ofNat 32 n := by simp [Scf.iv]
  rw [e]
  exact sitofp_ofNat n h

theorem six_forty : Ideal.ofBits FTy.f32 0x44200000#32 = ((640 : ℝ) : EReal) := by
  simp [Ideal.ofBits, Ideal.ieee, -EReal.coe_mul]; norm_num

theorem num_at (x : Lane) : lanes num x = (((flat x : ℕ) : ℝ) : EReal) := by
  unfold lanes num k0_pay39 k0_pay38 k0_pay37
  pointwise
  have h1 := x.1.isLt
  have h2 := x.2.isLt
  rw [sitofp_ofNat _ (by omega), sitofp_ofNat _ (by omega), six_forty, ← EReal.coe_mul, ← EReal.coe_add]
  unfold flat
  push_cast
  rfl

theorem max_at (a : FVec Ideal S8x640 .f32) :
    k0_pay11 a = Finset.fold max (Ideal.ofBits FTy.f32 0xFF800000#32) (lanes a) Finset.univ := by
  unfold k0_pay11
  pointwise
  rfl

open Classical in
theorem mask_at (a : FVec Ideal S8x640 .f32) (x : Lane) :
    lanes (k0_pay12 num a) x = BitVec.ofBool (decide (lanes num x = Finset.fold min (Ideal.ofBits FTy.f32 0x7F800000#32)
      (fun y => if lanes a y = k0_pay11 a then lanes num y else Ideal.ofBits FTy.f32 0x4E6E6B28#32) Finset.univ)) := by
  unfold lanes k0_pay12
  generalize k0_pay11 a = M
  generalize num = v28
  pointwise

theorem sum13 (v28 v a : FVec Ideal S8x640 .f32) : k0_pay13 v28 v a
    = ∑ r : Fin 8, ∑ l : Fin 640, Scalar.select (lanes (k0_pay12 v28 a) (r, l)) (lanes v (r, l)) 0 := by
  unfold k0_pay13 lanes
  generalize k0_pay12 v28 a = M
  pointwise
theorem sum14 (v28 v a : FVec Ideal S8x640 .f32) : k0_pay14 v28 v a = k0_pay13 v28 v a := rfl
theorem sum15 (v28 v a : FVec Ideal S8x640 .f32) : k0_pay15 v28 v a = k0_pay13 v28 v a := rfl
theorem sum16 (v28 v a : FVec Ideal S8x640 .f32) : k0_pay16 v28 v a = k0_pay13 v28 v a := rfl
theorem sum17 (v28 v a : FVec Ideal S8x640 .f32) : k0_pay17 v28 v a = k0_pay13 v28 v a := rfl

section
variable {a : FVec Ideal S8x640 .f32} {sw : Fin 5000 → EReal} {p : Fin 5000}
  (h : Lies (lanes a) sw) (hp : IsPick sw p) (h0 : 0 ≤ sw p)
include h hp h0

theorem max_eq : k0_pay11 a = sw p := (max_at a).trans (fold_max h hp h0)

theorem mask_eq (x : Lane) : lanes (k0_pay12 num a) x = BitVec.ofBool (decide (x = lane p)) := by
  rw [mask_at, max_eq h hp h0]
  simp only [num_at]
  rw [fold_min h hp h0]
  congr 1
  rw [decide_eq_decide]
  constructor
  · intro e
    exact flat_inj (by rw [flat_lane]; exact_mod_cast e)
  · intro e
    rw [e, flat_lane]

theorem pick_eq (v : FVec Ideal S8x640 .f32) : k0_pay13 num v a = lanes v (lane p) := by
  rw [sum13]
  exact sum_pick _ _ (mask_eq h hp h0)

end

theorem new_at (v81 v82 v83 v86 a v141 : FVec Ideal S8x640 .f32) (v109 : IVec S8x640 1) (p0 p1 p2 p3 : Ideal .f32) (x : Lane) :
    lanes (k0_pay19 v81 v82 v83 v86 a v109 p0 p1 p2 p3 v141) x = Scalar.select (lanes v109 x) gone
      (if Ideal.ofBits FTy.f32 0x3F000000#32 <
          Ideal.div (max 0 (min p2 (lanes v82 x) - lanes v141 x) * max 0 (min p3 (lanes v83 x) - max p1 (lanes v81 x)))
            ((p2 - p0) * (p3 - p1) + lanes v86 x - max 0 (min p2 (lanes v82 x) - lanes v141 x) * max 0 (min p3 (lanes v83 x) - max p1 (lanes v81 x))
              + Ideal.ofBits FTy.f32 0x322BCC77#32) then gone else lanes a x) := by
  unfold k0_pay19 lanes gone
  pointwise

theorem area_at (v21 v53 v60 v67 v72 : FVec Ideal S8x640 .f32) (c : Ideal .f32) (x : Lane) :
    lanes (k0_pay7 v21 v53 v60 v67 c v72) x = (lanes (k0_pay5 v21 v67) x - lanes (k0_pay3 v21 v53) x)
      * (lanes (k0_pay6 v21 c v72) x - lanes (k0_pay4 v21 v60) x) := by
  unfold k0_pay7 lanes
  generalize k0_pay6 v21 c v72 = e
  generalize k0_pay5 v21 v67 = e
  generalize k0_pay4 v21 v60 = e
  generalize k0_pay3 v21 v53 = e
  pointwise

theorem top_at (v28 v a : FVec Ideal S8x640 .f32) (x : Lane) :
    lanes (k0_pay18 v28 v a) x = max (k0_pay13 v28 v a) (lanes v x) := by
  unfold k0_pay18 lanes
  generalize k0_pay13 v28 v a = e
  pointwise

theorem box3_at (v21 v : FVec Ideal S8x640 .f32) (x : Lane) : lanes (k0_pay3 v21 v) x = lanes v x + lanes v21 x * Ideal.ofBits FTy.f32 0x44800000#32 := by
  unfold k0_pay3 k0_pay2 lanes
  pointwise
theorem box6_at (v21 v : FVec Ideal S8x640 .f32) (x : Lane) : lanes (k0_pay6 v21 (Scalar.ofBits .f32 0x44000000#32) v) x
    = min (Ideal.ofBits FTy.f32 0x44000000#32) (lanes v x) + lanes v21 x * Ideal.ofBits FTy.f32 0x44800000#32 := by
  unfold k0_pay6 k0_pay2 lanes
  pointwise
theorem off_at (v21 : FVec Ideal S8x640 .f32) (x : Lane) : lanes (k0_pay2 v21) x = lanes v21 x * Ideal.ofBits FTy.f32 0x44800000#32 := by
  unfold k0_pay2 lanes
  pointwise

/-- A row of the result with its entry `k` written. -/
theorem write_at (r : FVec Ideal S1x128 .f32) (v1 p q : Ideal .f32) (k : Fin k0_t1_loop.trips) (l : Fin 128) :
    k0_pay21 v1 (k0_pay8 (F := Ideal)) r (Scf.iv 0#32 1#32 k) p q (ix2 0 l) = if l.val = k.val then (p - q) * v1 else r (ix2 0 l) := by
  unfold k0_pay21 k0_pay20 k0_pay8
  pointwise
  have h1 := l.isLt
  have h2 : k.val < 100 := k.isLt
  rw [sitofp_ofNat _ (by omega), iv_toInt _ (by omega)]
  congr 1
  simp only [EReal.coe_eq_coe_iff, Nat.cast_inj]
theorem write22 (r : FVec Ideal S1x128 .f32) (v1 p q : Ideal .f32) (k : Fin k0_t1_loop.trips) :
    k0_pay22 v1 (k0_pay8 (F := Ideal)) r (Scf.iv 0#32 1#32 k) p q = k0_pay21 v1 (k0_pay8 (F := Ideal)) r (Scf.iv 0#32 1#32 k) p q := rfl
theorem write23 (r : FVec Ideal S1x128 .f32) (v1 p q : Ideal .f32) (k : Fin k0_t1_loop.trips) :
    k0_pay23 v1 (k0_pay8 (F := Ideal)) r (Scf.iv 0#32 1#32 k) q p = k0_pay21 v1 (k0_pay8 (F := Ideal)) r (Scf.iv 0#32 1#32 k) p q := rfl
theorem write24 (r : FVec Ideal S1x128 .f32) (v1 p q : Ideal .f32) (k : Fin k0_t1_loop.trips) :
    k0_pay24 v1 (k0_pay8 (F := Ideal)) r (Scf.iv 0#32 1#32 k) q p = k0_pay21 v1 (k0_pay8 (F := Ideal)) r (Scf.iv 0#32 1#32 k) p q := rfl
theorem write25 (r : FVec Ideal S1x128 .f32) (p : Ideal .f32) (k : Fin k0_t1_loop.trips) (l : Fin 128) :
    k0_pay25 (k0_pay8 (F := Ideal)) r (Scf.iv 0#32 1#32 k) p (ix2 0 l) = if l.val = k.val then p else r (ix2 0 l) := by
  unfold k0_pay25 k0_pay20 k0_pay8
  pointwise
  have h1 := l.isLt
  have h2 : k.val < 100 := k.isLt
  rw [sitofp_ofNat _ (by omega), iv_toInt _ (by omega)]
  congr 1
  simp only [EReal.coe_eq_coe_iff, Nat.cast_inj]
theorem write26 (r : FVec Ideal S1x128 .f32) (p : Ideal .f32) (k : Fin k0_t1_loop.trips) (l : Fin 128) :
    k0_pay26 (k0_pay8 (F := Ideal)) r (Scf.iv 0#32 1#32 k) p (ix2 0 l)
      = if l.val = k.val then p * Ideal.ofBits FTy.f32 0x3A800000#32 else r (ix2 0 l) := by
  unfold k0_pay26 k0_pay20 k0_pay8
  pointwise
  have h1 := l.isLt
  have h2 : k.val < 100 := k.isLt
  rw [sitofp_ofNat _ (by omega), iv_toInt _ (by omega)]
  congr 1
  simp only [EReal.coe_eq_coe_iff, Nat.cast_inj]

/-- The class offset's factor. -/
abbrev kilo : EReal := Ideal.ofBits FTy.f32 0x44800000#32

/-- The candidates' boxes and classes lie over the lanes of a grid point's blocks. -/
structure Holds (v21 v53 v60 v67 v72 : FVec Ideal S8x640 .f32) (B : Fin 5000 → Fin 4 → EReal) (C : Fin 5000 → EReal) : Prop where
  cls : ∀ n, lanes v21 (lane n) = C n
  y1 : ∀ n, lanes v53 (lane n) = B n 0
  x1 : ∀ n, lanes v60 (lane n) = B n 1
  y2 : ∀ n, lanes v67 (lane n) = B n 2
  x2 : ∀ n, min (Ideal.ofBits FTy.f32 0x44000000#32) (lanes v72 (lane n)) = B n 3

/-- Boxes moved apart by class. -/
def moved (B : Fin 5000 → Fin 4 → EReal) (C : Fin 5000 → EReal) (n : Fin 5000) (j : Fin 4) : EReal := B n j + C n * kilo

/-- What the loop carries after `k` rounds: the scores left, and the numbers of the candidates picked so far. -/
structure Carried (s : EReal) (B : Fin 5000 → Fin 4 → EReal) (C : Fin 5000 → EReal) (sws : ℕ → Fin 5000 → EReal) (picks : ℕ → Fin 5000)
    (k : ℕ) (acc : Carry Ideal) : Prop where
  scores : Lies (lanes acc.1) (sws k)
  sx : ∀ l : Fin 128, l.val < k → acc.2.1 (ix2 0 l) = (moved B C (picks l) 1 - C (picks l) * kilo) * s
  sy : ∀ l : Fin 128, l.val < k → acc.2.2.1 (ix2 0 l) = (moved B C (picks l) 0 - C (picks l) * kilo) * s
  sw : ∀ l : Fin 128, l.val < k → acc.2.2.2.1 (ix2 0 l) = (moved B C (picks l) 3 - moved B C (picks l) 1) * s
  sh : ∀ l : Fin 128, l.val < k → acc.2.2.2.2.1 (ix2 0 l) = (moved B C (picks l) 2 - moved B C (picks l) 0) * s
  ss : ∀ l : Fin 128, l.val < k → acc.2.2.2.2.2.1 (ix2 0 l) = sws l (picks l)
  sc : ∀ l : Fin 128, l.val < k → acc.2.2.2.2.2.2 (ix2 0 l) = C (picks l) * kilo * Ideal.ofBits FTy.f32 0x3A800000#32

theorem entry_step {k : ℕ} {r r' : FVec Ideal S1x128 .f32} {g : ℕ → EReal} {v : EReal}
    (hw : ∀ l : Fin 128, r' (ix2 0 l) = if l.val = k then v else r (ix2 0 l)) (hv : v = g k)
    (hr : ∀ l : Fin 128, l.val < k → r (ix2 0 l) = g l) (l : Fin 128) (hl : l.val < k + 1) : r' (ix2 0 l) = g l := by
  rw [hw]
  split
  · rename_i e; rw [e, hv]
  · exact hr l (by omega)

/-- One round of the loop carries on. -/
theorem round_carried {v21 v53 v60 v67 v72 : FVec Ideal S8x640 .f32} {B : Fin 5000 → Fin 4 → EReal} {C : Fin 5000 → EReal} (s : EReal)
    (H : Holds v21 v53 v60 v67 v72 B C) {sws : ℕ → Fin 5000 → EReal} {picks : ℕ → Fin 5000} (R : Rounds (moved B C) sws picks)
    (k : Fin k0_t1_loop.trips) (acc : Carry Ideal) (h : Carried s B C sws picks k.val acc) :
    Carried s B C sws picks (k.val + 1) (round s v21 num v53 v60 v67 (Scalar.ofBits .f32 0x44000000#32) v72 k acc) := by
  have hk : k.val < 100 := k.isLt
  have hp := R.pick k
  have h0 := R.live k hk
  have q0 : k0_pay13 num (k0_pay3 v21 v53) acc.1 = moved B C (picks k) 0 := by
    rw [pick_eq h.scores hp h0, box3_at, H.y1, H.cls]; rfl
  have q1 : k0_pay14 num (k0_pay4 v21 v60) acc.1 = moved B C (picks k) 1 := by
    rw [sum14, pick_eq h.scores hp h0, show k0_pay4 v21 v60 = k0_pay3 v21 v60 from rfl, box3_at, H.x1, H.cls]; rfl
  have q2 : k0_pay15 num (k0_pay5 v21 v67) acc.1 = moved B C (picks k) 2 := by
    rw [sum15, pick_eq h.scores hp h0, show k0_pay5 v21 v67 = k0_pay3 v21 v67 from rfl, box3_at, H.y2, H.cls]; rfl
  have q3 : k0_pay16 num (k0_pay6 v21 (Scalar.ofBits .f32 0x44000000#32) v72) acc.1 = moved B C (picks k) 3 := by
    rw [sum16, pick_eq h.scores hp h0, box6_at, H.x2, H.cls]; rfl
  have q4 : k0_pay17 num (k0_pay2 v21) acc.1 = C (picks k) * kilo := by
    rw [sum17, pick_eq h.scores hp h0, off_at, H.cls]
  have q5 : k0_pay11 acc.1 = sws k (picks k) := max_eq h.scores hp h0
  unfold round
  constructor
  · rw [R.next]
    refine h.scores.next ?_ ?_
    · intro n
      simp only [new_at, mask_eq h.scores hp h0, area_at, top_at, q0, q1, q2, q3]
      simp only [show k0_pay4 v21 v60 = k0_pay3 v21 v60 from rfl, show k0_pay5 v21 v67 = k0_pay3 v21 v67 from rfl, box3_at, box6_at,
        H.y1, H.x1, H.y2, H.x2, H.cls, h.scores.at_lane]
      unfold struck
      by_cases e : n = picks k
      · subst e; simp [Scalar.select]
      · have e' : lane n ≠ lane (picks k) := fun e'' => e (lane_inj e'')
        simp only [e, e', if_false, decide_false]
        unfold Scalar.select
        rw [if_neg (show ¬(BitVec.ofBool false = 1) by decide)]
        by_cases ho : Overlaps (moved B C (picks k)) (moved B C n)
        · rw [if_pos ho]; exact if_pos ho
        · rw [if_neg ho]; exact if_neg ho
    · intro x _
      simp only [new_at]
      unfold Scalar.select
      split
      · exact Or.inl rfl
      · split
        · exact Or.inl rfl
        · exact Or.inr rfl
  · exact entry_step (g := fun l => (moved B C (picks l) 1 - C (picks l) * kilo) * s) (write_at _ s _ _ k) (by rw [q1, q4]) h.sx
  · exact entry_step (g := fun l => (moved B C (picks l) 0 - C (picks l) * kilo) * s) (fun l => by rw [write22]; exact write_at _ s _ _ k l) (by rw [q0, q4]) h.sy
  · exact entry_step (g := fun l => (moved B C (picks l) 3 - moved B C (picks l) 1) * s) (fun l => by rw [write23]; exact write_at _ s _ _ k l) (by rw [q1, q3]) h.sw
  · exact entry_step (g := fun l => (moved B C (picks l) 2 - moved B C (picks l) 0) * s) (fun l => by rw [write24]; exact write_at _ s _ _ k l) (by rw [q0, q2]) h.sh
  · exact entry_step (g := fun l => sws l (picks l)) (write25 _ _ k) q5 h.ss
  · exact entry_step (g := fun l => C (picks l) * kilo * Ideal.ofBits FTy.f32 0x3A800000#32) (write26 _ _ k) (by rw [q4]) h.sc

/-- All the rounds. -/
theorem fold_carried {v21 v53 v60 v67 v72 : FVec Ideal S8x640 .f32} {B : Fin 5000 → Fin 4 → EReal} {C : Fin 5000 → EReal} (s : EReal)
    (H : Holds v21 v53 v60 v67 v72 B C) {sws : ℕ → Fin 5000 → EReal} {picks : ℕ → Fin 5000} (R : Rounds (moved B C) sws picks)
    (a : FVec Ideal S8x640 .f32) (h : Lies (lanes a) (sws 0)) (z : FVec Ideal S1x128 .f32) :
    Carried s B C sws picks 100 (Scf.fold (round s v21 num v53 v60 v67 (Scalar.ofBits .f32 0x44000000#32) v72) (a, z, z, z, z, z, z)) := by
  have h0 : Carried s B C sws picks 0 (a, z, z, z, z, z, z) :=
    ⟨h, fun l hl => absurd hl (Nat.not_lt_zero _), fun l hl => absurd hl (Nat.not_lt_zero _), fun l hl => absurd hl (Nat.not_lt_zero _),
      fun l hl => absurd hl (Nat.not_lt_zero _), fun l hl => absurd hl (Nat.not_lt_zero _), fun l hl => absurd hl (Nat.not_lt_zero _)⟩
  have hs := round_carried s H R
  have e : k0_t1_loop.trips = 100 := rfl
  rw [← e, Scf.fold_eq]
  generalize round s v21 num v53 v60 v67 (Scalar.ofBits .f32 0x44000000#32) v72 = g at hs ⊢
  exact fold_keeps g (Carried s B C sws picks) _ h0 hs

end Cert.KernelIdeal.Nms
-- ==== Proof.KHost.lean ====
/-
  What the kernel's host part leaves in the ten windows of candidates, as functions of the array of class scores, the
  array of box offsets and the anchors.
-/
module

public import proofs.«01_k».proof.Proof.Gen.KernelIdeal.Frame
public import Idealize.ShloMosaic.Lib.StableHlo.RunRead

@[expose] public section

noncomputable section

namespace Cert.KernelIdeal.Host0

open Idealize.ShloMosaic Idealize.ShloMosaic.TcCoe Idealize.SL.Sem Idealize.ShloMosaic.StableHlo
open Cert.KernelIdeal Cert.KernelIdeal.Gen

variable {F : FTy → Type} [FloatOps F]

/-- An integer at every place of an 8 × 5000 array. -/
def spl (k : BitVec 32) : IVec S8x5000 32 := broadcastInDim S8x5000 ![] bcast_S_S8x5000 (constantI S_ 32 k)

/-- The rounded down quotient by 90. -/
def fdiv (x : IVec S8x5000 32) : IVec S8x5000 32 :=
  select (andi (cmpi .ne (signi x) (broadcastInDim S8x5000 ![] bcast_S_S8x5000 (signi (constantI S_ 32 90#32))))
      (cmpi .ne (Host.remsi x (spl 90#32)) (spl 0#32)))
    (subi (Host.divsi x (spl 90#32)) (spl 1#32)) (Host.divsi x (spl 90#32))

/-- The divisor of the remainder: one if it were zero. -/
def rdiv : IVec S_ 32 :=
  select (cmpi .eq (constantI S_ 32 90#32) (constantI S_ 32 0#32)) (constantI S_ 32 1#32) (constantI S_ 32 90#32)

/-- The remainder by 90 with the divisor's sign. -/
def frem (x : IVec S8x5000 32) : IVec S8x5000 32 :=
  select (andi (cmpi .ne (cmpi .slt (Host.remsi x (broadcastInDim S8x5000 ![] bcast_S_S8x5000 rdiv)) (spl 0#32))
        (broadcastInDim S8x5000 ![] bcast_S_S8x5000 (cmpi .slt rdiv (constantI S_ 32 0#32))))
      (cmpi .ne (Host.remsi x (broadcastInDim S8x5000 ![] bcast_S_S8x5000 rdiv)) (spl 0#32)))
    (addi (Host.remsi x (broadcastInDim S8x5000 ![] bcast_S_S8x5000 rdiv)) (broadcastInDim S8x5000 ![] bcast_S_S8x5000 rdiv))
    (Host.remsi x (broadcastInDim S8x5000 ![] bcast_S_S8x5000 rdiv))

/-- An integer at every place of an 8 × 5000 × 1 array. -/
def spl1 (k : BitVec 32) : IVec S8x5000x1 32 := broadcastInDim S8x5000x1 ![] bcast_S_S8x5000x1 (constantI S_ 32 k)

/-- A column of row numbers with the negative ones counted from the end. -/
def wrap1 (i : IVec S8x5000x1 32) : IVec S8x5000x1 32 := select (cmpi .slt i (spl1 0#32)) (addi i (spl1 49104#32)) i

/-- Which of the row numbers lie inside the table. -/
def inside (i : IVec S8x5000x1 32) : IVec S8x5000 1 :=
  Host.reduce IntOp.andi (andi (cmpi .sge i (spl1 0#32)) (cmpi .sle i (broadcastInDim S8x5000x1 ![0, 1, 2] bcast_S1x1x1_S8x5000x1_0_1_2
    (broadcastInDim S1x1x1 ![2] bcast_S1_S1x1x1_2 (constantI S1 32 49103#32))))) (constantI S_ 1 1#1)
    reducesTo_S8x5000x1_S8x5000_d2 h_S_

/-- The rows of a table at a column of row numbers, not-a-number where the number lies outside. -/
def takeFill (b : (⟨S8x49104x4, .f32⟩ : BufTy).Contents (Elt F)) (i : IVec S8x5000x1 32) : (⟨S8x5000x4, .f32⟩ : BufTy).Contents (Elt F) :=
  select (broadcastInDim S8x5000x4 ![0, 1] bcast_S8x5000_S8x5000x4_0_1 (inside (wrap1 i)))
    (Host.gather gather_S8x49104x4_S8x5000x1_S8x5000x4_2_1_0_0_1_2_114 b (wrap1 i))
    (broadcastInDim S8x5000x4 ![] bcast_S_S8x5000x4 (constant S_ .f32 0x7FC00000#32))

/-- Row numbers as a column. -/
def col1 (y : IVec S8x5000 32) : IVec S8x5000x1 32 := broadcastInDim S8x5000x1 ![0, 1] bcast_S8x5000_S8x5000x1_0_1 y

/-- The anchors at row numbers, the negative ones counted from the end. -/
def anc (a : (⟨S49104x4, .f32⟩ : BufTy).Contents (Elt F)) (y : IVec S8x5000 32) : (⟨S8x5000x4, .f32⟩ : BufTy).Contents (Elt F) :=
  Host.gather gather_S49104x4_S8x5000x1_S8x5000x4_2_0_n_n_0_2_14 a
    (col1 (select (cmpi .slt y (spl 0#32)) (addi y (spl 49104#32)) y))

/-- Rows of 5000 filled up to 5120 and cut into eight rows of 640. -/
def padded (x : (⟨S8x5000, .f32⟩ : BufTy).Contents (Elt F)) (v : BitVec 32) : (⟨S8x8x640, .f32⟩ : BufTy).Contents (Elt F) :=
  shapeCast S8x8x640 (pad S8x5120 ![0, 0] ![0, 120] ![0, 0] x (constant S_ .f32 v) pads_S8x5000_S8x5120_000_01200 h_S_)
    shapeCasts_S8x5120_S8x8x640

/-- Column 0 of an array of four-vectors. -/
def column0 (b : (⟨S8x5000x4, .f32⟩ : BufTy).Contents (Elt F)) : (⟨S8x5000, .f32⟩ : BufTy).Contents (Elt F) :=
  shapeCast S8x5000 (extractStridedSlice S8x5000x1 ![0, 0, 0] b slices_S8x5000x4_S8x5000x1_0_0_0) shapeCasts_S8x5000x1_S8x5000

/-- Column 1 of an array of four-vectors. -/
def column1 (b : (⟨S8x5000x4, .f32⟩ : BufTy).Contents (Elt F)) : (⟨S8x5000, .f32⟩ : BufTy).Contents (Elt F) :=
  shapeCast S8x5000 (extractStridedSlice S8x5000x1 ![0, 0, 1] b slices_S8x5000x4_S8x5000x1_0_0_1) shapeCasts_S8x5000x1_S8x5000

/-- Column 2 of an array of four-vectors. -/
def column2 (b : (⟨S8x5000x4, .f32⟩ : BufTy).Contents (Elt F)) : (⟨S8x5000, .f32⟩ : BufTy).Contents (Elt F) :=
  shapeCast S8x5000 (extractStridedSlice S8x5000x1 ![0, 0, 2] b slices_S8x5000x4_S8x5000x1_0_0_2) shapeCasts_S8x5000x1_S8x5000

/-- Column 3 of an array of four-vectors. -/
def column3 (b : (⟨S8x5000x4, .f32⟩ : BufTy).Contents (Elt F)) : (⟨S8x5000, .f32⟩ : BufTy).Contents (Elt F) :=
  shapeCast S8x5000 (extractStridedSlice S8x5000x1 ![0, 0, 3] b slices_S8x5000x4_S8x5000x1_0_0_3) shapeCasts_S8x5000x1_S8x5000

variable (V : Valuation τ sig (Elt F))

set_option maxRecDepth 60000 in
theorem at_v23 (hc : V (Proc.devRef .tc main_c) = constantI S_ 32 90#32) : after hostOps0_1 V (Proc.devRef .tc main_v23) = fdiv (V (Proc.devRef .tc main_indices)) := by
  after_reads_simp
  generalize V (Proc.devRef .tc main_c) = q at hc ⊢
  subst hc
  simp only [fdiv, spl, id]
  generalize V (Proc.devRef .tc main_indices) = x
  try rfl
  first | done | rfl
set_option maxRecDepth 60000 in
theorem at_v24 : after hostOps0_3 (after hostOps0_2 V) (Proc.devRef .tc main_v24) = frem (V (Proc.devRef .tc main_indices)) := by
  after_reads_simp

  first | done | rfl
set_option maxRecDepth 60000 in
theorem at_v25 : after hostOps0_4 V (Proc.devRef .tc main_v25) = sitofp .f32 (V (Proc.devRef .tc main_v24) : IVec S8x5000 32) := by
  after_reads_simp

  first | done | rfl
set_option maxRecDepth 60000 in
theorem at_v26 : after hostOps0_4 V (Proc.devRef .tc main_v26) = col1 (V (Proc.devRef .tc main_v23)) := by
  after_reads_simp

  first | done | rfl
set_option maxRecDepth 60000 in
theorem at_v27 : after hostOps0_5 V (Proc.devRef .tc main_v27) = takeFill (V (Proc.devRef .tc main_v21)) (V (Proc.devRef .tc main_v26)) := by
  after_reads_simp
  generalize V (Proc.devRef .tc main_v26) = i
  generalize V (Proc.devRef .tc main_v21) = b
  unfold takeFill inside wrap1 spl1
  first | done | rfl
set_option maxRecDepth 60000 in
theorem at_v34 : after hostOps0_6 V (Proc.devRef .tc main_v34) = anc (V (Proc.devRef .tc main_arg11)) (V (Proc.devRef .tc main_v23)) := by
  after_reads_simp

  first | done | rfl
set_option maxRecDepth 60000 in
theorem at_v36 : after hostOps0_6 V (Proc.devRef .tc main_v36) = column0 (V (Proc.devRef .tc main_v27)) := by
  after_reads_simp

  first | done | rfl
set_option maxRecDepth 60000 in
theorem at_cst : after hostOps0_6 V (Proc.devRef .tc main_cst) = constant S_ .f32 0x00000000#32 := by
  after_reads_simp

  first | done | rfl
set_option maxRecDepth 60000 in
theorem keep1_values : after hostOps0_1 V (Proc.devRef .tc main_values) = (V (Proc.devRef .tc main_values)) := by
  after_reads_simp

  first | done | rfl
set_option maxRecDepth 60000 in
theorem keep1_indices : after hostOps0_1 V (Proc.devRef .tc main_indices) = (V (Proc.devRef .tc main_indices)) := by
  after_reads_simp

  first | done | rfl
set_option maxRecDepth 60000 in
theorem keep1_v21 : after hostOps0_1 V (Proc.devRef .tc main_v21) = (V (Proc.devRef .tc main_v21)) := by
  after_reads_simp

  first | done | rfl
set_option maxRecDepth 60000 in
theorem keep1_arg11 : after hostOps0_1 V (Proc.devRef .tc main_arg11) = (V (Proc.devRef .tc main_arg11)) := by
  after_reads_simp

  first | done | rfl
set_option maxRecDepth 60000 in
theorem keep3_values : after hostOps0_3 (after hostOps0_2 V) (Proc.devRef .tc main_values) = (V (Proc.devRef .tc main_values)) := by
  after_reads_simp

  first | done | rfl
set_option maxRecDepth 60000 in
theorem keep3_v21 : after hostOps0_3 (after hostOps0_2 V) (Proc.devRef .tc main_v21) = (V (Proc.devRef .tc main_v21)) := by
  after_reads_simp

  first | done | rfl
set_option maxRecDepth 60000 in
theorem keep3_arg11 : after hostOps0_3 (after hostOps0_2 V) (Proc.devRef .tc main_arg11) = (V (Proc.devRef .tc main_arg11)) := by
  after_reads_simp

  first | done | rfl
set_option maxRecDepth 60000 in
theorem keep3_v23 : after hostOps0_3 (after hostOps0_2 V) (Proc.devRef .tc main_v23) = (V (Proc.devRef .tc main_v23)) := by
  after_reads_simp

  first | done | rfl
set_option maxRecDepth 60000 in
theorem keep4_values : after hostOps0_4 V (Proc.devRef .tc main_values) = (V (Proc.devRef .tc main_values)) := by
  after_reads_simp

  first | done | rfl
set_option maxRecDepth 60000 in
theorem keep4_v21 : after hostOps0_4 V (Proc.devRef .tc main_v21) = (V (Proc.devRef .tc main_v21)) := by
  after_reads_simp

  first | done | rfl
set_option maxRecDepth 60000 in
theorem keep4_arg11 : after hostOps0_4 V (Proc.devRef .tc main_arg11) = (V (Proc.devRef .tc main_arg11)) := by
  after_reads_simp

  first | done | rfl
set_option maxRecDepth 60000 in
theorem keep4_v23 : after hostOps0_4 V (Proc.devRef .tc main_v23) = (V (Proc.devRef .tc main_v23)) := by
  after_reads_simp

  first | done | rfl
set_option maxRecDepth 60000 in
theorem keep5_values : after hostOps0_5 V (Proc.devRef .tc main_values) = (V (Proc.devRef .tc main_values)) := by
  after_reads_simp

  first | done | rfl
set_option maxRecDepth 60000 in
theorem keep5_arg11 : after hostOps0_5 V (Proc.devRef .tc main_arg11) = (V (Proc.devRef .tc main_arg11)) := by
  after_reads_simp

  first | done | rfl
set_option maxRecDepth 60000 in
theorem keep5_v23 : after hostOps0_5 V (Proc.devRef .tc main_v23) = (V (Proc.devRef .tc main_v23)) := by
  after_reads_simp

  first | done | rfl
set_option maxRecDepth 60000 in
theorem keep5_v25 : after hostOps0_5 V (Proc.devRef .tc main_v25) = (V (Proc.devRef .tc main_v25)) := by
  after_reads_simp

  first | done | rfl
set_option maxRecDepth 60000 in
theorem keep6_values : after hostOps0_6 V (Proc.devRef .tc main_values) = (V (Proc.devRef .tc main_values)) := by
  after_reads_simp

  first | done | rfl
set_option maxRecDepth 60000 in
theorem keep6_v27 : after hostOps0_6 V (Proc.devRef .tc main_v27) = (V (Proc.devRef .tc main_v27)) := by
  after_reads_simp

  first | done | rfl
set_option maxRecDepth 60000 in
theorem keep6_v25 : after hostOps0_6 V (Proc.devRef .tc main_v25) = (V (Proc.devRef .tc main_v25)) := by
  after_reads_simp

  first | done | rfl
set_option maxRecDepth 60000 in
theorem win0 (hc : V (Proc.devRef .tc main_cst) = constant S_ .f32 0x00000000#32) : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v38) = padded (V (Proc.devRef .tc main_v36)) 0x00000000#32 := by
  after_reads_simp
  rw [hc]
  first | done | rfl
set_option maxRecDepth 60000 in
theorem win1 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v42) = padded (column1 (V (Proc.devRef .tc main_v27))) 0x00000000#32 := by
  after_reads_simp

  first | done | rfl
set_option maxRecDepth 60000 in
theorem win2 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v46) = padded (column2 (V (Proc.devRef .tc main_v27))) 0x00000000#32 := by
  after_reads_simp

  first | done | rfl
set_option maxRecDepth 60000 in
theorem win3 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v50) = padded (column3 (V (Proc.devRef .tc main_v27))) 0x00000000#32 := by
  after_reads_simp

  first | done | rfl
set_option maxRecDepth 60000 in
theorem win4 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v54) = padded (column0 (V (Proc.devRef .tc main_v34))) 0x00000000#32 := by
  after_reads_simp

  first | done | rfl
set_option maxRecDepth 60000 in
theorem win5 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v58) = padded (column1 (V (Proc.devRef .tc main_v34))) 0x00000000#32 := by
  after_reads_simp

  first | done | rfl
set_option maxRecDepth 60000 in
theorem win6 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v62) = padded (column2 (V (Proc.devRef .tc main_v34))) 0x3F800000#32 := by
  after_reads_simp

  first | done | rfl
set_option maxRecDepth 60000 in
theorem win7 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v66) = padded (column3 (V (Proc.devRef .tc main_v34))) 0x3F800000#32 := by
  after_reads_simp

  first | done | rfl
set_option maxRecDepth 60000 in
theorem win8 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v68) = padded (V (Proc.devRef .tc main_values)) 0xC2200000#32 := by
  after_reads_simp

  first | done | rfl
set_option maxRecDepth 60000 in
theorem win9 : after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 V))))))))))))))))))) (Proc.devRef .tc main_v70) = padded (V (Proc.devRef .tc main_v25)) 0x00000000#32 := by
  after_reads_simp

  first | done | rfl

end Cert.KernelIdeal.Host0
-- ==== Proof.KWin.lean ====
/-
  The kernel's ten windows of candidates in the launch memory: the functions of Proof/KHost.lean at the reference's own
  arrays of class scores, box offsets and candidate numbers.
-/
module

public import proofs.«01_k».proof.Proof.KHost
public import proofs.«01_k».proof.Proof.Gen.ReferenceIdeal.Step

@[expose] public section

noncomputable section

namespace Cert.KernelIdeal.Host0

open Idealize.ShloMosaic Idealize.ShloMosaic.TcCoe Idealize.SL.Sem Idealize.ShloMosaic.StableHlo
open Cert.KernelIdeal Cert.KernelIdeal.Gen
open Cert.ReferenceIdeal.Step (A_main_v10 A_main_v21 A_main_v22 A_main_indices)

variable {F : FTy → Type} [FloatOps F]
variable (V : Valuation τ sig (Elt F))

set_option maxRecDepth 60000 in
theorem first_v21 : after hostOps0 V (Proc.devRef .tc main_v21) = A_main_v21 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  after_reads_simp
  first | done | rfl
set_option maxRecDepth 60000 in
theorem first_indices : after hostOps0 V (Proc.devRef .tc main_indices) = A_main_indices (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11)) := by
  after_reads_simp
  first | done | rfl
set_option maxRecDepth 60000 in
theorem first_values : after hostOps0 V (Proc.devRef .tc main_values) = (Host.topK S8x5000 1 (FloatOps.cmpfTotal .gt) (A_main_v22 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg11))) sliceFits_S8x4419360_S8x5000).1 := by
  after_reads_simp
  first | done | rfl
set_option maxRecDepth 60000 in
theorem first_c : after hostOps0 V (Proc.devRef .tc main_c) = constantI S_ 32 90#32 := by
  after_reads_simp
  first | done | rfl
set_option maxRecDepth 60000 in
theorem first_arg11 : after hostOps0 V (Proc.devRef .tc main_arg11) = V (Proc.devRef .tc main_arg11) := by
  after_reads_simp
  first | done | rfl

theorem after_two (l₁ l₂ : List (HloOp τ sig (Elt F))) (V : Valuation τ sig (Elt F)) :
    after (l₁ ++ l₂) V = after l₂ (after l₁ V) := by
  induction l₁ generalizing V with
  | nil => rfl
  | cons a l ih => exact ih _

variable (m : (ℓ : Loc nD τ sig) → Buf (Elt F) ℓ) (c : Dev nD)

/-- The candidates' numbers in the flattened class scores. -/
def num : IVec S8x5000 32 := A_main_indices (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11))
/-- The flattened class scores' largest five thousand per image. -/
def top : (⟨S8x5000, .f32⟩ : BufTy).Contents (Elt F) :=
  (Host.topK S8x5000 1 (FloatOps.cmpfTotal .gt) (A_main_v22 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11))) sliceFits_S8x4419360_S8x5000).1
/-- The candidates' box offsets. -/
def offs : (⟨S8x5000x4, .f32⟩ : BufTy).Contents (Elt F) := takeFill (A_main_v21 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11))) (col1 (fdiv (num m c)))
/-- The candidates' anchors. -/
def ancs : (⟨S8x5000x4, .f32⟩ : BufTy).Contents (Elt F) := anc (m (c, Proc.devRef .tc main_arg11)) (fdiv (num m c))
/-- The candidates' classes. -/
def clss : (⟨S8x5000, .f32⟩ : BufTy).Contents (Elt F) := sitofp .f32 (frem (num m c) : IVec S8x5000 32)

/-- The valuation before the columns are cut out. -/
def before (V : Valuation τ sig (Elt F)) : Valuation τ sig (Elt F) :=
  after hostOps0_6 (after hostOps0_5 (after hostOps0_4 (after hostOps0_3 (after hostOps0_2 (after hostOps0_1 (after hostOps0 V))))))

theorem V0_eq : V0 m c = after hostOps0_26 (after hostOps0_25 (after hostOps0_24 (after hostOps0_23 (after hostOps0_22 (after hostOps0_21 (after hostOps0_20 (after hostOps0_19 (after hostOps0_18 (after hostOps0_17 (after hostOps0_16 (after hostOps0_15 (after hostOps0_14 (after hostOps0_13 (after hostOps0_12 (after hostOps0_11 (after hostOps0_10 (after hostOps0_9 (after hostOps0_8 (after hostOps0_7 (before fun b => m (c, b))))))))))))))))))))) := by
  unfold V0 before
  simp only [List.flatten_cons, List.flatten_nil, List.append_nil, after_two]

set_option maxRecDepth 60000 in
theorem before_all : before (fun b => m (c, b)) (Proc.devRef .tc main_v27) = offs m c
    ∧ before (fun b => m (c, b)) (Proc.devRef .tc main_v34) = ancs m c
    ∧ before (fun b => m (c, b)) (Proc.devRef .tc main_values) = top m c
    ∧ before (fun b => m (c, b)) (Proc.devRef .tc main_v25) = clss m c
    ∧ before (fun b => m (c, b)) (Proc.devRef .tc main_v36) = column0 (offs m c)
    ∧ before (fun b => m (c, b)) (Proc.devRef .tc main_cst) = constant S_ .f32 0x00000000#32 := by
  have f1 := first_v21 (F := F) (fun b => m (c, b))
  have f2 := first_indices (F := F) (fun b => m (c, b))
  have f3 := first_values (F := F) (fun b => m (c, b))
  have f4 := first_c (F := F) (fun b => m (c, b))
  have f5 := first_arg11 (F := F) (fun b => m (c, b))
  unfold before offs ancs clss num top
  beta_reduce at f1 f2 f3 f4 f5
  generalize A_main_v21 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) = b21 at f1 ⊢
  generalize A_main_indices (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) = ix at f2 ⊢
  generalize (Host.topK S8x5000 1 (FloatOps.cmpfTotal .gt) (A_main_v22 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11))) sliceFits_S8x4419360_S8x5000).1 = tv at f3 ⊢
  generalize m (c, Proc.devRef .tc main_arg11) = a11 at f5 ⊢
  generalize after hostOps0 (fun b => m (c, b)) = V1 at f1 f2 f3 f4 f5 ⊢
  have g1_v23 := at_v23 (F := F) V1 f4
  rw [f2] at g1_v23
  have g1_values := (keep1_values (F := F) V1).trans f3
  have g1_indices := (keep1_indices (F := F) V1).trans f2
  have g1_v21 := (keep1_v21 (F := F) V1).trans f1
  have g1_arg11 := (keep1_arg11 (F := F) V1).trans f5
  generalize after hostOps0_1 V1 = V2 at g1_v23 g1_values g1_indices g1_v21 g1_arg11 ⊢
  have g3_v24 := at_v24 (F := F) V2
  rw [g1_indices] at g3_v24
  have g3_values := (keep3_values (F := F) V2).trans g1_values
  have g3_v21 := (keep3_v21 (F := F) V2).trans g1_v21
  have g3_arg11 := (keep3_arg11 (F := F) V2).trans g1_arg11
  have g3_v23 := (keep3_v23 (F := F) V2).trans g1_v23
  generalize after hostOps0_3 (after hostOps0_2 V2) = V4 at g3_v24 g3_values g3_v21 g3_arg11 g3_v23 ⊢
  have g4_v25 := at_v25 (F := F) V4
  rw [g3_v24] at g4_v25
  have g4_v26 := at_v26 (F := F) V4
  rw [g3_v23] at g4_v26
  have g4_values := (keep4_values (F := F) V4).trans g3_values
  have g4_v21 := (keep4_v21 (F := F) V4).trans g3_v21
  have g4_arg11 := (keep4_arg11 (F := F) V4).trans g3_arg11
  have g4_v23 := (keep4_v23 (F := F) V4).trans g3_v23
  generalize after hostOps0_4 V4 = V5 at g4_v25 g4_v26 g4_values g4_v21 g4_arg11 g4_v23 ⊢
  have g5_v27 := at_v27 (F := F) V5
  rw [g4_v21, g4_v26] at g5_v27
  have g5_values := (keep5_values (F := F) V5).trans g4_values
  have g5_arg11 := (keep5_arg11 (F := F) V5).trans g4_arg11
  have g5_v23 := (keep5_v23 (F := F) V5).trans g4_v23
  have g5_v25 := (keep5_v25 (F := F) V5).trans g4_v25
  generalize after hostOps0_5 V5 = V6 at g5_v27 g5_values g5_arg11 g5_v23 g5_v25 ⊢
  refine ⟨(keep6_v27 V6).trans g5_v27, ?_, (keep6_values V6).trans g5_values, (keep6_v25 V6).trans g5_v25, ?_, at_cst V6⟩
  · rw [at_v34, g5_arg11, g5_v23]
  · rw [at_v36, g5_v27]

theorem V_main_v38 : V0 m c (Proc.devRef .tc main_v38) = padded (column0 (offs m c)) 0x00000000#32 := by
  rw [V0_eq]
  rw [win0 _ (before_all m c).2.2.2.2.2, (before_all m c).2.2.2.2.1]
theorem V_main_v42 : V0 m c (Proc.devRef .tc main_v42) = padded (column1 (offs m c)) 0x00000000#32 := by
  rw [V0_eq]
  rw [win1, (before_all m c).1]
theorem V_main_v46 : V0 m c (Proc.devRef .tc main_v46) = padded (column2 (offs m c)) 0x00000000#32 := by
  rw [V0_eq]
  rw [win2, (before_all m c).1]
theorem V_main_v50 : V0 m c (Proc.devRef .tc main_v50) = padded (column3 (offs m c)) 0x00000000#32 := by
  rw [V0_eq]
  rw [win3, (before_all m c).1]
theorem V_main_v54 : V0 m c (Proc.devRef .tc main_v54) = padded (column0 (ancs m c)) 0x00000000#32 := by
  rw [V0_eq]
  rw [win4, (before_all m c).2.1]
theorem V_main_v58 : V0 m c (Proc.devRef .tc main_v58) = padded (column1 (ancs m c)) 0x00000000#32 := by
  rw [V0_eq]
  rw [win5, (before_all m c).2.1]
theorem V_main_v62 : V0 m c (Proc.devRef .tc main_v62) = padded (column2 (ancs m c)) 0x3F800000#32 := by
  rw [V0_eq]
  rw [win6, (before_all m c).2.1]
theorem V_main_v66 : V0 m c (Proc.devRef .tc main_v66) = padded (column3 (ancs m c)) 0x3F800000#32 := by
  rw [V0_eq]
  rw [win7, (before_all m c).2.1]
theorem V_main_v68 : V0 m c (Proc.devRef .tc main_v68) = padded (top m c) 0xC2200000#32 := by
  rw [V0_eq]
  rw [win8, (before_all m c).2.2.1]
theorem V_main_v70 : V0 m c (Proc.devRef .tc main_v70) = padded (clss m c) 0x00000000#32 := by
  rw [V0_eq]
  rw [win9, (before_all m c).2.2.2.1]

end Cert.KernelIdeal.Host0
-- ==== Proof.KBlock.lean ====
/-
  What a grid point reads: the entries of its image in the padded arrays.
-/
module

public import proofs.«01_k».proof.Proof.KRound
public import Idealize.ShloMosaic.Lib.StableHlo.RunRead
public import Idealize.ShloMosaic.Lib.Pointwise
public import Idealize.ShloMosaic.Lib.Pipeline.Value
public import proofs.«01_k».proof.Proof.KWin

@[expose] public section

noncomputable section

namespace Cert.KernelIdeal.Nms

open Cert.KernelIdeal Cert.KernelIdeal.Gen
open Idealize.ShloMosaic Idealize.ShloMosaic.TcCoe
open Cert.Greedy Cert.KernelIdeal.Host0

variable (m : (ℓ : Loc nD τ sig) → Buf (Elt Ideal) ℓ) (c : Dev nD)

theorem idx0 : ∀ t : Fin cfg0.N, win0_0.index t 0 = t.val ∧ win0_0.index t 1 = 0 ∧ win0_0.index t 2 = 0 := by
  intro t
  rcases fin_N0 t with rfl | rfl | rfl | rfl | rfl | rfl | rfl | rfl <;> decide +kernel

theorem iblk0 (t : Fin cfg0.N) (i : Fin 8) (hi : t.val = i.val) (r : Fin 8) (l : Fin 640) :
    iblk m c 0 t (ix3 0 r l) = V0 m c (Proc.devRef .tc main_v38) (ix3 i r l) := by
  obtain ⟨h0, h1, h2⟩ := idx0 t
  show V0 m c (Proc.devRef .tc main_v38) _ = _
  congr 1
  funext a
  apply Fin.ext
  match a with
  | ⟨0, _⟩ => show win0_0.index t 0 * 1 + 0 * 1 = i.val
              rw [h0]; omega
  | ⟨1, _⟩ => show win0_0.index t 1 * 8 + 1 * r.val = r.val
              rw [h1]; omega
  | ⟨2, _⟩ => show win0_0.index t 2 * 640 + 1 * l.val = l.val
              rw [h2]; omega

theorem idx1 : ∀ t : Fin cfg0.N, win0_1.index t 0 = t.val ∧ win0_1.index t 1 = 0 ∧ win0_1.index t 2 = 0 := by
  intro t
  rcases fin_N0 t with rfl | rfl | rfl | rfl | rfl | rfl | rfl | rfl <;> decide +kernel

theorem iblk1 (t : Fin cfg0.N) (i : Fin 8) (hi : t.val = i.val) (r : Fin 8) (l : Fin 640) :
    iblk m c 1 t (ix3 0 r l) = V0 m c (Proc.devRef .tc main_v42) (ix3 i r l) := by
  obtain ⟨h0, h1, h2⟩ := idx1 t
  show V0 m c (Proc.devRef .tc main_v42) _ = _
  congr 1
  funext a
  apply Fin.ext
  match a with
  | ⟨0, _⟩ => show win0_1.index t 0 * 1 + 0 * 1 = i.val
              rw [h0]; omega
  | ⟨1, _⟩ => show win0_1.index t 1 * 8 + 1 * r.val = r.val
              rw [h1]; omega
  | ⟨2, _⟩ => show win0_1.index t 2 * 640 + 1 * l.val = l.val
              rw [h2]; omega

theorem idx2 : ∀ t : Fin cfg0.N, win0_2.index t 0 = t.val ∧ win0_2.index t 1 = 0 ∧ win0_2.index t 2 = 0 := by
  intro t
  rcases fin_N0 t with rfl | rfl | rfl | rfl | rfl | rfl | rfl | rfl <;> decide +kernel

theorem iblk2 (t : Fin cfg0.N) (i : Fin 8) (hi : t.val = i.val) (r : Fin 8) (l : Fin 640) :
    iblk m c 2 t (ix3 0 r l) = V0 m c (Proc.devRef .tc main_v46) (ix3 i r l) := by
  obtain ⟨h0, h1, h2⟩ := idx2 t
  show V0 m c (Proc.devRef .tc main_v46) _ = _
  congr 1
  funext a
  apply Fin.ext
  match a with
  | ⟨0, _⟩ => show win0_2.index t 0 * 1 + 0 * 1 = i.val
              rw [h0]; omega
  | ⟨1, _⟩ => show win0_2.index t 1 * 8 + 1 * r.val = r.val
              rw [h1]; omega
  | ⟨2, _⟩ => show win0_2.index t 2 * 640 + 1 * l.val = l.val
              rw [h2]; omega

theorem idx3 : ∀ t : Fin cfg0.N, win0_3.index t 0 = t.val ∧ win0_3.index t 1 = 0 ∧ win0_3.index t 2 = 0 := by
  intro t
  rcases fin_N0 t with rfl | rfl | rfl | rfl | rfl | rfl | rfl | rfl <;> decide +kernel

theorem iblk3 (t : Fin cfg0.N) (i : Fin 8) (hi : t.val = i.val) (r : Fin 8) (l : Fin 640) :
    iblk m c 3 t (ix3 0 r l) = V0 m c (Proc.devRef .tc main_v50) (ix3 i r l) := by
  obtain ⟨h0, h1, h2⟩ := idx3 t
  show V0 m c (Proc.devRef .tc main_v50) _ = _
  congr 1
  funext a
  apply Fin.ext
  match a with
  | ⟨0, _⟩ => show win0_3.index t 0 * 1 + 0 * 1 = i.val
              rw [h0]; omega
  | ⟨1, _⟩ => show win0_3.index t 1 * 8 + 1 * r.val = r.val
              rw [h1]; omega
  | ⟨2, _⟩ => show win0_3.index t 2 * 640 + 1 * l.val = l.val
              rw [h2]; omega

theorem idx4 : ∀ t : Fin cfg0.N, win0_4.index t 0 = t.val ∧ win0_4.index t 1 = 0 ∧ win0_4.index t 2 = 0 := by
  intro t
  rcases fin_N0 t with rfl | rfl | rfl | rfl | rfl | rfl | rfl | rfl <;> decide +kernel

theorem iblk4 (t : Fin cfg0.N) (i : Fin 8) (hi : t.val = i.val) (r : Fin 8) (l : Fin 640) :
    iblk m c 4 t (ix3 0 r l) = V0 m c (Proc.devRef .tc main_v54) (ix3 i r l) := by
  obtain ⟨h0, h1, h2⟩ := idx4 t
  show V0 m c (Proc.devRef .tc main_v54) _ = _
  congr 1
  funext a
  apply Fin.ext
  match a with
  | ⟨0, _⟩ => show win0_4.index t 0 * 1 + 0 * 1 = i.val
              rw [h0]; omega
  | ⟨1, _⟩ => show win0_4.index t 1 * 8 + 1 * r.val = r.val
              rw [h1]; omega
  | ⟨2, _⟩ => show win0_4.index t 2 * 640 + 1 * l.val = l.val
              rw [h2]; omega

theorem idx5 : ∀ t : Fin cfg0.N, win0_5.index t 0 = t.val ∧ win0_5.index t 1 = 0 ∧ win0_5.index t 2 = 0 := by
  intro t
  rcases fin_N0 t with rfl | rfl | rfl | rfl | rfl | rfl | rfl | rfl <;> decide +kernel

theorem iblk5 (t : Fin cfg0.N) (i : Fin 8) (hi : t.val = i.val) (r : Fin 8) (l : Fin 640) :
    iblk m c 5 t (ix3 0 r l) = V0 m c (Proc.devRef .tc main_v58) (ix3 i r l) := by
  obtain ⟨h0, h1, h2⟩ := idx5 t
  show V0 m c (Proc.devRef .tc main_v58) _ = _
  congr 1
  funext a
  apply Fin.ext
  match a with
  | ⟨0, _⟩ => show win0_5.index t 0 * 1 + 0 * 1 = i.val
              rw [h0]; omega
  | ⟨1, _⟩ => show win0_5.index t 1 * 8 + 1 * r.val = r.val
              rw [h1]; omega
  | ⟨2, _⟩ => show win0_5.index t 2 * 640 + 1 * l.val = l.val
              rw [h2]; omega

theorem idx6 : ∀ t : Fin cfg0.N, win0_6.index t 0 = t.val ∧ win0_6.index t 1 = 0 ∧ win0_6.index t 2 = 0 := by
  intro t
  rcases fin_N0 t with rfl | rfl | rfl | rfl | rfl | rfl | rfl | rfl <;> decide +kernel

theorem iblk6 (t : Fin cfg0.N) (i : Fin 8) (hi : t.val = i.val) (r : Fin 8) (l : Fin 640) :
    iblk m c 6 t (ix3 0 r l) = V0 m c (Proc.devRef .tc main_v62) (ix3 i r l) := by
  obtain ⟨h0, h1, h2⟩ := idx6 t
  show V0 m c (Proc.devRef .tc main_v62) _ = _
  congr 1
  funext a
  apply Fin.ext
  match a with
  | ⟨0, _⟩ => show win0_6.index t 0 * 1 + 0 * 1 = i.val
              rw [h0]; omega
  | ⟨1, _⟩ => show win0_6.index t 1 * 8 + 1 * r.val = r.val
              rw [h1]; omega
  | ⟨2, _⟩ => show win0_6.index t 2 * 640 + 1 * l.val = l.val
              rw [h2]; omega

theorem idx7 : ∀ t : Fin cfg0.N, win0_7.index t 0 = t.val ∧ win0_7.index t 1 = 0 ∧ win0_7.index t 2 = 0 := by
  intro t
  rcases fin_N0 t with rfl | rfl | rfl | rfl | rfl | rfl | rfl | rfl <;> decide +kernel

theorem iblk7 (t : Fin cfg0.N) (i : Fin 8) (hi : t.val = i.val) (r : Fin 8) (l : Fin 640) :
    iblk m c 7 t (ix3 0 r l) = V0 m c (Proc.devRef .tc main_v66) (ix3 i r l) := by
  obtain ⟨h0, h1, h2⟩ := idx7 t
  show V0 m c (Proc.devRef .tc main_v66) _ = _
  congr 1
  funext a
  apply Fin.ext
  match a with
  | ⟨0, _⟩ => show win0_7.index t 0 * 1 + 0 * 1 = i.val
              rw [h0]; omega
  | ⟨1, _⟩ => show win0_7.index t 1 * 8 + 1 * r.val = r.val
              rw [h1]; omega
  | ⟨2, _⟩ => show win0_7.index t 2 * 640 + 1 * l.val = l.val
              rw [h2]; omega

theorem idx8 : ∀ t : Fin cfg0.N, win0_8.index t 0 = t.val ∧ win0_8.index t 1 = 0 ∧ win0_8.index t 2 = 0 := by
  intro t
  rcases fin_N0 t with rfl | rfl | rfl | rfl | rfl | rfl | rfl | rfl <;> decide +kernel

theorem iblk8 (t : Fin cfg0.N) (i : Fin 8) (hi : t.val = i.val) (r : Fin 8) (l : Fin 640) :
    iblk m c 8 t (ix3 0 r l) = V0 m c (Proc.devRef .tc main_v68) (ix3 i r l) := by
  obtain ⟨h0, h1, h2⟩ := idx8 t
  show V0 m c (Proc.devRef .tc main_v68) _ = _
  congr 1
  funext a
  apply Fin.ext
  match a with
  | ⟨0, _⟩ => show win0_8.index t 0 * 1 + 0 * 1 = i.val
              rw [h0]; omega
  | ⟨1, _⟩ => show win0_8.index t 1 * 8 + 1 * r.val = r.val
              rw [h1]; omega
  | ⟨2, _⟩ => show win0_8.index t 2 * 640 + 1 * l.val = l.val
              rw [h2]; omega

theorem idx9 : ∀ t : Fin cfg0.N, win0_9.index t 0 = t.val ∧ win0_9.index t 1 = 0 ∧ win0_9.index t 2 = 0 := by
  intro t
  rcases fin_N0 t with rfl | rfl | rfl | rfl | rfl | rfl | rfl | rfl <;> decide +kernel

theorem iblk9 (t : Fin cfg0.N) (i : Fin 8) (hi : t.val = i.val) (r : Fin 8) (l : Fin 640) :
    iblk m c 9 t (ix3 0 r l) = V0 m c (Proc.devRef .tc main_v70) (ix3 i r l) := by
  obtain ⟨h0, h1, h2⟩ := idx9 t
  show V0 m c (Proc.devRef .tc main_v70) _ = _
  congr 1
  funext a
  apply Fin.ext
  match a with
  | ⟨0, _⟩ => show win0_9.index t 0 * 1 + 0 * 1 = i.val
              rw [h0]; omega
  | ⟨1, _⟩ => show win0_9.index t 1 * 8 + 1 * r.val = r.val
              rw [h1]; omega
  | ⟨2, _⟩ => show win0_9.index t 2 * 640 + 1 * l.val = l.val
              rw [h2]; omega

/-- The padded array at a candidate's lane holds the candidate's entry. -/
theorem padded_lane (x : (⟨S8x5000, .f32⟩ : BufTy).Contents (Elt Ideal)) (v : BitVec 32) (i : Fin 8) (n : Fin 5000) :
    padded x v (ix3 i (lane n).1 (lane n).2) = x (ix2 i n) := by
  unfold padded
  pointwise
  have e := flat_lane n
  have hn := n.isLt
  simp only [flat] at e
  rw [dif_pos (by omega)]
  congr 2
  exact Fin.ext e

theorem off1 : ∀ t : Fin cfg0.N, win0_10.index t 0 = 0 ∧ k0_off1 (grid0.coords t) 0 = t.val := by
  intro t
  rcases fin_N0 t with rfl | rfl | rfl | rfl | rfl | rfl | rfl | rfl <;> decide +kernel

theorem scale_at (t : Fin cfg0.N) (i : Fin 8) (hi : t.val = i.val) :
    scaleAt (grid0.coords t) (iblk m c 10 t) = m ((c : Thread nD τ).loc main_arg10) (ix1 i) := by
  rw [← V_main_arg10 m c]
  unfold scaleAt
  obtain ⟨h0, h1⟩ := off1 t
  show V m c main_arg10 _ = _
  congr 1
  funext a
  apply Fin.ext
  match a with
  | ⟨0, _⟩ => show win0_10.index t 0 * 8 + 1 * (k0_off1 (grid0.coords t) 0 + 1 * 0) = i.val
              rw [h0, h1]; omega

end Cert.KernelIdeal.Nms

end
-- ==== Proof.KOut.lean ====
/-
  The result of the launch and of the host steps after it, entry by entry, from the blocks the grid points store.
-/
module

public import proofs.«01_k».proof.Proof.KRound
public import Idealize.ShloMosaic.Lib.StableHlo.RunRead
public import Idealize.ShloMosaic.Lib.Pointwise
public import Idealize.ShloMosaic.Lib.Pipeline.Value

@[expose] public section

noncomputable section

namespace Cert.KernelIdeal.Nms

open Cert.KernelIdeal Cert.KernelIdeal.Gen
open Idealize.ShloMosaic Idealize.ShloMosaic.TcCoe
open Idealize.SL Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The grid point of an image. -/
def point (i : Fin 8) : Fin cfg0.N := ⟨i.val, by have := N_0; have h := i.isLt; show i.val < grid0.N; omega⟩

/-- The result of the launch: each image's rows from its grid point's block. -/
def blocks (c : Dev nD) : (⟨S8x8x128, .f32⟩ : BufTy).Contents (Elt F) := fun i =>
  outAt m c (point (i 0)) (ix3 0 (i 1) (i 2))

theorem idx11 : ∀ t : Fin cfg0.N, (win0_11.index t 0 = t.val ∧ win0_11.size 0 = 1 ∧ win0_11.xsize (grid0.coords t) 0 = 1)
    ∧ (win0_11.index t 1 = 0 ∧ win0_11.size 1 = 8 ∧ win0_11.xsize (grid0.coords t) 1 = 8)
    ∧ (win0_11.index t 2 = 0 ∧ win0_11.size 2 = 128 ∧ win0_11.xsize (grid0.coords t) 2 = 128) := by
  intro t
  rcases fin_N0 t with rfl | rfl | rfl | rfl | rfl | rfl | rfl | rfl <;> decide +kernel

theorem mem_blk (t : Fin cfg0.N) (i : S8x8x128.Idx) : i ∈ ((cfg0.win 11).blk t).view.set ↔ (i 0 : Nat) = t.val := by
  show i ∈ ((View.whole main_v71).slice (win0_11.rect t)).set ↔ _
  rw [View.set_slice_whole, Rect.mem_set_unit]
  obtain ⟨⟨a0, a1, a2⟩, ⟨b0, b1, b2⟩, ⟨d0, d1, d2⟩⟩ := idx11 t
  have h1 : (i 1 : Nat) < 8 := (i 1).isLt
  have h2 : (i 2 : Nat) < 128 := (i 2).isLt
  refine ⟨fun h => ?_, fun h a => ?_⟩
  · have : win0_11.index t 0 * win0_11.size 0 ≤ (i 0 : Nat) ∧ (i 0 : Nat) < win0_11.index t 0 * win0_11.size 0 + win0_11.xsize (grid0.coords t) 0 := h 0
    rw [a0, a1, a2] at this; omega
  · match a with
    | ⟨0, _⟩ => show win0_11.index t 0 * win0_11.size 0 ≤ (i 0 : Nat) ∧ (i 0 : Nat) < win0_11.index t 0 * win0_11.size 0 + win0_11.xsize (grid0.coords t) 0
                rw [a0, a1, a2]; omega
    | ⟨1, _⟩ => show win0_11.index t 1 * win0_11.size 1 ≤ (i 1 : Nat) ∧ (i 1 : Nat) < win0_11.index t 1 * win0_11.size 1 + win0_11.xsize (grid0.coords t) 1
                rw [b0, b1, b2]; omega
    | ⟨2, _⟩ => show win0_11.index t 2 * win0_11.size 2 ≤ (i 2 : Nat) ∧ (i 2 : Nat) < win0_11.index t 2 * win0_11.size 2 + win0_11.xsize (grid0.coords t) 2
                rw [d0, d1, d2]; omega

theorem cover (i : S8x8x128.Idx) : ∃ t : Fin cfg0.N, (cfg0.win 11).flush t = true ∧ i ∈ ((cfg0.win 11).blk t).view.set :=
  ⟨point (i 0), flush0_11 _, (mem_blk _ i).mpr rfl⟩

theorem flushed_eq (c : Dev nD) (t : Fin cfg0.N) :
    (dats m 0 c).flushed 11 t = ((cfg0.win 11).blk t).view.read (Elt F) (blocks m c) := by
  show (cfg0.win 11).cut (grid0.coords t) ((dats m 0 c).after 11 t) = _
  rw [after_11]
  obtain ⟨⟨a0, a1, a2⟩, ⟨b0, b1, b2⟩, ⟨d0, d1, d2⟩⟩ := idx11 t
  funext j
  show outAt m c t _ = outAt m c (point _) (ix3 0 _ _)
  have j0 : (j 0 : Nat) < win0_11.xsize (grid0.coords t) 0 := (j 0).isLt
  have e : point ((((cfg0.win 11).blk t).view.emb j) 0) = t := by
    apply Fin.ext
    show win0_11.index t 0 * win0_11.size 0 + 1 * (j 0 : Nat) = t.val
    rw [a0, a1]; omega
  rw [e]
  congr 1
  funext a
  apply Fin.ext
  match a with
  | ⟨0, _⟩ => show (j 0 : Nat) = 0
              omega
  | ⟨1, _⟩ => show (j 1 : Nat) = win0_11.index t 1 * win0_11.size 1 + 1 * (j 1 : Nat)
              rw [b0]; omega
  | ⟨2, _⟩ => show (j 2 : Nat) = win0_11.index t 2 * win0_11.size 2 + 1 * (j 2 : Nat)
              rw [d0]; omega

theorem final_v71 (c : Dev nD) : (dats m 0 c).arrAt 11 cfg0.N = blocks m c :=
  (dats m 0 c).arrAt_eq_of_cover 11 (blocks m c) (fun t _ => flushed_eq m c t) cover

theorem tail_v73 (c : Dev nD) : Pipeline.afterTail₀ cfgs (dats m) 0 (V0 m) [hostOps1] c main_v73
    = transpose S8x100x6 [0, 2, 1] (extractStridedSlice S8x6x100 ![0, 0, 0] (blocks m c) slices_S8x8x128_S8x6x100_0_0_0) transposes_S8x6x100_S8x100x6_0_2_1 := by
  have h : Pipeline.withArrays spec0 c (V0 m c) (fun w => (dats m 0 c).arrAt w cfg0.N) (Proc.devRef .tc main_v71) = blocks m c :=
    (Pipeline.withArrays_arr spec0 (by decide) c (V0 m c) (fun w => (dats m 0 c).arrAt w cfg0.N) 11).trans (final_v71 m c)
  unfold Pipeline.afterTail₀
  show after hostOps1 (Pipeline.withArrays spec0 c (V0 m c) (fun w => (dats m 0 c).arrAt w cfg0.N)) (Proc.devRef .tc main_v73) = _
  rw [← h]
  generalize Pipeline.withArrays spec0 c (V0 m c) (fun w => (dats m 0 c).arrAt w cfg0.N) = W
  after_reads_simp
  first | done | rfl

/-- The run leaves the launch's rows, cut and turned, as its result. -/
theorem result_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v73)
      = transpose S8x100x6 [0, 2, 1] (extractStridedSlice S8x6x100 ![0, 0, 0] (blocks m c) slices_S8x8x128_S8x6x100_0_0_0) transposes_S8x6x100_S8x100x6_0_2_1 :=
  ((h c).2 main_v73 (Pipeline.mem_restRefs_of main_v73 (by decide) (by decide))).trans (tail_v73 m c)

end Cert.KernelIdeal.Nms

end
-- ==== Proof.RBox.lean ====
/-
  The candidates' boxes, scores and classes of the reference, entry by entry.
-/
module

public import proofs.«01_k».proof.Proof.KWin
public import proofs.«01_k».proof.Proof.Greedy
public import Idealize.ShloMosaic.Lib.Pointwise

@[expose] public section

noncomputable section

namespace Cert.ReferenceIdeal.Step

open Cert.ReferenceIdeal Cert.ReferenceIdeal.Gen
open Idealize.ShloMosaic Idealize.ShloMosaic.TcCoe

variable (x0 : (⟨S8x810x64x64, .f32⟩ : BufTy).Contents (Elt Ideal)) (x1 : (⟨S8x810x32x32, .f32⟩ : BufTy).Contents (Elt Ideal)) (x2 : (⟨S8x810x16x16, .f32⟩ : BufTy).Contents (Elt Ideal)) (x3 : (⟨S8x810x8x8, .f32⟩ : BufTy).Contents (Elt Ideal)) (x4 : (⟨S8x810x4x4, .f32⟩ : BufTy).Contents (Elt Ideal))
  (x5 : (⟨S8x36x64x64, .f32⟩ : BufTy).Contents (Elt Ideal)) (x6 : (⟨S8x36x32x32, .f32⟩ : BufTy).Contents (Elt Ideal)) (x7 : (⟨S8x36x16x16, .f32⟩ : BufTy).Contents (Elt Ideal)) (x8 : (⟨S8x36x8x8, .f32⟩ : BufTy).Contents (Elt Ideal)) (x9 : (⟨S8x36x4x4, .f32⟩ : BufTy).Contents (Elt Ideal)) (x11 : (⟨S49104x4, .f32⟩ : BufTy).Contents (Elt Ideal))
  (i : Fin 8) (n : Fin 5000)

theorem slice0 (x : FVec Ideal S8x5000x4 .f32) : shapeCast S8x5000 (extractStridedSlice S8x5000x1 ![0, 0, 0] x slices_S8x5000x4_S8x5000x1_0_0_0) shapeCasts_S8x5000x1_S8x5000 (ix2 i n) = x (ix3 i n 0) := by
  pointwise
theorem slice1 (x : FVec Ideal S8x5000x4 .f32) : shapeCast S8x5000 (extractStridedSlice S8x5000x1 ![0, 0, 1] x slices_S8x5000x4_S8x5000x1_0_0_1) shapeCasts_S8x5000x1_S8x5000 (ix2 i n) = x (ix3 i n 1) := by
  pointwise
theorem slice2 (x : FVec Ideal S8x5000x4 .f32) : shapeCast S8x5000 (extractStridedSlice S8x5000x1 ![0, 0, 2] x slices_S8x5000x4_S8x5000x1_0_0_2) shapeCasts_S8x5000x1_S8x5000 (ix2 i n) = x (ix3 i n 2) := by
  pointwise
theorem slice3 (x : FVec Ideal S8x5000x4 .f32) : shapeCast S8x5000 (extractStridedSlice S8x5000x1 ![0, 0, 3] x slices_S8x5000x4_S8x5000x1_0_0_3) shapeCasts_S8x5000x1_S8x5000 (ix2 i n) = x (ix3 i n 3) := by
  pointwise
theorem quotient_at (x : FVec Ideal S8x5000 .f32) (k : FVec Ideal S_ .f32) : Host.divf x (broadcastInDim S8x5000 ![] bcast_S_S8x5000 k) (ix2 i n) = Ideal.div (x (ix2 i n)) (k ix0) := by
  pointwise
theorem exp_at (x : FVec Ideal S8x5000 .f32) : Host.exp x (ix2 i n) = Ideal.exp (x (ix2 i n)) := by
  pointwise
theorem mul_at (x y : FVec Ideal S8x5000 .f32) : mulf x y (ix2 i n) = x (ix2 i n) * y (ix2 i n) := by
  pointwise
theorem add_at (x y : FVec Ideal S8x5000 .f32) : addf x y (ix2 i n) = x (ix2 i n) + y (ix2 i n) := by
  pointwise
theorem sub_at (x y : FVec Ideal S8x5000 .f32) : subf x y (ix2 i n) = x (ix2 i n) - y (ix2 i n) := by
  pointwise
theorem clip_at (x : FVec Ideal S8x5000x4 .f32) (k l : FVec Ideal S_ .f32) (j : Fin 4) : minimumf (maximumf x (broadcastInDim S8x5000x4 ![] bcast_S_S8x5000x4 k)) (broadcastInDim S8x5000x4 ![] bcast_S_S8x5000x4 l) (ix3 i n j) = min (max (x (ix3 i n j)) (k ix0)) (l ix0) := by
  pointwise
theorem sigmoid_at (x : FVec Ideal S8x5000 .f32) (k l : FVec Ideal S_ .f32) : Host.divf (broadcastInDim S8x5000 ![] bcast_S_S8x5000 k) (addf (broadcastInDim S8x5000 ![] bcast_S_S8x5000 l) (Host.exp (Host.negf x))) (ix2 i n) = Ideal.div (k ix0) (l ix0 + Ideal.exp (-(x (ix2 i n)))) := by
  pointwise
theorem column_at0 (p0 p1 p2 p3 : FVec Ideal S8x5000 .f32) : concatenate S8x5000x4 2
    [⟨S8x5000x1, broadcastInDim S8x5000x1 ![0, 1] bcast_S8x5000_S8x5000x1_0_1 p0⟩, ⟨S8x5000x1, broadcastInDim S8x5000x1 ![0, 1] bcast_S8x5000_S8x5000x1_0_1 p1⟩,
      ⟨S8x5000x1, broadcastInDim S8x5000x1 ![0, 1] bcast_S8x5000_S8x5000x1_0_1 p2⟩, ⟨S8x5000x1, broadcastInDim S8x5000x1 ![0, 1] bcast_S8x5000_S8x5000x1_0_1 p3⟩]
    concatenates_S8x5000x1_S8x5000x1_S8x5000x1_S8x5000x1_S8x5000x4_d2 (ix3 i n 0) = p0 (ix2 i n) := by
  pointwise
theorem column_at1 (p0 p1 p2 p3 : FVec Ideal S8x5000 .f32) : concatenate S8x5000x4 2
    [⟨S8x5000x1, broadcastInDim S8x5000x1 ![0, 1] bcast_S8x5000_S8x5000x1_0_1 p0⟩, ⟨S8x5000x1, broadcastInDim S8x5000x1 ![0, 1] bcast_S8x5000_S8x5000x1_0_1 p1⟩,
      ⟨S8x5000x1, broadcastInDim S8x5000x1 ![0, 1] bcast_S8x5000_S8x5000x1_0_1 p2⟩, ⟨S8x5000x1, broadcastInDim S8x5000x1 ![0, 1] bcast_S8x5000_S8x5000x1_0_1 p3⟩]
    concatenates_S8x5000x1_S8x5000x1_S8x5000x1_S8x5000x1_S8x5000x4_d2 (ix3 i n 1) = p1 (ix2 i n) := by
  pointwise
theorem column_at2 (p0 p1 p2 p3 : FVec Ideal S8x5000 .f32) : concatenate S8x5000x4 2
    [⟨S8x5000x1, broadcastInDim S8x5000x1 ![0, 1] bcast_S8x5000_S8x5000x1_0_1 p0⟩, ⟨S8x5000x1, broadcastInDim S8x5000x1 ![0, 1] bcast_S8x5000_S8x5000x1_0_1 p1⟩,
      ⟨S8x5000x1, broadcastInDim S8x5000x1 ![0, 1] bcast_S8x5000_S8x5000x1_0_1 p2⟩, ⟨S8x5000x1, broadcastInDim S8x5000x1 ![0, 1] bcast_S8x5000_S8x5000x1_0_1 p3⟩]
    concatenates_S8x5000x1_S8x5000x1_S8x5000x1_S8x5000x1_S8x5000x4_d2 (ix3 i n 2) = p2 (ix2 i n) := by
  pointwise
theorem column_at3 (p0 p1 p2 p3 : FVec Ideal S8x5000 .f32) : concatenate S8x5000x4 2
    [⟨S8x5000x1, broadcastInDim S8x5000x1 ![0, 1] bcast_S8x5000_S8x5000x1_0_1 p0⟩, ⟨S8x5000x1, broadcastInDim S8x5000x1 ![0, 1] bcast_S8x5000_S8x5000x1_0_1 p1⟩,
      ⟨S8x5000x1, broadcastInDim S8x5000x1 ![0, 1] bcast_S8x5000_S8x5000x1_0_1 p2⟩, ⟨S8x5000x1, broadcastInDim S8x5000x1 ![0, 1] bcast_S8x5000_S8x5000x1_0_1 p3⟩]
    concatenates_S8x5000x1_S8x5000x1_S8x5000x1_S8x5000x1_S8x5000x4_d2 (ix3 i n 3) = p3 (ix2 i n) := by
  pointwise

theorem at_v41 : A_main_v41 x0 x1 x2 x3 x4 x5 x6 x7 x8 x9 x11 (ix2 i n) = A_main_v39 x0 x1 x2 x3 x4 x5 x6 x7 x8 x9 x11 (ix3 i n 0) := slice0 i n (A_main_v39 x0 x1 x2 x3 x4 x5 x6 x7 x8 x9 x11)

theorem at_v43 : A_main_v43 x0 x1 x2 x3 x4 x5 x6 x7 x8 x9 x11 (ix2 i n) = A_main_v39 x0 x1 x2 x3 x4 x5 x6 x7 x8 x9 x11 (ix3 i n 2) := slice2 i n (A_main_v39 x0 x1 x2 x3 x4 x5 x6 x7 x8 x9 x11)

theorem at_v48 : A_main_v48 x0 x1 x2 x3 x4 x5 x6 x7 x8 x9 x11 (ix2 i n) = A_main_v39 x0 x1 x2 x3 x4 x5 x6 x7 x8 x9 x11 (ix3 i n 1) := slice1 i n (A_main_v39 x0 x1 x2 x3 x4 x5 x6 x7 x8 x9 x11)

theorem at_v50 : A_main_v50 x0 x1 x2 x3 x4 x5 x6 x7 x8 x9 x11 (ix2 i n) = A_main_v39 x0 x1 x2 x3 x4 x5 x6 x7 x8 x9 x11 (ix3 i n 3) := slice3 i n (A_main_v39 x0 x1 x2 x3 x4 x5 x6 x7 x8 x9 x11)

theorem at_v55 : A_main_v55 x0 x1 x2 x3 x4 x5 x6 x7 x8 x9 x11 (ix2 i n) = A_main_v39 x0 x1 x2 x3 x4 x5 x6 x7 x8 x9 x11 (ix3 i n 2) := slice2 i n (A_main_v39 x0 x1 x2 x3 x4 x5 x6 x7 x8 x9 x11)

theorem at_v57 : A_main_v57 x0 x1 x2 x3 x4 x5 x6 x7 x8 x9 x11 (ix2 i n) = A_main_v39 x0 x1 x2 x3 x4 x5 x6 x7 x8 x9 x11 (ix3 i n 0) := slice0 i n (A_main_v39 x0 x1 x2 x3 x4 x5 x6 x7 x8 x9 x11)

theorem at_v60 : A_main_v60 x0 x1 x2 x3 x4 x5 x6 x7 x8 x9 x11 (ix2 i n) = A_main_v39 x0 x1 x2 x3 x4 x5 x6 x7 x8 x9 x11 (ix3 i n 3) := slice3 i n (A_main_v39 x0 x1 x2 x3 x4 x5 x6 x7 x8 x9 x11)

theorem at_v62 : A_main_v62 x0 x1 x2 x3 x4 x5 x6 x7 x8 x9 x11 (ix2 i n) = A_main_v39 x0 x1 x2 x3 x4 x5 x6 x7 x8 x9 x11 (ix3 i n 1) := slice1 i n (A_main_v39 x0 x1 x2 x3 x4 x5 x6 x7 x8 x9 x11)

theorem at_v65 : A_main_v65 x0 x1 x2 x3 x4 x5 x6 x7 x8 x9 x11 (ix2 i n) = A_main_v27 x0 x1 x2 x3 x4 x5 x6 x7 x8 x9 x11 (ix3 i n 0) := slice0 i n (A_main_v27 x0 x1 x2 x3 x4 x5 x6 x7 x8 x9 x11)

theorem at_v67 : A_main_v67 x0 x1 x2 x3 x4 x5 x6 x7 x8 x9 x11 (ix2 i n) = A_main_v27 x0 x1 x2 x3 x4 x5 x6 x7 x8 x9 x11 (ix3 i n 1) := slice1 i n (A_main_v27 x0 x1 x2 x3 x4 x5 x6 x7 x8 x9 x11)

theorem at_v69 : A_main_v69 x0 x1 x2 x3 x4 x5 x6 x7 x8 x9 x11 (ix2 i n) = A_main_v27 x0 x1 x2 x3 x4 x5 x6 x7 x8 x9 x11 (ix3 i n 2) := slice2 i n (A_main_v27 x0 x1 x2 x3 x4 x5 x6 x7 x8 x9 x11)

theorem at_v71 : A_main_v71 x0 x1 x2 x3 x4 x5 x6 x7 x8 x9 x11 (ix2 i n) = A_main_v27 x0 x1 x2 x3 x4 x5 x6 x7 x8 x9 x11 (ix3 i n 3) := slice3 i n (A_main_v27 x0 x1 x2 x3 x4 x5 x6 x7 x8 x9 x11)

theorem at_v44 : A_main_v44 x0 x1 x2 x3 x4 x5 x6 x7 x8 x9 x11 (ix2 i n) = (A_main_v39 x0 x1 x2 x3 x4 x5 x6 x7 x8 x9 x11 (ix3 i n 0)) + (A_main_v39 x0 x1 x2 x3 x4 x5 x6 x7 x8 x9 x11 (ix3 i n 2)) :=
  (add_at i n (A_main_v41 x0 x1 x2 x3 x4 x5 x6 x7 x8 x9 x11) (A_main_v43 x0 x1 x2 x3 x4 x5 x6 x7 x8 x9 x11)).trans (congrArg₂ (· + ·) (at_v41 x0 x1 x2 x3 x4 x5 x6 x7 x8 x9 x11 i n) (at_v43 x0 x1 x2 x3 x4 x5 x6 x7 x8 x9 x11 i n))

theorem at_v46 : A_main_v46 x0 x1 x2 x3 x4 x5 x6 x7 x8 x9 x11 (ix2 i n) = Ideal.div ((A_main_v39 x0 x1 x2 x3 x4 x5 x6 x7 x8 x9 x11 (ix3 i n 0)) + (A_main_v39 x0 x1 x2 x3 x4 x5 x6 x7 x8 x9 x11 (ix3 i n 2))) (Ideal.ofBits FTy.f32 0x40000000#32) := by
  rw [show A_main_v46 x0 x1 x2 x3 x4 x5 x6 x7 x8 x9 x11 (ix2 i n) = Ideal.div (A_main_v44 x0 x1 x2 x3 x4 x5 x6 x7 x8 x9 x11 (ix2 i n)) (Ideal.ofBits FTy.f32 0x40000000#32) from quotient_at i n (A_main_v44 x0 x1 x2 x3 x4 x5 x6 x7 x8 x9 x11) (constant S_ .f32 0x40000000#32), at_v44]

theorem at_v51 : A_main_v51 x0 x1 x2 x3 x4 x5 x6 x7 x8 x9 x11 (ix2 i n) = (A_main_v39 x0 x1 x2 x3 x4 x5 x6 x7 x8 x9 x11 (ix3 i n 1)) + (A_main_v39 x0 x1 x2 x3 x4 x5 x6 x7 x8 x9 x11 (ix3 i n 3)) :=
  (add_at i n (A_main_v48 x0 x1 x2 x3 x4 x5 x6 x7 x8 x9 x11) (A_main_v50 x0 x1 x2 x3 x4 x5 x6 x7 x8 x9 x11)).trans (congrArg₂ (· + ·) (at_v48 x0 x1 x2 x3 x4 x5 x6 x7 x8 x9 x11 i n) (at_v50 x0 x1 x2 x3 x4 x5 x6 x7 x8 x9 x11 i n))

theorem at_v53 : A_main_v53 x0 x1 x2 x3 x4 x5 x6 x7 x8 x9 x11 (ix2 i n) = Ideal.div ((A_main_v39 x0 x1 x2 x3 x4 x5 x6 x7 x8 x9 x11 (ix3 i n 1)) + (A_main_v39 x0 x1 x2 x3 x4 x5 x6 x7 x8 x9 x11 (ix3 i n 3))) (Ideal.ofBits FTy.f32 0x40000000#32) := by
  rw [show A_main_v53 x0 x1 x2 x3 x4 x5 x6 x7 x8 x9 x11 (ix2 i n) = Ideal.div (A_main_v51 x0 x1 x2 x3 x4 x5 x6 x7 x8 x9 x11 (ix2 i n)) (Ideal.ofBits FTy.f32 0x40000000#32) from quotient_at i n (A_main_v51 x0 x1 x2 x3 x4 x5 x6 x7 x8 x9 x11) (constant S_ .f32 0x40000000#32), at_v51]

theorem at_v58 : A_main_v58 x0 x1 x2 x3 x4 x5 x6 x7 x8 x9 x11 (ix2 i n) = (A_main_v39 x0 x1 x2 x3 x4 x5 x6 x7 x8 x9 x11 (ix3 i n 2)) - (A_main_v39 x0 x1 x2 x3 x4 x5 x6 x7 x8 x9 x11 (ix3 i n 0)) :=
  (sub_at i n (A_main_v55 x0 x1 x2 x3 x4 x5 x6 x7 x8 x9 x11) (A_main_v57 x0 x1 x2 x3 x4 x5 x6 x7 x8 x9 x11)).trans (congrArg₂ (· - ·) (at_v55 x0 x1 x2 x3 x4 x5 x6 x7 x8 x9 x11 i n) (at_v57 x0 x1 x2 x3 x4 x5 x6 x7 x8 x9 x11 i n))

theorem at_v63 : A_main_v63 x0 x1 x2 x3 x4 x5 x6 x7 x8 x9 x11 (ix2 i n) = (A_main_v39 x0 x1 x2 x3 x4 x5 x6 x7 x8 x9 x11 (ix3 i n 3)) - (A_main_v39 x0 x1 x2 x3 x4 x5 x6 x7 x8 x9 x11 (ix3 i n 1)) :=
  (sub_at i n (A_main_v60 x0 x1 x2 x3 x4 x5 x6 x7 x8 x9 x11) (A_main_v62 x0 x1 x2 x3 x4 x5 x6 x7 x8 x9 x11)).trans (congrArg₂ (· - ·) (at_v60 x0 x1 x2 x3 x4 x5 x6 x7 x8 x9 x11 i n) (at_v62 x0 x1 x2 x3 x4 x5 x6 x7 x8 x9 x11 i n))

theorem at_v72 : A_main_v72 x0 x1 x2 x3 x4 x5 x6 x7 x8 x9 x11 (ix2 i n) = Ideal.exp (A_main_v27 x0 x1 x2 x3 x4 x5 x6 x7 x8 x9 x11 (ix3 i n 3)) :=
  (exp_at i n (A_main_v71 x0 x1 x2 x3 x4 x5 x6 x7 x8 x9 x11)).trans (congrArg Ideal.exp (at_v71 x0 x1 x2 x3 x4 x5 x6 x7 x8 x9 x11 i n))

theorem at_v73 : A_main_v73 x0 x1 x2 x3 x4 x5 x6 x7 x8 x9 x11 (ix2 i n) = (Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1))) :=
  (mul_at i n (A_main_v72 x0 x1 x2 x3 x4 x5 x6 x7 x8 x9 x11) (A_main_v63 x0 x1 x2 x3 x4 x5 x6 x7 x8 x9 x11)).trans (congrArg₂ (· * ·) (at_v72 x0 x1 x2 x3 x4 x5 x6 x7 x8 x9 x11 i n) (at_v63 x0 x1 x2 x3 x4 x5 x6 x7 x8 x9 x11 i n))

theorem at_v74 : A_main_v74 x0 x1 x2 x3 x4 x5 x6 x7 x8 x9 x11 (ix2 i n) = Ideal.exp (A_main_v27 x0 x1 x2 x3 x4 x5 x6 x7 x8 x9 x11 (ix3 i n 2)) :=
  (exp_at i n (A_main_v69 x0 x1 x2 x3 x4 x5 x6 x7 x8 x9 x11)).trans (congrArg Ideal.exp (at_v69 x0 x1 x2 x3 x4 x5 x6 x7 x8 x9 x11 i n))

theorem at_v75 : A_main_v75 x0 x1 x2 x3 x4 x5 x6 x7 x8 x9 x11 (ix2 i n) = (Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0))) :=
  (mul_at i n (A_main_v74 x0 x1 x2 x3 x4 x5 x6 x7 x8 x9 x11) (A_main_v58 x0 x1 x2 x3 x4 x5 x6 x7 x8 x9 x11)).trans (congrArg₂ (· * ·) (at_v74 x0 x1 x2 x3 x4 x5 x6 x7 x8 x9 x11 i n) (at_v58 x0 x1 x2 x3 x4 x5 x6 x7 x8 x9 x11 i n))

theorem at_v76 : A_main_v76 x0 x1 x2 x3 x4 x5 x6 x7 x8 x9 x11 (ix2 i n) = (A_main_v27 x0 x1 x2 x3 x4 x5 x6 x7 x8 x9 x11 (ix3 i n 0)) * ((A_main_v39 x0 x1 x2 x3 x4 x5 x6 x7 x8 x9 x11 (ix3 i n 2)) - (A_main_v39 x0 x1 x2 x3 x4 x5 x6 x7 x8 x9 x11 (ix3 i n 0))) :=
  (mul_at i n (A_main_v65 x0 x1 x2 x3 x4 x5 x6 x7 x8 x9 x11) (A_main_v58 x0 x1 x2 x3 x4 x5 x6 x7 x8 x9 x11)).trans (congrArg₂ (· * ·) (at_v65 x0 x1 x2 x3 x4 x5 x6 x7 x8 x9 x11 i n) (at_v58 x0 x1 x2 x3 x4 x5 x6 x7 x8 x9 x11 i n))

theorem at_v77 : A_main_v77 x0 x1 x2 x3 x4 x5 x6 x7 x8 x9 x11 (ix2 i n) = ((A_main_v27 x0 x1 x2 x3 x4 x5 x6 x7 x8 x9 x11 (ix3 i n 0)) * ((A_main_v39 x0 x1 x2 x3 x4 x5 x6 x7 x8 x9 x11 (ix3 i n 2)) - (A_main_v39 x0 x1 x2 x3 x4 x5 x6 x7 x8 x9 x11 (ix3 i n 0)))) + (Ideal.div ((A_main_v39 x0 x1 x2 x3 x4 x5 x6 x7 x8 x9 x11 (ix3 i n 0)) + (A_main_v39 x0 x1 x2 x3 x4 x5 x6 x7 x8 x9 x11 (ix3 i n 2))) (Ideal.ofBits FTy.f32 0x40000000#32)) :=
  (add_at i n (A_main_v76 x0 x1 x2 x3 x4 x5 x6 x7 x8 x9 x11) (A_main_v46 x0 x1 x2 x3 x4 x5 x6 x7 x8 x9 x11)).trans (congrArg₂ (· + ·) (at_v76 x0 x1 x2 x3 x4 x5 x6 x7 x8 x9 x11 i n) (at_v46 x0 x1 x2 x3 x4 x5 x6 x7 x8 x9 x11 i n))

theorem at_v78 : A_main_v78 x0 x1 x2 x3 x4 x5 x6 x7 x8 x9 x11 (ix2 i n) = (A_main_v27 x0 x1 x2 x3 x4 x5 x6 x7 x8 x9 x11 (ix3 i n 1)) * ((A_main_v39 x0 x1 x2 x3 x4 x5 x6 x7 x8 x9 x11 (ix3 i n 3)) - (A_main_v39 x0 x1 x2 x3 x4 x5 x6 x7 x8 x9 x11 (ix3 i n 1))) :=
  (mul_at i n (A_main_v67 x0 x1 x2 x3 x4 x5 x6 x7 x8 x9 x11) (A_main_v63 x0 x1 x2 x3 x4 x5 x6 x7 x8 x9 x11)).trans (congrArg₂ (· * ·) (at_v67 x0 x1 x2 x3 x4 x5 x6 x7 x8 x9 x11 i n) (at_v63 x0 x1 x2 x3 x4 x5 x6 x7 x8 x9 x11 i n))

theorem at_v79 : A_main_v79 x0 x1 x2 x3 x4 x5 x6 x7 x8 x9 x11 (ix2 i n) = ((A_main_v27 x0 x1 x2 x3 x4 x5 x6 x7 x8 x9 x11 (ix3 i n 1)) * ((A_main_v39 x0 x1 x2 x3 x4 x5 x6 x7 x8 x9 x11 (ix3 i n 3)) - (A_main_v39 x0 x1 x2 x3 x4 x5 x6 x7 x8 x9 x11 (ix3 i n 1)))) + (Ideal.div ((A_main_v39 x0 x1 x2 x3 x4 x5 x6 x7 x8 x9 x11 (ix3 i n 1)) + (A_main_v39 x0 x1 x2 x3 x4 x5 x6 x7 x8 x9 x11 (ix3 i n 3))) (Ideal.ofBits FTy.f32 0x40000000#32)) :=
  (add_at i n (A_main_v78 x0 x1 x2 x3 x4 x5 x6 x7 x8 x9 x11) (A_main_v53 x0 x1 x2 x3 x4 x5 x6 x7 x8 x9 x11)).trans (congrArg₂ (· + ·) (at_v78 x0 x1 x2 x3 x4 x5 x6 x7 x8 x9 x11 i n) (at_v53 x0 x1 x2 x3 x4 x5 x6 x7 x8 x9 x11 i n))

theorem at_v81 : A_main_v81 x0 x1 x2 x3 x4 x5 x6 x7 x8 x9 x11 (ix2 i n) = Ideal.div ((Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0)))) (Ideal.ofBits FTy.f32 0x40000000#32) := by
  rw [show A_main_v81 x0 x1 x2 x3 x4 x5 x6 x7 x8 x9 x11 (ix2 i n) = Ideal.div (A_main_v75 x0 x1 x2 x3 x4 x5 x6 x7 x8 x9 x11 (ix2 i n)) (Ideal.ofBits FTy.f32 0x40000000#32) from quotient_at i n (A_main_v75 x0 x1 x2 x3 x4 x5 x6 x7 x8 x9 x11) (constant S_ .f32 0x40000000#32), at_v75]

theorem at_v82 : A_main_v82 x0 x1 x2 x3 x4 x5 x6 x7 x8 x9 x11 (ix2 i n) = (((A_main_v27 x0 x1 x2 x3 x4 x5 x6 x7 x8 x9 x11 (ix3 i n 0)) * ((A_main_v39 x0 x1 x2 x3 x4 x5 x6 x7 x8 x9 x11 (ix3 i n 2)) - (A_main_v39 x0 x1 x2 x3 x4 x5 x6 x7 x8 x9 x11 (ix3 i n 0)))) + (Ideal.div ((A_main_v39 x0 x1 x2 x3 x4 x5 x6 x7 x8 x9 x11 (ix3 i n 0)) + (A_main_v39 x0 x1 x2 x3 x4 x5 x6 x7 x8 x9 x11 (ix3 i n 2))) (Ideal.ofBits FTy.f32 0x40000000#32))) - (Ideal.div ((Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0)))) (Ideal.ofBits FTy.f32 0x40000000#32)) :=
  (sub_at i n (A_main_v77 x0 x1 x2 x3 x4 x5 x6 x7 x8 x9 x11) (A_main_v81 x0 x1 x2 x3 x4 x5 x6 x7 x8 x9 x11)).trans (congrArg₂ (· - ·) (at_v77 x0 x1 x2 x3 x4 x5 x6 x7 x8 x9 x11 i n) (at_v81 x0 x1 x2 x3 x4 x5 x6 x7 x8 x9 x11 i n))

theorem at_v84 : A_main_v84 x0 x1 x2 x3 x4 x5 x6 x7 x8 x9 x11 (ix2 i n) = Ideal.div ((Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1)))) (Ideal.ofBits FTy.f32 0x40000000#32) := by
  rw [show A_main_v84 x0 x1 x2 x3 x4 x5 x6 x7 x8 x9 x11 (ix2 i n) = Ideal.div (A_main_v73 x0 x1 x2 x3 x4 x5 x6 x7 x8 x9 x11 (ix2 i n)) (Ideal.ofBits FTy.f32 0x40000000#32) from quotient_at i n (A_main_v73 x0 x1 x2 x3 x4 x5 x6 x7 x8 x9 x11) (constant S_ .f32 0x40000000#32), at_v73]

theorem at_v85 : A_main_v85 x0 x1 x2 x3 x4 x5 x6 x7 x8 x9 x11 (ix2 i n) = (((A_main_v27 x0 x1 x2 x3 x4 x5 x6 x7 x8 x9 x11 (ix3 i n 1)) * ((A_main_v39 x0 x1 x2 x3 x4 x5 x6 x7 x8 x9 x11 (ix3 i n 3)) - (A_main_v39 x0 x1 x2 x3 x4 x5 x6 x7 x8 x9 x11 (ix3 i n 1)))) + (Ideal.div ((A_main_v39 x0 x1 x2 x3 x4 x5 x6 x7 x8 x9 x11 (ix3 i n 1)) + (A_main_v39 x0 x1 x2 x3 x4 x5 x6 x7 x8 x9 x11 (ix3 i n 3))) (Ideal.ofBits FTy.f32 0x40000000#32))) - (Ideal.div ((Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1)))) (Ideal.ofBits FTy.f32 0x40000000#32)) :=
  (sub_at i n (A_main_v79 x0 x1 x2 x3 x4 x5 x6 x7 x8 x9 x11) (A_main_v84 x0 x1 x2 x3 x4 x5 x6 x7 x8 x9 x11)).trans (congrArg₂ (· - ·) (at_v79 x0 x1 x2 x3 x4 x5 x6 x7 x8 x9 x11 i n) (at_v84 x0 x1 x2 x3 x4 x5 x6 x7 x8 x9 x11 i n))

theorem at_v87 : A_main_v87 x0 x1 x2 x3 x4 x5 x6 x7 x8 x9 x11 (ix2 i n) = Ideal.div ((Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0)))) (Ideal.ofBits FTy.f32 0x40000000#32) := by
  rw [show A_main_v87 x0 x1 x2 x3 x4 x5 x6 x7 x8 x9 x11 (ix2 i n) = Ideal.div (A_main_v75 x0 x1 x2 x3 x4 x5 x6 x7 x8 x9 x11 (ix2 i n)) (Ideal.ofBits FTy.f32 0x40000000#32) from quotient_at i n (A_main_v75 x0 x1 x2 x3 x4 x5 x6 x7 x8 x9 x11) (constant S_ .f32 0x40000000#32), at_v75]

theorem at_v88 : A_main_v88 x0 x1 x2 x3 x4 x5 x6 x7 x8 x9 x11 (ix2 i n) = (((A_main_v27 x0 x1 x2 x3 x4 x5 x6 x7 x8 x9 x11 (ix3 i n 0)) * ((A_main_v39 x0 x1 x2 x3 x4 x5 x6 x7 x8 x9 x11 (ix3 i n 2)) - (A_main_v39 x0 x1 x2 x3 x4 x5 x6 x7 x8 x9 x11 (ix3 i n 0)))) + (Ideal.div ((A_main_v39 x0 x1 x2 x3 x4 x5 x6 x7 x8 x9 x11 (ix3 i n 0)) + (A_main_v39 x0 x1 x2 x3 x4 x5 x6 x7 x8 x9 x11 (ix3 i n 2))) (Ideal.ofBits FTy.f32 0x40000000#32))) + (Ideal.div ((Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0)))) (Ideal.ofBits FTy.f32 0x40000000#32)) :=
  (add_at i n (A_main_v77 x0 x1 x2 x3 x4 x5 x6 x7 x8 x9 x11) (A_main_v87 x0 x1 x2 x3 x4 x5 x6 x7 x8 x9 x11)).trans (congrArg₂ (· + ·) (at_v77 x0 x1 x2 x3 x4 x5 x6 x7 x8 x9 x11 i n) (at_v87 x0 x1 x2 x3 x4 x5 x6 x7 x8 x9 x11 i n))

theorem at_v90 : A_main_v90 x0 x1 x2 x3 x4 x5 x6 x7 x8 x9 x11 (ix2 i n) = Ideal.div ((Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1)))) (Ideal.ofBits FTy.f32 0x40000000#32) := by
  rw [show A_main_v90 x0 x1 x2 x3 x4 x5 x6 x7 x8 x9 x11 (ix2 i n) = Ideal.div (A_main_v73 x0 x1 x2 x3 x4 x5 x6 x7 x8 x9 x11 (ix2 i n)) (Ideal.ofBits FTy.f32 0x40000000#32) from quotient_at i n (A_main_v73 x0 x1 x2 x3 x4 x5 x6 x7 x8 x9 x11) (constant S_ .f32 0x40000000#32), at_v73]

theorem at_v91 : A_main_v91 x0 x1 x2 x3 x4 x5 x6 x7 x8 x9 x11 (ix2 i n) = (((A_main_v27 x0 x1 x2 x3 x4 x5 x6 x7 x8 x9 x11 (ix3 i n 1)) * ((A_main_v39 x0 x1 x2 x3 x4 x5 x6 x7 x8 x9 x11 (ix3 i n 3)) - (A_main_v39 x0 x1 x2 x3 x4 x5 x6 x7 x8 x9 x11 (ix3 i n 1)))) + (Ideal.div ((A_main_v39 x0 x1 x2 x3 x4 x5 x6 x7 x8 x9 x11 (ix3 i n 1)) + (A_main_v39 x0 x1 x2 x3 x4 x5 x6 x7 x8 x9 x11 (ix3 i n 3))) (Ideal.ofBits FTy.f32 0x40000000#32))) + (Ideal.div ((Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1)))) (Ideal.ofBits FTy.f32 0x40000000#32)) :=
  (add_at i n (A_main_v79 x0 x1 x2 x3 x4 x5 x6 x7 x8 x9 x11) (A_main_v90 x0 x1 x2 x3 x4 x5 x6 x7 x8 x9 x11)).trans (congrArg₂ (· + ·) (at_v79 x0 x1 x2 x3 x4 x5 x6 x7 x8 x9 x11 i n) (at_v90 x0 x1 x2 x3 x4 x5 x6 x7 x8 x9 x11 i n))

theorem box0 : A_main_v100 x0 x1 x2 x3 x4 x5 x6 x7 x8 x9 x11 (ix3 i n 0) = min (max ((((A_main_v27 x0 x1 x2 x3 x4 x5 x6 x7 x8 x9 x11 (ix3 i n 0)) * ((A_main_v39 x0 x1 x2 x3 x4 x5 x6 x7 x8 x9 x11 (ix3 i n 2)) - (A_main_v39 x0 x1 x2 x3 x4 x5 x6 x7 x8 x9 x11 (ix3 i n 0)))) + (Ideal.div ((A_main_v39 x0 x1 x2 x3 x4 x5 x6 x7 x8 x9 x11 (ix3 i n 0)) + (A_main_v39 x0 x1 x2 x3 x4 x5 x6 x7 x8 x9 x11 (ix3 i n 2))) (Ideal.ofBits FTy.f32 0x40000000#32))) - (Ideal.div ((Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0)))) (Ideal.ofBits FTy.f32 0x40000000#32))) (Ideal.ofBits FTy.f32 0x00000000#32)) (Ideal.ofBits FTy.f32 0x44000000#32) := by
  rw [← at_v82 x0 x1 x2 x3 x4 x5 x6 x7 x8 x9 x11 i n, ← column_at0 i n (A_main_v82 x0 x1 x2 x3 x4 x5 x6 x7 x8 x9 x11) (A_main_v85 x0 x1 x2 x3 x4 x5 x6 x7 x8 x9 x11) (A_main_v88 x0 x1 x2 x3 x4 x5 x6 x7 x8 x9 x11) (A_main_v91 x0 x1 x2 x3 x4 x5 x6 x7 x8 x9 x11)]
  exact clip_at i n (A_main_v96 x0 x1 x2 x3 x4 x5 x6 x7 x8 x9 x11) (constant S_ .f32 0x00000000#32) (constant S_ .f32 0x44000000#32) 0

theorem box1 : A_main_v100 x0 x1 x2 x3 x4 x5 x6 x7 x8 x9 x11 (ix3 i n 1) = min (max ((((A_main_v27 x0 x1 x2 x3 x4 x5 x6 x7 x8 x9 x11 (ix3 i n 1)) * ((A_main_v39 x0 x1 x2 x3 x4 x5 x6 x7 x8 x9 x11 (ix3 i n 3)) - (A_main_v39 x0 x1 x2 x3 x4 x5 x6 x7 x8 x9 x11 (ix3 i n 1)))) + (Ideal.div ((A_main_v39 x0 x1 x2 x3 x4 x5 x6 x7 x8 x9 x11 (ix3 i n 1)) + (A_main_v39 x0 x1 x2 x3 x4 x5 x6 x7 x8 x9 x11 (ix3 i n 3))) (Ideal.ofBits FTy.f32 0x40000000#32))) - (Ideal.div ((Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1)))) (Ideal.ofBits FTy.f32 0x40000000#32))) (Ideal.ofBits FTy.f32 0x00000000#32)) (Ideal.ofBits FTy.f32 0x44000000#32) := by
  rw [← at_v85 x0 x1 x2 x3 x4 x5 x6 x7 x8 x9 x11 i n, ← column_at1 i n (A_main_v82 x0 x1 x2 x3 x4 x5 x6 x7 x8 x9 x11) (A_main_v85 x0 x1 x2 x3 x4 x5 x6 x7 x8 x9 x11) (A_main_v88 x0 x1 x2 x3 x4 x5 x6 x7 x8 x9 x11) (A_main_v91 x0 x1 x2 x3 x4 x5 x6 x7 x8 x9 x11)]
  exact clip_at i n (A_main_v96 x0 x1 x2 x3 x4 x5 x6 x7 x8 x9 x11) (constant S_ .f32 0x00000000#32) (constant S_ .f32 0x44000000#32) 1

theorem box2 : A_main_v100 x0 x1 x2 x3 x4 x5 x6 x7 x8 x9 x11 (ix3 i n 2) = min (max ((((A_main_v27 x0 x1 x2 x3 x4 x5 x6 x7 x8 x9 x11 (ix3 i n 0)) * ((A_main_v39 x0 x1 x2 x3 x4 x5 x6 x7 x8 x9 x11 (ix3 i n 2)) - (A_main_v39 x0 x1 x2 x3 x4 x5 x6 x7 x8 x9 x11 (ix3 i n 0)))) + (Ideal.div ((A_main_v39 x0 x1 x2 x3 x4 x5 x6 x7 x8 x9 x11 (ix3 i n 0)) + (A_main_v39 x0 x1 x2 x3 x4 x5 x6 x7 x8 x9 x11 (ix3 i n 2))) (Ideal.ofBits FTy.f32 0x40000000#32))) + (Ideal.div ((Ideal.exp (A_main_v27 x0 x1 x2 x3 x4 x5 x6 x7 x8 x9 x11 (ix3 i n 2))) * ((A_main_v39 x0 x1 x2 x3 x4 x5 x6 x7 x8 x9 x11 (ix3 i n 2)) - (A_main_v39 x0 x1 x2 x3 x4 x5 x6 x7 x8 x9 x11 (ix3 i n 0)))) (Ideal.ofBits FTy.f32 0x40000000#32))) (Ideal.ofBits FTy.f32 0x00000000#32)) (Ideal.ofBits FTy.f32 0x44000000#32) := by
  rw [← at_v88 x0 x1 x2 x3 x4 x5 x6 x7 x8 x9 x11 i n, ← column_at2 i n (A_main_v82 x0 x1 x2 x3 x4 x5 x6 x7 x8 x9 x11) (A_main_v85 x0 x1 x2 x3 x4 x5 x6 x7 x8 x9 x11) (A_main_v88 x0 x1 x2 x3 x4 x5 x6 x7 x8 x9 x11) (A_main_v91 x0 x1 x2 x3 x4 x5 x6 x7 x8 x9 x11)]
  exact clip_at i n (A_main_v96 x0 x1 x2 x3 x4 x5 x6 x7 x8 x9 x11) (constant S_ .f32 0x00000000#32) (constant S_ .f32 0x44000000#32) 2

theorem box3 : A_main_v100 x0 x1 x2 x3 x4 x5 x6 x7 x8 x9 x11 (ix3 i n 3) = min (max ((((A_main_v27 x0 x1 x2 x3 x4 x5 x6 x7 x8 x9 x11 (ix3 i n 1)) * ((A_main_v39 x0 x1 x2 x3 x4 x5 x6 x7 x8 x9 x11 (ix3 i n 3)) - (A_main_v39 x0 x1 x2 x3 x4 x5 x6 x7 x8 x9 x11 (ix3 i n 1)))) + (Ideal.div ((A_main_v39 x0 x1 x2 x3 x4 x5 x6 x7 x8 x9 x11 (ix3 i n 1)) + (A_main_v39 x0 x1 x2 x3 x4 x5 x6 x7 x8 x9 x11 (ix3 i n 3))) (Ideal.ofBits FTy.f32 0x40000000#32))) + (Ideal.div ((Ideal.exp (A_main_v27 x0 x1 x2 x3 x4 x5 x6 x7 x8 x9 x11 (ix3 i n 3))) * ((A_main_v39 x0 x1 x2 x3 x4 x5 x6 x7 x8 x9 x11 (ix3 i n 3)) - (A_main_v39 x0 x1 x2 x3 x4 x5 x6 x7 x8 x9 x11 (ix3 i n 1)))) (Ideal.ofBits FTy.f32 0x40000000#32))) (Ideal.ofBits FTy.f32 0x00000000#32)) (Ideal.ofBits FTy.f32 0x44000000#32) := by
  rw [← at_v91 x0 x1 x2 x3 x4 x5 x6 x7 x8 x9 x11 i n, ← column_at3 i n (A_main_v82 x0 x1 x2 x3 x4 x5 x6 x7 x8 x9 x11) (A_main_v85 x0 x1 x2 x3 x4 x5 x6 x7 x8 x9 x11) (A_main_v88 x0 x1 x2 x3 x4 x5 x6 x7 x8 x9 x11) (A_main_v91 x0 x1 x2 x3 x4 x5 x6 x7 x8 x9 x11)]
  exact clip_at i n (A_main_v96 x0 x1 x2 x3 x4 x5 x6 x7 x8 x9 x11) (constant S_ .f32 0x00000000#32) (constant S_ .f32 0x44000000#32) 3

theorem score_at : A_main_v106 x0 x1 x2 x3 x4 x5 x6 x7 x8 x9 x11 (ix2 i n)
    = Ideal.div (Ideal.ofBits FTy.f32 0x3F800000#32) (Ideal.ofBits FTy.f32 0x3F800000#32 + Ideal.exp (-(A_main_v32 x0 x1 x2 x3 x4 x5 x6 x7 x8 x9 x11 (ix2 i n)))) :=
  sigmoid_at i n (A_main_v32 x0 x1 x2 x3 x4 x5 x6 x7 x8 x9 x11) (constant S_ .f32 0x3F800000#32) (constant S_ .f32 0x3F800000#32)
theorem class_at : A_main_v108 x0 x1 x2 x3 x4 x5 x6 x7 x8 x9 x11 (ix3 i n 0) = FloatOps.sitofp (F := Ideal) FTy.f32 (IntOp.remsi ArithUnit.host (A_main_indices x0 x1 x2 x3 x4 x5 x6 x7 x8 x9 x11 (ix2 i n)) 90#32) := by
  simp only [A_main_v108, A_main_v107, A_main_v25, K_main_v24, K_main_c_0]
  generalize A_main_indices x0 x1 x2 x3 x4 x5 x6 x7 x8 x9 x11 = o
  pointwise
theorem moved_at (j : Fin 4) : A_main_v112 x0 x1 x2 x3 x4 x5 x6 x7 x8 x9 x11 (ix3 i n j) = A_main_v100 x0 x1 x2 x3 x4 x5 x6 x7 x8 x9 x11 (ix3 i n j) + A_main_v108 x0 x1 x2 x3 x4 x5 x6 x7 x8 x9 x11 (ix3 i n 0) * Ideal.ofBits FTy.f32 0x44800000#32 := by
  simp only [A_main_v112, A_main_v111, A_main_v110, K_main_v109, K_main_cst_12]
  generalize A_main_v108 x0 x1 x2 x3 x4 x5 x6 x7 x8 x9 x11 = o
  generalize A_main_v100 x0 x1 x2 x3 x4 x5 x6 x7 x8 x9 x11 = o1
  pointwise

end Cert.ReferenceIdeal.Step

end
-- ==== Proof.TopK.lean ====
/-
  The greatest elements of a row: where a stable sort by value takes its elements from, and that the first one
  it delivers is the first of the largest.
-/
module

public import proofs.«01_k».proof.Proof.KWin
public import proofs.«01_k».proof.Proof.Greedy
public import Idealize.ShloMosaic.Lib.Pointwise
public import Idealize.ShloMosaic.Lib.SortFacts

@[expose] public section

noncomputable section

namespace Cert.ReferenceIdeal.Top

open Cert.ReferenceIdeal Cert.ReferenceIdeal.Gen
open Idealize.ShloMosaic Idealize.ShloMosaic.TcCoe
open Cert.Greedy

theorem gt_eq (a b : EReal) : (FloatOps.cmpfTotal (F := Ideal) (φ := FTy.f32) .gt a b == 1#1) = decide (b < a) := by
  show (BitVec.ofBool (decide (b < a)) == 1#1) = decide (b < a)
  by_cases h : b < a <;> simp [h]

/-- The head of a stable sort, greatest first, is the first of the largest. -/
theorem head_stableSort {n : ℕ} (f : Fin n → EReal) : ∀ l : List (Fin n), l.Pairwise (· < ·) → ∀ h t,
    stableSort (fun k k' => decide (f k' < f k)) l = h :: t → h ∈ l ∧ ∀ b ∈ l, f b ≤ f h ∧ (f b = f h → h ≤ b) := by
  intro l
  induction l with
  | nil => intro _ h t e; exact absurd e (by simp [stableSort])
  | cons a l ih =>
    intro hl h t e
    rw [List.pairwise_cons] at hl
    unfold stableSort at e
    cases hs : stableSort (fun k k' => decide (f k' < f k)) l with
    | nil =>
      have hnil : l = [] := by
        have := length_stableSort (fun k k' => decide (f k' < f k)) l
        rw [hs] at this
        exact List.eq_nil_of_length_eq_zero this.symm
      subst hnil
      rw [hs] at e
      simp only [insertBefore, List.cons.injEq] at e
      obtain ⟨rfl, _⟩ := e
      simp
    | cons h' t' =>
      obtain ⟨hm, hb⟩ := ih hl.2 h' t' hs
      rw [hs] at e
      unfold insertBefore at e
      by_cases hc : f a < f h'
      · simp only [hc, decide_true, if_true, List.cons.injEq] at e
        obtain ⟨rfl, _⟩ := e
        refine ⟨List.mem_cons_of_mem _ hm, fun b hb' => ?_⟩
        rcases List.mem_cons.mp hb' with rfl | hb'
        · exact ⟨hc.le, fun e => absurd e hc.ne⟩
        · exact hb b hb'
      · simp only [hc, decide_false, Bool.false_eq_true, if_false, List.cons.injEq] at e
        obtain ⟨rfl, _⟩ := e
        refine ⟨List.mem_cons_self, fun b hb' => ?_⟩
        rcases List.mem_cons.mp hb' with rfl | hb'
        · exact ⟨le_rfl, fun _ => le_rfl⟩
        · exact ⟨(hb b hb').1.trans (not_lt.mp hc), fun _ => (hl.1 b hb').le⟩

theorem first_sortedFrom (f : Fin 5000 → EReal) : IsPick f (sortedFrom (fun k k' => decide (f k' < f k)) 0) := by
  have hlen := length_sortPositions 5000 (fun k k' => decide (f k' < f k))
  cases hs : sortPositions 5000 (fun k k' => decide (f k' < f k)) with
  | nil => rw [hs] at hlen; exact absurd hlen (by simp)
  | cons h t =>
    have e : sortedFrom (fun k k' => decide (f k' < f k)) 0 = h := by
      unfold sortedFrom
      rw [List.get_of_eq hs]
      rfl
    rw [e]
    obtain ⟨_, hb⟩ := head_stableSort f (List.finRange 5000) (List.pairwise_lt_finRange 5000) h t hs
    exact ⟨fun n => (hb n (List.mem_finRange n)).1, fun n => (hb n (List.mem_finRange n)).2⟩

theorem before_eq {n : ℕ} (f : Fin n → EReal) :
    (fun k k' => FloatOps.cmpfTotal (F := Ideal) (φ := FTy.f32) .gt (f k) (f k') == 1#1) = fun k k' => decide (f k' < f k) := by
  funext k k'
  exact gt_eq _ _

theorem along_row {N : ℕ} (j : (⟨2, ![8, N]⟩ : Shape).Idx) (i : Fin 8) (h : (j 0).val = i.val) (k : Fin N) :
    j.along (1 : Fin 2) k = ix2 i k := by
  funext a
  match a with
  | ⟨0, _⟩ => exact Fin.ext h
  | ⟨1, _⟩ => rfl

/-- Where a row's sort takes the element it puts at a place. -/
theorem sorted_row {N : ℕ} (x : (⟨2, ![8, N]⟩ : Shape).Idx → EReal) (j : (⟨2, ![8, N]⟩ : Shape).Idx) (i : Fin 8) (h : (j 0).val = i.val) (q : Fin N) :
    j.along (1 : Fin 2) (sortedFrom (fun k k' => FloatOps.cmpfTotal (F := Ideal) (φ := FTy.f32) .gt (x (j.along (1 : Fin 2) k)) (x (j.along (1 : Fin 2) k')) == 1#1) q)
      = ix2 i (sortedFrom (fun k k' => decide (x (ix2 i k') < x (ix2 i k))) q) := by
  have e : (fun k k' : Fin N => FloatOps.cmpfTotal (F := Ideal) (φ := FTy.f32) .gt (x (j.along (1 : Fin 2) k)) (x (j.along (1 : Fin 2) k')) == 1#1)
      = fun k k' => decide (x (ix2 i k') < x (ix2 i k)) := by
    funext k k'
    rw [along_row j i h k, along_row j i h k']
    exact gt_eq _ _
  rw [← e]
  exact along_row j i h _

theorem sorted_row_number {N : ℕ} (x : (⟨2, ![8, N]⟩ : Shape).Idx → EReal) (j : (⟨2, ![8, N]⟩ : Shape).Idx) (i : Fin 8) (h : (j 0).val = i.val) (q : Fin N) :
    BitVec.ofNat 32 ((j.along (1 : Fin 2) (sortedFrom (fun k k' => FloatOps.cmpfTotal (F := Ideal) (φ := FTy.f32) .gt (x (j.along (1 : Fin 2) k)) (x (j.along (1 : Fin 2) k')) == 1#1) q)) 1).val
      = BitVec.ofNat 32 (sortedFrom (fun k k' => decide (x (ix2 i k') < x (ix2 i k))) q).val := by
  rw [sorted_row x j i h q]
  rfl

/-- The greatest of a row of 5000, and where it is. -/
theorem top1 (x : (⟨S8x5000, .f32⟩ : BufTy).Contents (Elt Ideal)) (i : Fin 8) :
    ∃ p : Fin 5000, IsPick (fun n => x (ix2 i n)) p
      ∧ (Host.topK S8x1 1 (FloatOps.cmpfTotal (F := Ideal) (φ := FTy.f32) .gt) x sliceFits_S8x5000_S8x1).1 (ix2 i 0) = x (ix2 i p)
      ∧ (Host.topK S8x1 1 (FloatOps.cmpfTotal (F := Ideal) (φ := FTy.f32) .gt) x sliceFits_S8x5000_S8x1).2 (ix2 i 0) = BitVec.ofNat 32 p.val := by
  have key := sorted_row (N := 5000) x (ix2 i 0) i rfl 0
  refine ⟨_, first_sortedFrom (fun n => x (ix2 i n)), ?_, ?_⟩
  · unfold Host.topK Host.sort2
    simp only [show (1 : ℕ) < S8x5000.rank from by decide, dif_pos]
    pointwise
    exact congrArg x key
  · unfold Host.topK Host.sort2
    simp only [show (1 : ℕ) < S8x5000.rank from by decide, dif_pos]
    pointwise
    exact sorted_row_number (N := 5000) x (ix2 i 0) i rfl 0

/-- The 5000 greatest of a row, and where they are. -/
theorem top5000 (x : (⟨S8x4419360, .f32⟩ : BufTy).Contents (Elt Ideal)) (i : Fin 8) (n : Fin 5000) :
    ∃ p : Fin 4419360, (Host.topK S8x5000 1 (FloatOps.cmpfTotal (F := Ideal) (φ := FTy.f32) .gt) x sliceFits_S8x4419360_S8x5000).1 (ix2 i n) = x (ix2 i p)
      ∧ (Host.topK S8x5000 1 (FloatOps.cmpfTotal (F := Ideal) (φ := FTy.f32) .gt) x sliceFits_S8x4419360_S8x5000).2 (ix2 i n) = BitVec.ofNat 32 p.val := by
  have hn := n.isLt
  have key := sorted_row (N := 4419360) x (ix2 i ⟨n.val, by omega⟩) i rfl ⟨n.val, by omega⟩
  refine ⟨sortedFrom (fun k k' => decide (x (ix2 i k') < x (ix2 i k))) ⟨n.val, by omega⟩, ?_, ?_⟩
  · unfold Host.topK Host.sort2
    simp only [show (1 : ℕ) < S8x4419360.rank from by decide, dif_pos]
    pointwise
    exact congrArg x key
  · unfold Host.topK Host.sort2
    simp only [show (1 : ℕ) < S8x4419360.rank from by decide, dif_pos]
    pointwise
    exact sorted_row_number (N := 4419360) x (ix2 i ⟨n.val, by omega⟩) i rfl ⟨n.val, by omega⟩

end Cert.ReferenceIdeal.Top

end
-- ==== Proof.RGather.lean ====
/-
  What the gathers read: row `q` of a table where the row number is `q`.
-/
module

public import proofs.«01_k».proof.Proof.TopK
public import Idealize.ShloMosaic.Lib.Tactic.WordOmega

@[expose] public section

noncomputable section

namespace Cert.ReferenceIdeal.Top

open Cert.ReferenceIdeal Cert.ReferenceIdeal.Gen
open Idealize.ShloMosaic Idealize.ShloMosaic.TcCoe
open Cert.Greedy

variable {α : Type}

theorem toNat_small (q N : ℕ) (h : q < N) (hN : N ≤ 2 ^ 31) : min (BitVec.ofNat 32 q).toInt.toNat (N - 1) = q := by
  have e : (BitVec.ofNat 32 q).toNat = q := by rw [BitVec.toNat_ofNat, Nat.mod_eq_of_lt (by omega)]
  rw [BitVec.toInt_eq_toNat_of_lt (by omega), e, Int.toNat_natCast]
  omega

theorem gather_offs (x : S8x49104x4.Idx → α) (v : IVec S8x5000x1 32) (i : Fin 8) (n : Fin 5000) (j : Fin 4)
    (q : Fin 49104) (hq : v (ix3 i n 0) = BitVec.ofNat 32 q.val) :
    Host.gather gather_S8x49104x4_S8x5000x1_S8x5000x4_2_1_0_0_1_2_114 x v (ix3 i n j) = x (ix3 i q j) := by
  unfold Host.gather
  refine congrArg x (funext fun a => Fin.ext ?_)
  match a with
  | ⟨0, _⟩ => show 0 + i.val + 0 = i.val; omega
  | ⟨1, _⟩ =>
    show min (v _).toInt.toNat (49104 - 1) + 0 + 0 = q.val
    have e : ∀ w : S8x5000x1.Idx, w = ix3 i n 0 → min (v w).toInt.toNat (49104 - 1) + 0 + 0 = q.val := by
      rintro _ rfl
      rw [hq, toNat_small _ _ q.isLt (by norm_num)]
      rfl
    apply e
    funext b
    match b with
    | ⟨0, _⟩ => rfl
    | ⟨1, _⟩ => rfl
    | ⟨2, _⟩ => rfl
  | ⟨2, _⟩ => show 0 + 0 + j.val = j.val; omega

theorem gather_cls (x : S8x49104x90.Idx → α) (v : IVec S8x5000x1 32) (i : Fin 8) (n : Fin 5000) (j : Fin 90)
    (q : Fin 49104) (hq : v (ix3 i n 0) = BitVec.ofNat 32 q.val) :
    Host.gather gather_S8x49104x90_S8x5000x1_S8x5000x90_2_1_0_0_1_2_1190 x v (ix3 i n j) = x (ix3 i q j) := by
  unfold Host.gather
  refine congrArg x (funext fun a => Fin.ext ?_)
  match a with
  | ⟨0, _⟩ => show 0 + i.val + 0 = i.val; omega
  | ⟨1, _⟩ =>
    show min (v _).toInt.toNat (49104 - 1) + 0 + 0 = q.val
    have e : ∀ w : S8x5000x1.Idx, w = ix3 i n 0 → min (v w).toInt.toNat (49104 - 1) + 0 + 0 = q.val := by
      rintro _ rfl
      rw [hq, toNat_small _ _ q.isLt (by norm_num)]
      rfl
    apply e
    funext b
    match b with
    | ⟨0, _⟩ => rfl
    | ⟨1, _⟩ => rfl
    | ⟨2, _⟩ => rfl
  | ⟨2, _⟩ => show 0 + 0 + j.val = j.val; omega

theorem gather_one (x : S8x5000x90.Idx → α) (v : IVec S8x5000x1x1 32) (i : Fin 8) (n : Fin 5000)
    (q : Fin 90) (hq : v (ix4 i n 0 0) = BitVec.ofNat 32 q.val) :
    Host.gather gather_S8x5000x90_S8x5000x1x1_S8x5000x1_n_2_01_01_2_3_111 x v (ix3 i n 0) = x (ix3 i n q) := by
  unfold Host.gather
  refine congrArg x (funext fun a => Fin.ext ?_)
  match a with
  | ⟨0, _⟩ => show 0 + i.val + 0 = i.val; omega
  | ⟨1, _⟩ => show 0 + n.val + 0 = n.val; omega
  | ⟨2, _⟩ =>
    show min (v _).toInt.toNat (90 - 1) + 0 + 0 = q.val
    have e : ∀ w : S8x5000x1x1.Idx, w = ix4 i n 0 0 → min (v w).toInt.toNat (90 - 1) + 0 + 0 = q.val := by
      rintro _ rfl
      rw [hq, toNat_small _ _ q.isLt (by norm_num)]
      rfl
    apply e
    funext b
    match b with
    | ⟨0, _⟩ => rfl
    | ⟨1, _⟩ => rfl
    | ⟨2, _⟩ => rfl
    | ⟨3, _⟩ => rfl

theorem gather_anc (x : S49104x4.Idx → α) (v : IVec S8x5000x1 32) (i : Fin 8) (n : Fin 5000) (j : Fin 4)
    (q : Fin 49104) (hq : v (ix3 i n 0) = BitVec.ofNat 32 q.val) :
    Host.gather gather_S49104x4_S8x5000x1_S8x5000x4_2_0_n_n_0_2_14 x v (ix3 i n j) = x (ix2 q j) := by
  unfold Host.gather
  refine congrArg x (funext fun a => Fin.ext ?_)
  match a with
  | ⟨0, _⟩ =>
    show min (v _).toInt.toNat (49104 - 1) + 0 + 0 = q.val
    have e : ∀ w : S8x5000x1.Idx, w = ix3 i n 0 → min (v w).toInt.toNat (49104 - 1) + 0 + 0 = q.val := by
      rintro _ rfl
      rw [hq, toNat_small _ _ q.isLt (by norm_num)]
      rfl
    apply e
    funext b
    match b with
    | ⟨0, _⟩ => rfl
    | ⟨1, _⟩ => rfl
    | ⟨2, _⟩ => rfl
  | ⟨1, _⟩ => show 0 + 0 + j.val = j.val; omega

theorem gather_row (x : S8x5000x4.Idx → α) (v : IVec S8x1x1 32) (i : Fin 8) (j : Fin 4)
    (q : Fin 5000) (hq : v (ix3 i 0 0) = BitVec.ofNat 32 q.val) :
    Host.gather gather_S8x5000x4_S8x1x1_S8x1x4_2_1_0_0_1_2_114 x v (ix3 i 0 j) = x (ix3 i q j) := by
  unfold Host.gather
  refine congrArg x (funext fun a => Fin.ext ?_)
  match a with
  | ⟨0, _⟩ => show 0 + i.val + 0 = i.val; omega
  | ⟨1, _⟩ =>
    show min (v _).toInt.toNat (5000 - 1) + 0 + 0 = q.val
    have e : ∀ w : S8x1x1.Idx, w = ix3 i 0 0 → min (v w).toInt.toNat (5000 - 1) + 0 + 0 = q.val := by
      rintro _ rfl
      rw [hq, toNat_small _ _ q.isLt (by norm_num)]
      rfl
    apply e
    funext b
    match b with
    | ⟨0, _⟩ => rfl
    | ⟨1, _⟩ => rfl
    | ⟨2, _⟩ => rfl
  | ⟨2, _⟩ => show 0 + 0 + j.val = j.val; omega

theorem gather_entry (x : S8x5000.Idx → α) (v : IVec S8x1x1 32) (i : Fin 8)
    (q : Fin 5000) (hq : v (ix3 i 0 0) = BitVec.ofNat 32 q.val) :
    Host.gather gather_S8x5000_S8x1x1_S8x1_n_1_0_0_1_2_11 x v (ix2 i 0) = x (ix2 i q) := by
  unfold Host.gather
  refine congrArg x (funext fun a => Fin.ext ?_)
  match a with
  | ⟨0, _⟩ => show 0 + i.val + 0 = i.val; omega
  | ⟨1, _⟩ =>
    show min (v _).toInt.toNat (5000 - 1) + 0 + 0 = q.val
    have e : ∀ w : S8x1x1.Idx, w = ix3 i 0 0 → min (v w).toInt.toNat (5000 - 1) + 0 + 0 = q.val := by
      rintro _ rfl
      rw [hq, toNat_small _ _ q.isLt (by norm_num)]
      rfl
    apply e
    funext b
    match b with
    | ⟨0, _⟩ => rfl
    | ⟨1, _⟩ => rfl
    | ⟨2, _⟩ => rfl

end Cert.ReferenceIdeal.Top

end
-- ==== Proof.KCand.lean ====
/-
  The kernel's candidates are the reference's: its row numbers lie inside the tables, so its out of bounds and wrapping
  rules never apply, and the largest values are the ones the reference gathers by number.
-/
module

public import proofs.«01_k».proof.Proof.RBox
public import proofs.«01_k».proof.Proof.RGather

@[expose] public section

noncomputable section

namespace Cert.KernelIdeal.Host0

open Idealize.ShloMosaic Idealize.ShloMosaic.TcCoe
open Cert.KernelIdeal Cert.KernelIdeal.Gen
open Cert.ReferenceIdeal.Step Cert.ReferenceIdeal.Top

theorem toNat_word (q : ℕ) (h : q < 4419360) : (BitVec.ofNat 32 q).toNat = q := by
  rw [BitVec.toNat_ofNat, Nat.mod_eq_of_lt (by omega)]
theorem msb_word (q : ℕ) (h : q < 4419360) : (BitVec.ofNat 32 q).msb = false := by
  rw [BitVec.msb_eq_decide, toNat_word q h]; simp; omega
theorem no_corner (x : BitVec 32) : ¬ IntOp.SDivCorner x 90#32 := by
  unfold IntOp.SDivCorner; simp

theorem div_word (q : ℕ) (h : q < 4419360) : IntOp.divsi ArithUnit.host (BitVec.ofNat 32 q) 90#32 = BitVec.ofNat 32 (q / 90) := by
  unfold IntOp.divsi
  rw [if_neg (no_corner _)]
  rw [BitVec.sdiv_eq, msb_word q h]
  show BitVec.ofNat 32 q / 90#32 = _
  apply BitVec.eq_of_toNat_eq
  rw [BitVec.toNat_udiv, toNat_word q h]
  exact (toNat_word (q / 90) (by omega)).symm
theorem rem_word (q : ℕ) (h : q < 4419360) : IntOp.remsi ArithUnit.host (BitVec.ofNat 32 q) 90#32 = BitVec.ofNat 32 (q % 90) := by
  unfold IntOp.remsi
  rw [if_neg (no_corner _)]
  rw [BitVec.srem_eq, msb_word q h]
  show BitVec.ofNat 32 q % 90#32 = _
  apply BitVec.eq_of_toNat_eq
  rw [BitVec.toNat_umod, toNat_word q h]
  exact (toNat_word (q % 90) (by omega)).symm

theorem fdiv_at (x : IVec S8x5000 32) (i : Fin 8) (n : Fin 5000) (q : ℕ) (h : q < 4419360) (hx : x (ix2 i n) = BitVec.ofNat 32 q) :
    fdiv x (ix2 i n) = BitVec.ofNat 32 (q / 90) := by
  unfold fdiv spl
  pointwise
  rw [hx, div_word q h, rem_word q h, msb_word q h]
  by_cases hq : BitVec.ofNat 32 q = 0
  · have : q = 0 := by rw [← toNat_word q h, hq]; rfl
    subst this
    rfl
  · rw [if_neg hq]
    generalize IntOp.cmpi CmpIPredicate.ne (BitVec.ofNat 32 (q % 90)) 0#32 = b
    generalize IntOp.subi (BitVec.ofNat 32 (q / 90)) 1#32 = u
    generalize BitVec.ofNat 32 (q / 90) = t
    show Scalar.select (IntOp.andi 0#1 b) u t = t
    rw [show IntOp.andi 0#1 b = 0#1 from by unfold IntOp.andi; simp]
    rfl
theorem frem_at (x : IVec S8x5000 32) (i : Fin 8) (n : Fin 5000) (q : ℕ) (h : q < 4419360) (hx : x (ix2 i n) = BitVec.ofNat 32 q) :
    frem x (ix2 i n) = BitVec.ofNat 32 (q % 90) := by
  unfold frem rdiv spl
  pointwise
  rw [hx]
  rw [show Scalar.select (IntOp.cmpi CmpIPredicate.eq 90#32 0#32) 1#32 90#32 = 90#32 from rfl, rem_word q h]
  have : q % 90 < 90 := Nat.mod_lt _ (by norm_num)
  generalize q % 90 = r at this ⊢
  have h1 : IntOp.cmpi CmpIPredicate.slt (BitVec.ofNat 32 r) 0#32 = 0#1 := by word_omega
  rw [h1]
  rw [show IntOp.cmpi CmpIPredicate.ne 0#1 (IntOp.cmpi CmpIPredicate.slt 90#32 0#32) = 0#1 from rfl]
  generalize IntOp.cmpi CmpIPredicate.ne (BitVec.ofNat 32 r) 0#32 = b
  rw [show IntOp.andi 0#1 b = 0#1 from by unfold IntOp.andi; simp]
  rfl

theorem col1_at (y : IVec S8x5000 32) (i : Fin 8) (n : Fin 5000) : col1 y (ix3 i n 0) = y (ix2 i n) := by
  unfold col1
  pointwise

theorem wrap1_at (y : IVec S8x5000x1 32) (i : Fin 8) (n : Fin 5000) (q : Fin 49104) (h : y (ix3 i n 0) = BitVec.ofNat 32 q.val) :
    wrap1 y (ix3 i n 0) = BitVec.ofNat 32 q.val := by
  unfold wrap1 spl1
  pointwise
  rw [h]
  have := q.isLt
  word_omega

theorem inside_at (y : IVec S8x5000x1 32) (i : Fin 8) (n : Fin 5000) (q : Fin 49104) (h : y (ix3 i n 0) = BitVec.ofNat 32 q.val) :
    inside y (ix2 i n) = 1#1 := by
  unfold inside spl1
  pointwise
  have := q.isLt
  have e : ∀ z : Fin 1, IntOp.andi (IntOp.cmpi CmpIPredicate.sge (y (ix3 i n z)) 0#32) (IntOp.cmpi CmpIPredicate.sle (y (ix3 i n z)) 49103#32) = 1#1 := by
    intro z
    have hz : z = 0 := Subsingleton.elim _ _
    subst hz
    rw [h]
    have h1 : IntOp.cmpi CmpIPredicate.sge (BitVec.ofNat 32 q.val) 0#32 = 1#1 := by word_omega
    have h2 : IntOp.cmpi CmpIPredicate.sle (BitVec.ofNat 32 q.val) 49103#32 = 1#1 := by word_omega
    rw [h1, h2]
    rfl
  simp only [e]
  rfl

theorem takeFill_at (b : (⟨S8x49104x4, .f32⟩ : BufTy).Contents (Elt Ideal)) (y : IVec S8x5000x1 32) (i : Fin 8) (n : Fin 5000) (j : Fin 4)
    (q : Fin 49104) (h : y (ix3 i n 0) = BitVec.ofNat 32 q.val) : takeFill b y (ix3 i n j) = b (ix3 i q j) := by
  unfold takeFill
  have h1 := wrap1_at y i n q h
  generalize wrap1 y = w at h1 ⊢
  have h2 := inside_at w i n q h1
  generalize inside w = M at h2 ⊢
  have h3 := gather_offs b w i n j q h1
  have e : broadcastInDim S8x5000x4 ![0, 1] bcast_S8x5000_S8x5000x4_0_1 M (ix3 i n j) = M (ix2 i n) := by pointwise
  show Scalar.select (broadcastInDim S8x5000x4 ![0, 1] bcast_S8x5000_S8x5000x4_0_1 M (ix3 i n j))
    (Host.gather gather_S8x49104x4_S8x5000x1_S8x5000x4_2_1_0_0_1_2_114 b w (ix3 i n j)) _ = _
  rw [e, h2]
  exact h3

theorem wrapped_at (y : IVec S8x5000 32) (i : Fin 8) (n : Fin 5000) (q : Fin 49104) (h : y (ix2 i n) = BitVec.ofNat 32 q.val) :
    (select (cmpi .slt y (spl 0#32)) (addi y (spl 49104#32)) y : IVec S8x5000 32) (ix2 i n) = BitVec.ofNat 32 q.val := by
  unfold spl
  pointwise
  rw [h]
  have := q.isLt
  word_omega

theorem anc_at (a : (⟨S49104x4, .f32⟩ : BufTy).Contents (Elt Ideal)) (y : IVec S8x5000 32) (i : Fin 8) (n : Fin 5000) (j : Fin 4)
    (q : Fin 49104) (h : y (ix2 i n) = BitVec.ofNat 32 q.val) : anc a y (ix3 i n j) = a (ix2 q j) := by
  unfold anc
  have h1 := wrapped_at y i n q h
  generalize (select (cmpi .slt y (spl 0#32)) (addi y (spl 49104#32)) y : IVec S8x5000 32) = w at h1 ⊢
  exact gather_anc a (col1 w) i n j q ((col1_at w i n).trans h1)

section
variable (x0 : (⟨S8x810x64x64, .f32⟩ : BufTy).Contents (Elt Ideal)) (x1 : (⟨S8x810x32x32, .f32⟩ : BufTy).Contents (Elt Ideal))
  (x2 : (⟨S8x810x16x16, .f32⟩ : BufTy).Contents (Elt Ideal)) (x3 : (⟨S8x810x8x8, .f32⟩ : BufTy).Contents (Elt Ideal))
  (x4 : (⟨S8x810x4x4, .f32⟩ : BufTy).Contents (Elt Ideal)) (x5 : (⟨S8x36x64x64, .f32⟩ : BufTy).Contents (Elt Ideal))
  (x6 : (⟨S8x36x32x32, .f32⟩ : BufTy).Contents (Elt Ideal)) (x7 : (⟨S8x36x16x16, .f32⟩ : BufTy).Contents (Elt Ideal))
  (x8 : (⟨S8x36x8x8, .f32⟩ : BufTy).Contents (Elt Ideal)) (x9 : (⟨S8x36x4x4, .f32⟩ : BufTy).Contents (Elt Ideal))
  (x11 : (⟨S49104x4, .f32⟩ : BufTy).Contents (Elt Ideal)) (i : Fin 8) (n : Fin 5000)

theorem v23_eq : A_main_v23 x0 x1 x2 x3 x4 x5 x6 x7 x8 x9 x11 = fdiv (A_main_indices x0 x1 x2 x3 x4 x5 x6 x7 x8 x9 x11) := by
  unfold A_main_v23 A_main_call0_v11 A_main_call0_v13 A_main_call0_v10 A_main_call0_v8 A_main_call0_v6 A_main_call0_v3 A_main_call0_v2
  generalize A_main_indices x0 x1 x2 x3 x4 x5 x6 x7 x8 x9 x11 = z
  rfl

theorem v38_eq : A_main_v38 x0 x1 x2 x3 x4 x5 x6 x7 x8 x9 x11
    = col1 (select (cmpi .slt (A_main_v23 x0 x1 x2 x3 x4 x5 x6 x7 x8 x9 x11) (spl 0#32))
        (addi (A_main_v23 x0 x1 x2 x3 x4 x5 x6 x7 x8 x9 x11) (spl 49104#32)) (A_main_v23 x0 x1 x2 x3 x4 x5 x6 x7 x8 x9 x11)) := by
  unfold A_main_v38 A_main_v37 A_main_v36 A_main_v34
  generalize A_main_v23 x0 x1 x2 x3 x4 x5 x6 x7 x8 x9 x11 = z
  rfl

theorem flat_at (x : S8x49104x90.Idx → Ideal .f32) (i : Fin 8) (p : Fin 4419360) (h1 : p.val / 90 < 49104) (h2 : p.val % 90 < 90) :
    shapeCast S8x4419360 x Cert.ReferenceIdeal.Gen.shapeCasts_S8x49104x90_S8x4419360 (ix2 i p) = x (ix3 i ⟨p.val / 90, h1⟩ ⟨p.val % 90, h2⟩) := by
  pointwise

theorem entry_at (v : S8x5000x1.Idx → Ideal .f32) (i : Fin 8) (n : Fin 5000) :
    shapeCast S8x5000 v Cert.ReferenceIdeal.Gen.shapeCasts_S8x5000x1_S8x5000 (ix2 i n) = v (ix3 i n 0) := by
  pointwise

theorem deep_at (v : IVec S8x5000x1 32) (i : Fin 8) (n : Fin 5000) :
    shapeCast Cert.ReferenceIdeal.S8x5000x1x1 v Cert.ReferenceIdeal.Gen.shapeCasts_S8x5000x1_S8x5000x1x1 (ix4 i n 0 0) = v (ix3 i n 0) := by
  pointwise

theorem refrem_at (z : IVec S8x5000 32) (i : Fin 8) (n : Fin 5000) :
    Host.remsi z (Cert.ReferenceIdeal.Step.K_main_v24 (F := Ideal)) (ix2 i n) = IntOp.remsi .host (z (ix2 i n)) 90#32 := rfl

/-- The candidates' numbers, box offsets, anchors, scores and classes, both sides read from the same place. -/
theorem same_candidates : ∃ p : Fin 4419360, A_main_indices x0 x1 x2 x3 x4 x5 x6 x7 x8 x9 x11 (ix2 i n) = BitVec.ofNat 32 p.val
    ∧ (∀ j, takeFill (A_main_v21 x0 x1 x2 x3 x4 x5 x6 x7 x8 x9 x11) (col1 (fdiv (A_main_indices x0 x1 x2 x3 x4 x5 x6 x7 x8 x9 x11))) (ix3 i n j)
        = A_main_v27 x0 x1 x2 x3 x4 x5 x6 x7 x8 x9 x11 (ix3 i n j))
    ∧ (∀ j, anc x11 (fdiv (A_main_indices x0 x1 x2 x3 x4 x5 x6 x7 x8 x9 x11)) (ix3 i n j) = A_main_v39 x0 x1 x2 x3 x4 x5 x6 x7 x8 x9 x11 (ix3 i n j))
    ∧ (Host.topK S8x5000 1 (FloatOps.cmpfTotal .gt) (A_main_v22 x0 x1 x2 x3 x4 x5 x6 x7 x8 x9 x11) Cert.KernelIdeal.Gen.sliceFits_S8x4419360_S8x5000).1 (ix2 i n)
        = A_main_v32 x0 x1 x2 x3 x4 x5 x6 x7 x8 x9 x11 (ix2 i n)
    ∧ (sitofp .f32 (frem (A_main_indices x0 x1 x2 x3 x4 x5 x6 x7 x8 x9 x11)) : FVec Ideal S8x5000 .f32) (ix2 i n)
        = A_main_v108 x0 x1 x2 x3 x4 x5 x6 x7 x8 x9 x11 (ix3 i n 0) := by
  obtain ⟨p, hv, hn⟩ := top5000 (A_main_v22 x0 x1 x2 x3 x4 x5 x6 x7 x8 x9 x11) i n
  have hp := p.isLt
  have hi : A_main_indices x0 x1 x2 x3 x4 x5 x6 x7 x8 x9 x11 (ix2 i n) = BitVec.ofNat 32 p.val := hn
  have hq : p.val / 90 < 49104 := by omega
  have hr : p.val % 90 < 90 := Nat.mod_lt _ (by norm_num)
  have hd : fdiv (A_main_indices x0 x1 x2 x3 x4 x5 x6 x7 x8 x9 x11) (ix2 i n) = BitVec.ofNat 32 (⟨p.val / 90, hq⟩ : Fin 49104).val := fdiv_at _ i n p.val hp hi
  refine ⟨p, hi, fun j => ?_, fun j => ?_, ?_, ?_⟩
  · rw [takeFill_at _ _ i n j ⟨p.val / 90, hq⟩ ((col1_at _ i n).trans hd)]
    unfold A_main_v27 A_main_v26
    rw [v23_eq]
    exact (gather_offs _ _ i n j ⟨p.val / 90, hq⟩ ((col1_at _ i n).trans hd)).symm
  · rw [anc_at _ _ i n j ⟨p.val / 90, hq⟩ hd]
    unfold A_main_v39
    rw [v38_eq, v23_eq]
    exact (gather_anc _ _ i n j ⟨p.val / 90, hq⟩ ((col1_at _ i n).trans (wrapped_at _ i n _ hd))).symm
  · refine hv.trans ?_
    unfold A_main_v32 A_main_v31 A_main_call3_v0 A_main_v30
    rw [entry_at]
    refine Eq.trans ?_ (gather_one _ _ i n ⟨p.val % 90, hr⟩ ?_).symm
    · unfold A_main_v29 A_main_v28
      rw [v23_eq]
      refine Eq.trans ?_ (gather_cls _ _ i n ⟨p.val % 90, hr⟩ ⟨p.val / 90, hq⟩ ((col1_at _ i n).trans hd)).symm
      unfold A_main_v22
      exact flat_at _ i p hq hr
    · rw [deep_at]
      refine (col1_at _ i n).trans ?_
      unfold A_main_v25
      rw [refrem_at, hi]
      exact rem_word p.val hp
  · rw [class_at, hi, rem_word p.val hp]
    exact congrArg (FloatOps.sitofp (F := Ideal) FTy.f32) (frem_at _ i n p.val hp hi)

end

end Cert.KernelIdeal.Host0

end
-- ==== Proof.KImage.lean ====
/-
  A grid point's block against the reference's candidates of its image: the boxes, classes and scores its lanes hold, and
  the rows it stores after the rounds.
-/
module

public import proofs.«01_k».proof.Proof.KBlock
public import proofs.«01_k».proof.Proof.KOut
public import proofs.«01_k».proof.Proof.KCand

@[expose] public section

noncomputable section

namespace Cert.KernelIdeal.Nms

open Cert.KernelIdeal Cert.KernelIdeal.Gen
open Idealize.ShloMosaic Idealize.ShloMosaic.TcCoe
open Cert.Greedy Cert.KernelIdeal.Host0
open Cert.ReferenceIdeal.Step (A_main_v27 A_main_v39 A_main_v32 A_main_v100 A_main_v106 A_main_v108)

theorem half_eq : Ideal.ofBits FTy.f32 0x3F000000#32 = (((1 / 2 : ℝ)) : EReal) := by
  simp [Ideal.ofBits, Ideal.ieee, -EReal.coe_mul]; norm_num
theorem two_eq : Ideal.ofBits FTy.f32 0x40000000#32 = ((2 : ℝ) : EReal) := by
  simp [Ideal.ofBits, Ideal.ieee, -EReal.coe_mul]; norm_num
theorem one_eq : Ideal.ofBits FTy.f32 0x3F800000#32 = 1 := by
  simp [Ideal.ofBits, Ideal.ieee, -EReal.coe_mul]; norm_num
theorem minus_one_neg : Ideal.ofBits FTy.f32 0xBF800000#32 < 0 := by
  have : Ideal.ofBits FTy.f32 0xBF800000#32 = ((-1 : ℝ) : EReal) := by
    simp [Ideal.ofBits, Ideal.ieee, -EReal.coe_mul, -EReal.coe_neg]; norm_num
  rw [this]; exact_mod_cast (by norm_num : (-1 : ℝ) < 0)
theorem five_thousand : Ideal.ofBits FTy.f32 0x459C4000#32 = (((5000 : ℝ)) : EReal) := by
  simp [Ideal.ofBits, Ideal.ieee, -EReal.coe_mul]; norm_num

/-- Times one half is divided by two. -/
theorem half_mul (x : EReal) : x * Ideal.ofBits FTy.f32 0x3F000000#32 = Ideal.div x (Ideal.ofBits FTy.f32 0x40000000#32) := by
  rw [half_eq, two_eq]
  unfold Ideal.div
  rw [if_neg (by norm_num)]
  congr 1
  rw [← EReal.coe_inv]
  norm_num

section
variable (v3 v7 v11 v15 : FVec Ideal S8x640 .f32) (x : Lane)

theorem low_at : lanes (k0_pay47 v3 v7 v11 v15) x = min (Ideal.ofBits FTy.f32 0x44000000#32) (max (Ideal.ofBits FTy.f32 0x00000000#32)
    ((lanes v3 x * (lanes v15 x - lanes v11 x) + (lanes v11 x + lanes v15 x) * Ideal.ofBits FTy.f32 0x3F000000#32)
      - Ideal.exp (lanes v7 x) * (lanes v15 x - lanes v11 x) * Ideal.ofBits FTy.f32 0x3F000000#32)) := by
  unfold k0_pay47 lanes
  simp only [k0_pay41, k0_pay42, k0_pay43, k0_pay44, k0_pay45, k0_pay46]
  pointwise
theorem low_at' : lanes (k0_pay48 v3 v7 v11 v15) x = min (Ideal.ofBits FTy.f32 0x44000000#32) (max (Ideal.ofBits FTy.f32 0x00000000#32)
    ((lanes v3 x * (lanes v15 x - lanes v11 x) + (lanes v11 x + lanes v15 x) * Ideal.ofBits FTy.f32 0x3F000000#32)
      - Ideal.exp (lanes v7 x) * (lanes v15 x - lanes v11 x) * Ideal.ofBits FTy.f32 0x3F000000#32)) := by
  unfold k0_pay48 lanes
  simp only [k0_pay41, k0_pay42, k0_pay43, k0_pay44, k0_pay45, k0_pay46]
  pointwise
theorem high_at : lanes (k0_pay49 v3 v7 v11 v15) x = min (Ideal.ofBits FTy.f32 0x44000000#32) (max (Ideal.ofBits FTy.f32 0x00000000#32)
    ((lanes v3 x * (lanes v15 x - lanes v11 x) + (lanes v11 x + lanes v15 x) * Ideal.ofBits FTy.f32 0x3F000000#32)
      + Ideal.exp (lanes v7 x) * (lanes v15 x - lanes v11 x) * Ideal.ofBits FTy.f32 0x3F000000#32)) := by
  unfold k0_pay49 lanes
  simp only [k0_pay41, k0_pay42, k0_pay43, k0_pay44, k0_pay45, k0_pay46]
  pointwise
theorem high_at' : lanes (k0_pay50 v3 v7 v11 v15) x = max (Ideal.ofBits FTy.f32 0x00000000#32)
    ((lanes v3 x * (lanes v15 x - lanes v11 x) + (lanes v11 x + lanes v15 x) * Ideal.ofBits FTy.f32 0x3F000000#32)
      + Ideal.exp (lanes v7 x) * (lanes v15 x - lanes v11 x) * Ideal.ofBits FTy.f32 0x3F000000#32) := by
  unfold k0_pay50 lanes
  simp only [k0_pay41, k0_pay42, k0_pay43, k0_pay44, k0_pay45, k0_pay46]
  pointwise
end

/-- The scores before the first round: the logistic of the logit where the lane holds a candidate, −1 elsewhere. -/
theorem start_at (v19 : FVec Ideal S8x640 .f32) (x : Lane) :
    lanes (k0_pay1 v19 (k0_pay40 (k0_pay37 (F := Ideal)) (k0_pay38 (F := Ideal)))) x
      = if flat x < 5000 then Ideal.logistic (lanes v19 x) else Ideal.ofBits FTy.f32 0xBF800000#32 := by
  have h := num_at x
  have e : lanes (k0_pay40 (k0_pay37 (F := Ideal)) (k0_pay38 (F := Ideal))) x
      = FloatOps.cmpf (F := Ideal) (φ := FTy.f32) .olt (lanes num x) (Ideal.ofBits FTy.f32 0x459C4000#32) := by
    unfold k0_pay40 lanes num
    generalize k0_pay39 (k0_pay37 (F := Ideal)) (k0_pay38 (F := Ideal)) = z
    pointwise
  rw [h, five_thousand] at e
  unfold lanes at e ⊢
  generalize k0_pay40 (k0_pay37 (F := Ideal)) (k0_pay38 (F := Ideal)) = M at e ⊢
  have e2 : k0_pay1 v19 M (ix2 x.1 x.2) = Scalar.select (M (ix2 x.1 x.2)) (Ideal.logistic (v19 (ix2 x.1 x.2))) (Ideal.ofBits FTy.f32 0xBF800000#32) := by
    unfold k0_pay1
    pointwise
  rw [e2, e]
  have e3 : FloatOps.cmpf (F := Ideal) (φ := FTy.f32) .olt (((flat x : ℕ) : ℝ) : EReal) ((5000 : ℝ) : EReal) = BitVec.ofBool (decide (flat x < 5000)) := by
    rw [Ideal.cmpf_def]
    show BitVec.ofBool (decide ((((flat x : ℕ) : ℝ) : EReal) < ((5000 : ℝ) : EReal))) = _
    congr 1
    rw [decide_eq_decide, EReal.coe_lt_coe_iff]
    exact_mod_cast Iff.rfl
  rw [e3]
  by_cases hx : flat x < 5000 <;> simp [hx, Scalar.select]

theorem load_at (X : S1x8x640.Idx → Ideal .f32) (x : Lane) : lanes (k0_pay27 X) x = X (ix3 0 x.1 x.2) := by
  unfold k0_pay27 lanes
  pointwise

theorem col0_at (b : (⟨S8x5000x4, .f32⟩ : BufTy).Contents (Elt Ideal)) (i : Fin 8) (n : Fin 5000) : column0 b (ix2 i n) = b (ix3 i n 0) := by
  unfold column0
  pointwise
theorem col1_at (b : (⟨S8x5000x4, .f32⟩ : BufTy).Contents (Elt Ideal)) (i : Fin 8) (n : Fin 5000) : column1 b (ix2 i n) = b (ix3 i n 1) := by
  unfold column1
  pointwise
theorem col2_at (b : (⟨S8x5000x4, .f32⟩ : BufTy).Contents (Elt Ideal)) (i : Fin 8) (n : Fin 5000) : column2 b (ix2 i n) = b (ix3 i n 2) := by
  unfold column2
  pointwise
theorem col3_at (b : (⟨S8x5000x4, .f32⟩ : BufTy).Contents (Elt Ideal)) (i : Fin 8) (n : Fin 5000) : column3 b (ix2 i n) = b (ix3 i n 3) := by
  unfold column3
  pointwise

/-- The six rows of a block. -/
theorem block_at (r0 r1 r2 r3 r4 r5 : FVec Ideal S1x128 .f32) (l : Fin 128) :
    k0_pay10 r0 r1 r2 r3 r4 r5 (ix3 0 0 l) = r0 (ix2 0 l) ∧ k0_pay10 r0 r1 r2 r3 r4 r5 (ix3 0 1 l) = r1 (ix2 0 l)
      ∧ k0_pay10 r0 r1 r2 r3 r4 r5 (ix3 0 2 l) = r2 (ix2 0 l) ∧ k0_pay10 r0 r1 r2 r3 r4 r5 (ix3 0 3 l) = r3 (ix2 0 l)
      ∧ k0_pay10 r0 r1 r2 r3 r4 r5 (ix3 0 4 l) = r4 (ix2 0 l) ∧ k0_pay10 r0 r1 r2 r3 r4 r5 (ix3 0 5 l) = r5 (ix2 0 l) := by
  have h : ∀ k : Fin 8, k0_pay10 r0 r1 r2 r3 r4 r5 (ix3 0 k l) = if k.val < 1 then r0 (ix2 0 l) else if k.val < 2 then r1 (ix2 0 l) else if k.val < 3 then r2 (ix2 0 l)
      else if k.val < 4 then r3 (ix2 0 l) else if k.val < 5 then r4 (ix2 0 l) else if k.val < 6 then r5 (ix2 0 l) else k0_pay9 (F := Ideal) (ix2 0 l) := by
    intro k
    unfold k0_pay10
    generalize k0_pay9 (F := Ideal) = z
    pointwise
    match k with
    | 0 => rfl
    | 1 => rfl
    | 2 => rfl
    | 3 => rfl
    | 4 => rfl
    | 5 => rfl
    | 6 => rfl
    | 7 => rfl
  exact ⟨h 0, h 1, h 2, h 3, h 4, h 5⟩

variable (m : (ℓ : Loc nD τ sig) → Buf (Elt Ideal) ℓ) (c : Dev nD) (i : Fin 8)

/-- The boxes of an image's candidates. -/
def boxes (n : Fin 5000) (j : Fin 4) : EReal := A_main_v100 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n j)
/-- The classes of an image's candidates. -/
def classes (n : Fin 5000) : EReal := A_main_v108 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 0)
/-- The scores of an image's candidates. -/
def scores (n : Fin 5000) : EReal := A_main_v106 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix2 i n)

theorem lane_0 (n : Fin 5000) : lanes (k0_pay27 (iblk m c 0 (point i))) (lane n) = A_main_v27 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 0) := by
  rw [show k0_pay27 (iblk m c 0 (point i)) = k0_pay27 (iblk m c 0 (point i)) from rfl, load_at, iblk0 m c (point i) i rfl, V_main_v38, padded_lane, col0_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h1 0
theorem lane_1 (n : Fin 5000) : lanes (k0_pay28 (iblk m c 1 (point i))) (lane n) = A_main_v27 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 1) := by
  rw [show k0_pay28 (iblk m c 1 (point i)) = k0_pay27 (iblk m c 1 (point i)) from rfl, load_at, iblk1 m c (point i) i rfl, V_main_v42, padded_lane, col1_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h1 1
theorem lane_2 (n : Fin 5000) : lanes (k0_pay29 (iblk m c 2 (point i))) (lane n) = A_main_v27 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 2) := by
  rw [show k0_pay29 (iblk m c 2 (point i)) = k0_pay27 (iblk m c 2 (point i)) from rfl, load_at, iblk2 m c (point i) i rfl, V_main_v46, padded_lane, col2_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h1 2
theorem lane_3 (n : Fin 5000) : lanes (k0_pay30 (iblk m c 3 (point i))) (lane n) = A_main_v27 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 3) := by
  rw [show k0_pay30 (iblk m c 3 (point i)) = k0_pay27 (iblk m c 3 (point i)) from rfl, load_at, iblk3 m c (point i) i rfl, V_main_v50, padded_lane, col3_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h1 3
theorem lane_4 (n : Fin 5000) : lanes (k0_pay31 (iblk m c 4 (point i))) (lane n) = A_main_v39 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 0) := by
  rw [show k0_pay31 (iblk m c 4 (point i)) = k0_pay27 (iblk m c 4 (point i)) from rfl, load_at, iblk4 m c (point i) i rfl, V_main_v54, padded_lane, col0_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h2 0
theorem lane_5 (n : Fin 5000) : lanes (k0_pay32 (iblk m c 5 (point i))) (lane n) = A_main_v39 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 1) := by
  rw [show k0_pay32 (iblk m c 5 (point i)) = k0_pay27 (iblk m c 5 (point i)) from rfl, load_at, iblk5 m c (point i) i rfl, V_main_v58, padded_lane, col1_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h2 1
theorem lane_6 (n : Fin 5000) : lanes (k0_pay33 (iblk m c 6 (point i))) (lane n) = A_main_v39 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 2) := by
  rw [show k0_pay33 (iblk m c 6 (point i)) = k0_pay27 (iblk m c 6 (point i)) from rfl, load_at, iblk6 m c (point i) i rfl, V_main_v62, padded_lane, col2_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h2 2
theorem lane_7 (n : Fin 5000) : lanes (k0_pay34 (iblk m c 7 (point i))) (lane n) = A_main_v39 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i n 3) := by
  rw [show k0_pay34 (iblk m c 7 (point i)) = k0_pay27 (iblk m c 7 (point i)) from rfl, load_at, iblk7 m c (point i) i rfl, V_main_v66, padded_lane, col3_at]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h2 3
theorem lane_8 (n : Fin 5000) : lanes (k0_pay35 (iblk m c 8 (point i))) (lane n) = A_main_v32 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix2 i n) := by
  rw [show k0_pay35 (iblk m c 8 (point i)) = k0_pay27 (iblk m c 8 (point i)) from rfl, load_at, iblk8 m c (point i) i rfl, V_main_v68, padded_lane]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h3
theorem lane_9 (n : Fin 5000) : lanes (k0_pay36 (iblk m c 9 (point i))) (lane n) = classes m c i n := by
  rw [show k0_pay36 (iblk m c 9 (point i)) = k0_pay27 (iblk m c 9 (point i)) from rfl, load_at, iblk9 m c (point i) i rfl, V_main_v70, padded_lane]
  obtain ⟨p, h0, h1, h2, h3, h4⟩ := same_candidates (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n
  exact h4

theorem edge (lo hi a b : EReal) (h : a = b) : min hi (max lo a) = min (max b lo) hi := by
  subst h; rw [min_comm, max_comm]

theorem low_edge (t e p q lo hi : EReal) :
    min hi (max lo ((t * (q - p) + (p + q) * Ideal.ofBits FTy.f32 0x3F000000#32) - e * (q - p) * Ideal.ofBits FTy.f32 0x3F000000#32))
      = min (max (((t * (q - p)) + (Ideal.div (p + q) (Ideal.ofBits FTy.f32 0x40000000#32))) - (Ideal.div (e * (q - p)) (Ideal.ofBits FTy.f32 0x40000000#32))) lo) hi := by
  rw [half_mul, half_mul, min_comm, max_comm]
theorem high_edge (t e p q lo hi : EReal) :
    min hi (max lo ((t * (q - p) + (p + q) * Ideal.ofBits FTy.f32 0x3F000000#32) + e * (q - p) * Ideal.ofBits FTy.f32 0x3F000000#32))
      = min (max (((t * (q - p)) + (Ideal.div (p + q) (Ideal.ofBits FTy.f32 0x40000000#32))) + (Ideal.div (e * (q - p)) (Ideal.ofBits FTy.f32 0x40000000#32))) lo) hi := by
  rw [half_mul, half_mul, min_comm, max_comm]

/-- The lanes of a grid point hold the reference's boxes and classes of its image. -/
theorem holds : Holds (k0_pay36 (iblk m c 9 (point i)))
    (k0_pay47 (k0_pay27 (iblk m c 0 (point i))) (k0_pay29 (iblk m c 2 (point i))) (k0_pay31 (iblk m c 4 (point i))) (k0_pay33 (iblk m c 6 (point i))))
    (k0_pay48 (k0_pay28 (iblk m c 1 (point i))) (k0_pay30 (iblk m c 3 (point i))) (k0_pay32 (iblk m c 5 (point i))) (k0_pay34 (iblk m c 7 (point i))))
    (k0_pay49 (k0_pay27 (iblk m c 0 (point i))) (k0_pay29 (iblk m c 2 (point i))) (k0_pay31 (iblk m c 4 (point i))) (k0_pay33 (iblk m c 6 (point i))))
    (k0_pay50 (k0_pay28 (iblk m c 1 (point i))) (k0_pay30 (iblk m c 3 (point i))) (k0_pay32 (iblk m c 5 (point i))) (k0_pay34 (iblk m c 7 (point i))))
    (boxes m c i) (classes m c i) where
  cls := lane_9 m c i
  y1 n := by
    rw [low_at, lane_0, lane_2, lane_4, lane_6, low_edge]
    exact (Cert.ReferenceIdeal.Step.box0 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n).symm
  x1 n := by
    rw [low_at', lane_1, lane_3, lane_5, lane_7, low_edge]
    exact (Cert.ReferenceIdeal.Step.box1 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n).symm
  y2 n := by
    rw [high_at, lane_0, lane_2, lane_4, lane_6, high_edge]
    exact (Cert.ReferenceIdeal.Step.box2 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n).symm
  x2 n := by
    rw [high_at', lane_1, lane_3, lane_5, lane_7, high_edge]
    exact (Cert.ReferenceIdeal.Step.box3 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n).symm

theorem logistic_eq (x : EReal) : Ideal.logistic x
    = Ideal.div (Ideal.ofBits FTy.f32 0x3F800000#32) (Ideal.ofBits FTy.f32 0x3F800000#32 + Ideal.exp (-x)) := by
  rw [one_eq]
  rfl

/-- Before the first round they hold its scores. -/
theorem lies : Lies (lanes (k0_pay1 (k0_pay35 (iblk m c 8 (point i))) (k0_pay40 (k0_pay37 (F := Ideal)) (k0_pay38 (F := Ideal))))) (scores m c i) where
  at_lane n := by
    rw [start_at, flat_lane, if_pos n.isLt, lane_8, logistic_eq]
    exact (Cert.ReferenceIdeal.Step.score_at (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n).symm
  off_lane x hx := by
    rw [start_at, if_neg (by omega)]
    exact minus_one_neg

/-- The rows of an image in the result of the launch. -/
theorem blocks_at {sws : ℕ → Fin 5000 → EReal} {picks : ℕ → Fin 5000} (R : Rounds (moved (boxes m c i) (classes m c i)) sws picks)
    (h : sws 0 = scores m c i) (l : Fin 128) (hl : l.val < 100) :
    blocks m c (ix3 i 0 l) = (moved (boxes m c i) (classes m c i) (picks l) 1 - classes m c i (picks l) * kilo) * m ((c : Thread nD τ).loc main_arg10) (ix1 i)
    ∧ blocks m c (ix3 i 1 l) = (moved (boxes m c i) (classes m c i) (picks l) 0 - classes m c i (picks l) * kilo) * m ((c : Thread nD τ).loc main_arg10) (ix1 i)
    ∧ blocks m c (ix3 i 2 l) = (moved (boxes m c i) (classes m c i) (picks l) 3 - moved (boxes m c i) (classes m c i) (picks l) 1) * m ((c : Thread nD τ).loc main_arg10) (ix1 i)
    ∧ blocks m c (ix3 i 3 l) = (moved (boxes m c i) (classes m c i) (picks l) 2 - moved (boxes m c i) (classes m c i) (picks l) 0) * m ((c : Thread nD τ).loc main_arg10) (ix1 i)
    ∧ blocks m c (ix3 i 4 l) = sws l (picks l)
    ∧ blocks m c (ix3 i 5 l) = classes m c i (picks l) * kilo * Ideal.ofBits FTy.f32 0x3A800000#32 := by
  rw [← scale_at m c (point i) i rfl]
  have H := fold_carried (scaleAt (grid0.coords (point i)) (iblk m c 10 (point i))) (holds m c i) R _ (h ▸ lies m c i) (k0_pay9 (F := Ideal))
  show outAt m c (point i) (ix3 0 0 l) = _ ∧ outAt m c (point i) (ix3 0 1 l) = _ ∧ outAt m c (point i) (ix3 0 2 l) = _
    ∧ outAt m c (point i) (ix3 0 3 l) = _ ∧ outAt m c (point i) (ix3 0 4 l) = _ ∧ outAt m c (point i) (ix3 0 5 l) = _
  unfold outAt outBlk rows
  obtain ⟨g0, g1, g2, g3, g4, g5⟩ := block_at _ _ _ _ _ _ l
  exact ⟨g0.trans (H.sx l hl), g1.trans (H.sy l hl), g2.trans (H.sw l hl), g3.trans (H.sh l hl), g4.trans (H.ss l hl), g5.trans (H.sc l hl)⟩

end Cert.KernelIdeal.Nms

end
-- ==== Proof.RStep.lean ====
/-
  One trip of the reference's loop, read at an image: the pick, the scores it leaves, and the entries it writes.
-/
module

public import proofs.«01_k».proof.Proof.RGather
public import proofs.«01_k».proof.Proof.RBox
public import Idealize.ShloMosaic.Lib.Pipeline.Value

@[expose] public section

noncomputable section

namespace Cert.ReferenceIdeal.Step

open Cert.ReferenceIdeal Cert.ReferenceIdeal.Gen
open Idealize.ShloMosaic Idealize.ShloMosaic.TcCoe
open Cert.Greedy Cert.ReferenceIdeal.Top

variable (j : ℕ) (s : State Ideal) (i : Fin 8) (n : Fin 5000)

/-- The boxes of an image's candidates, moved apart by class. -/
def apart (n : Fin 5000) (k : Fin 4) : EReal := s.main_v116_0 (ix3 i n k)

theorem next_read (j : ℕ) (s : State Ideal) (i : Fin 8) (n : Fin 5000) (p : Fin 5000)
    (h12 : b12 j s (ix2 i 0) = BitVec.ofNat 32 p.val) (h14 : ∀ k, b14 j s (ix3 i 0 k) = apart s i p k) :
    b75 j s (ix2 i n) = struck (apart s i) (fun n => s.main_v116_4 (ix2 i n)) p n := by
  unfold apart at h14 ⊢
  simp only [b75, b74, b73, b72, b71, b70, b69, b68, b67, b66, b65, b64, b63, b62, b61, b60, b59, b58, b57, b56, b55, b54, b53, b52, b51, b50, b49, b48, b47, b46, b45, b44, b43, b42, b41, b40, b39, b38, b37, b36, b35, b34, b33, b32, b31, b30, b29, b28, b27, b26, b25, b24, b23, b22, b21, b20, b19, b18, b17, b16, b15, b10, b9, b8, b7, b6, b5, b4, b3, b2, b1, b0]
  generalize b14 j s = q at h14 ⊢
  generalize b12 j s = w at h12 ⊢
  generalize s.main_v116_0 = bn at h14 ⊢
  generalize s.main_v116_4 = sw
  pointwise
  simp only [h14, h12]
  unfold struck
  have hn := n.isLt
  have hp := p.isLt
  have e : (BitVec.ofNat 32 n.val = BitVec.ofNat 32 p.val) ↔ n = p := by
    constructor
    · intro h
      have h' := congrArg BitVec.toNat h
      rw [BitVec.toNat_ofNat, BitVec.toNat_ofNat, Nat.mod_eq_of_lt (by omega), Nat.mod_eq_of_lt (by omega)] at h'
      exact Fin.ext h'
    · rintro rfl
      rfl
  by_cases hnp : n = p
  · subst hnp
    rw [if_pos rfl]
    simp [IntOp.cmpi, Scalar.select, gone]
  · rw [if_neg hnp]
    have hc : IntOp.cmpi CmpIPredicate.eq (BitVec.ofNat 32 n.val) (BitVec.ofNat 32 p.val) = 0#1 := by
      show BitVec.ofBool (BitVec.ofNat 32 n.val == BitVec.ofNat 32 p.val) = 0#1
      rw [beq_eq_false_iff_ne.mpr (fun h => hnp (e.mp h))]
      rfl
    rw [hc]
    simp only [max_comm _ (0 : EReal)]
    unfold Scalar.select
    rw [if_neg (by decide)]
    by_cases ho : Overlaps (fun k => bn (ix3 i p k)) (fun k => bn (ix3 i n k))
    · rw [if_pos ho]
      unfold Overlaps at ho
      exact if_pos ho
    · rw [if_neg ho]
      unfold Overlaps at ho
      exact if_neg ho

/-- The pick of a trip in an image. -/
def pick (x : (⟨S8x5000, .f32⟩ : BufTy).Contents (Elt Ideal)) (i : Fin 8) : Fin 5000 := Classical.choose (top1 x i)

theorem pick_spec (x : (⟨S8x5000, .f32⟩ : BufTy).Contents (Elt Ideal)) (i : Fin 8) : IsPick (fun n => x (ix2 i n)) (pick x i)
      ∧ (Host.topK S8x1 1 (FloatOps.cmpfTotal (F := Ideal) (φ := FTy.f32) .gt) x sliceFits_S8x5000_S8x1).1 (ix2 i 0) = x (ix2 i (pick x i))
      ∧ (Host.topK S8x1 1 (FloatOps.cmpfTotal (F := Ideal) (φ := FTy.f32) .gt) x sliceFits_S8x5000_S8x1).2 (ix2 i 0) = BitVec.ofNat 32 (pick x i).val :=
  Classical.choose_spec (top1 x i)

theorem col_word (w : IVec S8x1 32) (i : Fin 8) : broadcastInDim S8x1x1 ![0, 1] bcast_S8x1_S8x1x1_0_1 w (ix3 i 0 0) = w (ix2 i 0) := by
  pointwise
theorem cast_word (w : IVec S8x1 32) (i : Fin 8) : shapeCast S8x1x1 w shapeCasts_S8x1_S8x1x1 (ix3 i 0 0) = w (ix2 i 0) := by
  pointwise

theorem b12_at : b12 j s (ix2 i 0) = BitVec.ofNat 32 (pick s.main_v116_4 i).val := (pick_spec s.main_v116_4 i).2.2
theorem b14_at (k : Fin 4) : b14 j s (ix3 i 0 k) = apart s i (pick s.main_v116_4 i) k :=
  gather_row s.main_v116_0 (b13 j s) i k _ ((col_word (b12 j s) i).trans (b12_at j s i))

/-- The scores a trip leaves in an image. -/
theorem next_at : (step j s).main_v116_4 (ix2 i n)
    = struck (apart s i) (fun n => s.main_v116_4 (ix2 i n)) (pick s.main_v116_4 i) n := by
  rw [step_main_v116_4]
  exact next_read j s i n _ (b12_at j s i) (b14_at j s i)

theorem row_read (x : (⟨S8x1x4, .f32⟩ : BufTy).Contents (Elt Ideal)) (i : Fin 8) (k : Fin 4) :
    broadcastInDim S1x8x4 ![1, 2] bcast_S8x4_S1x8x4_1_2 (shapeCast S8x4 x shapeCasts_S8x1x4_S8x4) (ix3 0 i k) = x (ix3 i 0 k) := by
  pointwise
theorem entry_read (x : (⟨S8x1, .f32⟩ : BufTy).Contents (Elt Ideal)) (i : Fin 8) :
    broadcastInDim S1x8 ![1] bcast_S8_S1x8_1 (shapeCast S8 x shapeCasts_S8x1_S8) (ix2 0 i) = x (ix2 i 0) := by
  pointwise

theorem b83_at (k : Fin 4) : b83 j s (ix3 0 i k) = s.main_v116_1 (ix3 i (pick s.main_v116_4 i) k) :=
  (row_read (b77 j s) i k).trans (gather_row s.main_v116_1 (b76 j s) i k _ ((col_word (b12 j s) i).trans (b12_at j s i)))
theorem b87_at : b87 j s (ix2 0 i) = s.main_v116_4 (ix2 i (pick s.main_v116_4 i)) :=
  (entry_read (b11 j s) i).trans (pick_spec s.main_v116_4 i).2.1
theorem b90_at : b90 j s (ix2 0 i) = s.main_v116_2 (ix2 i (pick s.main_v116_4 i)) :=
  (entry_read (b81 j s) i).trans (gather_entry s.main_v116_2 (b80 j s) i _ ((cast_word (b12 j s) i).trans (b12_at j s i)))

/-- A row written at a number below 100. -/
theorem put_row (x : S100x8x4.Idx → EReal) (u : S1x8x4.Idx → EReal) (st : Fin 3 → Int) (hj : j < 100)
    (h0 : st 0 = (j : Int)) (h1 : st 1 = 0) (h2 : st 2 = 0) (r : Fin 100) (k : Fin 4) :
    Host.dynamicUpdateSlice x u st updateFits_S100x8x4_S1x8x4 (ix3 r i k) = if r.val = j then u (ix3 0 i k) else x (ix3 r i k) := by
  have hs : S100x8x4.Slices ![j, 0, 0] S1x8x4 := ⟨rfl, fun a => by
    match a with
    | ⟨0, _⟩ => show j + 1 ≤ 100; omega
    | ⟨1, _⟩ => show 0 + 8 ≤ 8; omega
    | ⟨2, _⟩ => show 0 + 4 ≤ 4; omega⟩
  rw [Host.dynamicUpdateSlice_eq_updateSlice x u st updateFits_S100x8x4_S1x8x4 ![j, 0, 0] (fun a => by
    match a with
    | ⟨0, _⟩ => show (min (max (st 0) 0) ((100 - 1 : ℕ) : Int)).toNat = j
                rw [h0]; omega
    | ⟨1, _⟩ => show (min (max (st 1) 0) ((8 - 8 : ℕ) : Int)).toNat = 0
                rw [h1]; omega
    | ⟨2, _⟩ => show (min (max (st 2) 0) ((4 - 4 : ℕ) : Int)).toNat = 0
                rw [h2]; omega) hs]
  unfold updateSlice
  have hi := i.isLt
  have hk := k.isLt
  by_cases hr : r.val = j
  · rw [if_pos hr, dif_pos]
    · congr 1
      funext a
      apply Fin.ext
      match a with
      | ⟨0, _⟩ => show r.val - j = 0; omega
      | ⟨1, _⟩ => show i.val - 0 = i.val; omega
      | ⟨2, _⟩ => show k.val - 0 = k.val; omega
    · intro a
      match a with
      | ⟨0, _⟩ => show j ≤ r.val ∧ r.val < j + 1; omega
      | ⟨1, _⟩ => show 0 ≤ i.val ∧ i.val < 0 + 8; omega
      | ⟨2, _⟩ => show 0 ≤ k.val ∧ k.val < 0 + 4; omega
  · rw [if_neg hr, dif_neg]
    intro h
    have h' : j ≤ r.val ∧ r.val < j + 1 := h 0
    omega

theorem put_entry (x : S100x8.Idx → EReal) (u : S1x8.Idx → EReal) (st : Fin 2 → Int) (hj : j < 100)
    (h0 : st 0 = (j : Int)) (h1 : st 1 = 0) (r : Fin 100) :
    Host.dynamicUpdateSlice x u st updateFits_S100x8_S1x8 (ix2 r i) = if r.val = j then u (ix2 0 i) else x (ix2 r i) := by
  have hs : S100x8.Slices ![j, 0] S1x8 := ⟨rfl, fun a => by
    match a with
    | ⟨0, _⟩ => show j + 1 ≤ 100; omega
    | ⟨1, _⟩ => show 0 + 8 ≤ 8; omega⟩
  rw [Host.dynamicUpdateSlice_eq_updateSlice x u st updateFits_S100x8_S1x8 ![j, 0] (fun a => by
    match a with
    | ⟨0, _⟩ => show (min (max (st 0) 0) ((100 - 1 : ℕ) : Int)).toNat = j
                rw [h0]; omega
    | ⟨1, _⟩ => show (min (max (st 1) 0) ((8 - 8 : ℕ) : Int)).toNat = 0
                rw [h1]; omega) hs]
  unfold updateSlice
  have hi := i.isLt
  by_cases hr : r.val = j
  · rw [if_pos hr, dif_pos]
    · congr 1
      funext a
      apply Fin.ext
      match a with
      | ⟨0, _⟩ => show r.val - j = 0; omega
      | ⟨1, _⟩ => show i.val - 0 = i.val; omega
    · intro a
      match a with
      | ⟨0, _⟩ => show j ≤ r.val ∧ r.val < j + 1; omega
      | ⟨1, _⟩ => show 0 ≤ i.val ∧ i.val < 0 + 8; omega
  · rw [if_neg hr, dif_neg]
    intro h
    have h' : j ≤ r.val ∧ r.val < j + 1 := h 0
    omega

theorem word_int (j : ℕ) (h : j < 100) : (BitVec.ofNat 32 j).toInt = (j : Int) := by
  have e : (BitVec.ofNat 32 j).toNat = j := by rw [BitVec.toNat_ofNat, Nat.mod_eq_of_lt (by omega)]
  rw [BitVec.toInt_eq_toNat_of_lt (by omega), e]

theorem boxes_next (hj : j < 100) (r : Fin 100) (k : Fin 4) : (step j s).main_v116_5 (ix3 r i k)
    = if r.val = j then s.main_v116_1 (ix3 i (pick s.main_v116_4 i) k) else s.main_v116_5 (ix3 r i k) := by
  rw [step_main_v116_5, ← b83_at j s i k]
  exact put_row j i s.main_v116_5 (b83 j s) _ hj (word_int j hj) rfl rfl r k
theorem scores_next (hj : j < 100) (r : Fin 100) : (step j s).main_v116_6 (ix2 r i)
    = if r.val = j then s.main_v116_4 (ix2 i (pick s.main_v116_4 i)) else s.main_v116_6 (ix2 r i) := by
  rw [step_main_v116_6, ← b87_at j s i]
  exact put_entry j i s.main_v116_6 (b87 j s) _ hj (word_int j hj) rfl r
theorem classes_next (hj : j < 100) (r : Fin 100) : (step j s).main_v116_7 (ix2 r i)
    = if r.val = j then s.main_v116_2 (ix2 i (pick s.main_v116_4 i)) else s.main_v116_7 (ix2 r i) := by
  rw [step_main_v116_7, ← b90_at j s i]
  exact put_entry j i s.main_v116_7 (b90 j s) _ hj (word_int j hj) rfl r

section
variable {it : ℕ → State Ideal} (hs : ∀ n, it (n + 1) = step n (it n))
include hs

theorem keeps (n : ℕ) : (it n).main_v116_0 = (it 0).main_v116_0 ∧ (it n).main_v116_1 = (it 0).main_v116_1 ∧ (it n).main_v116_2 = (it 0).main_v116_2 := by
  induction n with
  | zero => exact ⟨rfl, rfl, rfl⟩
  | succ n ih => rw [hs]; exact ih

/-- The rounds of an image. -/
theorem rounds (i : Fin 8) (h : 0 ≤ (it 99).main_v116_4 (ix2 i (pick (it 99).main_v116_4 i))) :
    Rounds (apart (it 0) i) (fun k n => (it k).main_v116_4 (ix2 i n)) (fun k => pick (it k).main_v116_4 i) :=
  live_of_last (fun k => (pick_spec (it k).main_v116_4 i).1) (fun k => funext fun n => by
    have e : apart (it k) i = apart (it 0) i := by
      unfold apart; rw [(keeps hs k).1]
    rw [← e, ← next_at k (it k) i n, hs]) h

/-- The entries written after `n` trips. -/
theorem written (i : Fin 8) (n : ℕ) (hn : n ≤ 100) (r : Fin 100) (hr : r.val < n) :
    (∀ k, (it n).main_v116_5 (ix3 r i k) = (it 0).main_v116_1 (ix3 i (pick (it r).main_v116_4 i) k))
    ∧ (it n).main_v116_6 (ix2 r i) = (it r).main_v116_4 (ix2 i (pick (it r).main_v116_4 i))
    ∧ (it n).main_v116_7 (ix2 r i) = (it 0).main_v116_2 (ix2 i (pick (it r).main_v116_4 i)) := by
  induction n with
  | zero => exact absurd hr (Nat.not_lt_zero _)
  | succ n ih =>
    rw [hs]
    by_cases e : r.val = n
    · refine ⟨fun k => ?_, ?_, ?_⟩
      · rw [boxes_next n (it n) i (by omega), if_pos e, (keeps hs n).2.1, e]
      · rw [scores_next n (it n) i (by omega), if_pos e, e]
      · rw [classes_next n (it n) i (by omega), if_pos e, (keeps hs n).2.2, e]
    · obtain ⟨h1, h2, h3⟩ := ih (by omega) (by omega)
      refine ⟨fun k => ?_, ?_, ?_⟩
      · rw [boxes_next n (it n) i (by omega), if_neg e, h1]
      · rw [scores_next n (it n) i (by omega), if_neg e, h2]
      · rw [classes_next n (it n) i (by omega), if_neg e, h3]

end

/-- The result's entries. -/
theorem result_at (s : State Ideal) (sc : (⟨S8, .f32⟩ : BufTy).Contents (Elt Ideal)) (i : Fin 8) (r : Fin 100) :
    R_main_v143 s sc (ix3 i r 0) = s.main_v116_5 (ix3 r i 1) * sc (ix1 i)
    ∧ R_main_v143 s sc (ix3 i r 1) = s.main_v116_5 (ix3 r i 0) * sc (ix1 i)
    ∧ R_main_v143 s sc (ix3 i r 2) = s.main_v116_5 (ix3 r i 3) * sc (ix1 i) - s.main_v116_5 (ix3 r i 1) * sc (ix1 i)
    ∧ R_main_v143 s sc (ix3 i r 3) = s.main_v116_5 (ix3 r i 2) * sc (ix1 i) - s.main_v116_5 (ix3 r i 0) * sc (ix1 i)
    ∧ R_main_v143 s sc (ix3 i r 4) = s.main_v116_6 (ix2 r i)
    ∧ R_main_v143 s sc (ix3 i r 5) = s.main_v116_7 (ix2 r i) := by
  unfold R_main_v143
  generalize s.main_v116_5 = b
  generalize s.main_v116_6 = x
  generalize s.main_v116_7 = y
  refine ⟨?_, ?_, ?_, ?_, ?_, ?_⟩ <;> pointwise

end Cert.ReferenceIdeal.Step

end
-- ==== Proof.Live.lean ====
/-
  What the precondition says: the scales are finite, and the scores the reference's loop holds before its last trip reach zero
  in every image.
-/
module

public import proofs.«01_k».proof.Proof.RStep
public import proofs.«01_k».proof.Proof.Gen.Pre_hundred_live

@[expose] public section

noncomputable section

namespace Cert.Pre_hundred_live.Read

open Idealize.ShloMosaic Idealize.ShloMosaic.TcCoe
open Cert.ReferenceIdeal Cert.ReferenceIdeal.Gen Cert.ReferenceIdeal.Step

attribute [local instance] Cert.Pre_hundred_live.Gen.facts

section
variable {F : FTy → Type} [FloatOps F]

/-- The predicate's round is a trip's. -/
theorem round_eq (j : ℕ) (s : State F) : Cert.Pre_hundred_live.fn_lambda (F := F) s.main_v116_4 s.main_v116_0 = (step j s).main_v116_4 := by
  rw [step_main_v116_4]
  unfold Cert.Pre_hundred_live.fn_lambda Cert.Pre_hundred_live.fn_lambda_part1 Cert.Pre_hundred_live.fn_lambda_part2 Cert.Pre_hundred_live.fn_lambda_part3 Cert.Pre_hundred_live.fn_take_along_axis_2
  unfold b75 b74 b73 b72 b71 b70 b69 b68 b67 b66 b65 b64 b63 b62 b61 b60 b59 b58 b57 b56 b55 b54 b53 b52 b51 b50 b49 b48 b47 b46 b45 b44 b43 b42 b41 b40 b39 b38 b37 b36 b35 b34 b33 b32 b31 b30 b29 b28 b27 b26 b25 b24 b23 b22 b21 b20 b19 b18 b17 b16 b15 b14 b13 b12 b10 b9 b8 b7 b6 b5 b4 b3 b2 b1 b0
  rfl

theorem nine_eq {it : ℕ → State F} (hs : ∀ n, it (n + 1) = step n (it n)) (k : ℕ) :
    Cert.Pre_hundred_live.fn_nine_rounds (F := F) (it k).main_v116_4 (it 0).main_v116_0 = (it (k + 9)).main_v116_4 := by
  have hk : ∀ k, (it k).main_v116_0 = (it 0).main_v116_0 := by
    intro k
    induction k with
    | zero => rfl
    | succ k ih => rw [hs k]; exact ih
  have h1 : ∀ k, Cert.Pre_hundred_live.fn_lambda (F := F) (it k).main_v116_4 (it 0).main_v116_0 = (it (k + 1)).main_v116_4 := by
    intro k
    rw [hs k, ← hk k]
    exact round_eq k (it k)
  unfold Cert.Pre_hundred_live.fn_nine_rounds
  dsimp only
  simp only [h1]

section
variable (x0 : (⟨S8x810x64x64, .f32⟩ : BufTy).Contents (Elt F)) (x1 : (⟨S8x810x32x32, .f32⟩ : BufTy).Contents (Elt F))
  (x2 : (⟨S8x810x16x16, .f32⟩ : BufTy).Contents (Elt F)) (x3 : (⟨S8x810x8x8, .f32⟩ : BufTy).Contents (Elt F))
  (x4 : (⟨S8x810x4x4, .f32⟩ : BufTy).Contents (Elt F)) (x5 : (⟨S8x36x64x64, .f32⟩ : BufTy).Contents (Elt F))
  (x6 : (⟨S8x36x32x32, .f32⟩ : BufTy).Contents (Elt F)) (x7 : (⟨S8x36x16x16, .f32⟩ : BufTy).Contents (Elt F))
  (x8 : (⟨S8x36x8x8, .f32⟩ : BufTy).Contents (Elt F)) (x9 : (⟨S8x36x4x4, .f32⟩ : BufTy).Contents (Elt F))
  (x10 : (⟨S8, .f32⟩ : BufTy).Contents (Elt F)) (x11 : (⟨S49104x4, .f32⟩ : BufTy).Contents (Elt F))

theorem part0_eq : Cert.Pre_hundred_live.fn (F := F) x0 x1 x2 x3 x4 x5 x6 x7 x8 x9 x10 x11
    = Cert.Pre_hundred_live.fn_part1 (F := F) x10 x11 (A_main_v10 x0 x1 x2 x3 x4 x5 x6 x7 x8 x9 x11) (A_main_v21 x0 x1 x2 x3 x4 x5 x6 x7 x8 x9 x11) (A_main_v22 x0 x1 x2 x3 x4 x5 x6 x7 x8 x9 x11) := by
  unfold Cert.Pre_hundred_live.fn A_main_v22 A_main_v21 A_main_v20 A_main_v19 A_main_v18 A_main_v17 A_main_v16 A_main_v15 A_main_v14 A_main_v13 A_main_v12 A_main_v11 A_main_v10 A_main_v9 A_main_v8 A_main_v7 A_main_v6 A_main_v5 A_main_v4 A_main_v3 A_main_v2 A_main_v1 A_main_v0
  rfl
theorem part1_eq : Cert.Pre_hundred_live.fn_part1 (F := F) x10 x11 (A_main_v10 x0 x1 x2 x3 x4 x5 x6 x7 x8 x9 x11) (A_main_v21 x0 x1 x2 x3 x4 x5 x6 x7 x8 x9 x11) (A_main_v22 x0 x1 x2 x3 x4 x5 x6 x7 x8 x9 x11)
    = Cert.Pre_hundred_live.fn_part2 (F := F) x10 (A_main_v25 x0 x1 x2 x3 x4 x5 x6 x7 x8 x9 x11) (A_main_v27 x0 x1 x2 x3 x4 x5 x6 x7 x8 x9 x11) (A_main_v32 x0 x1 x2 x3 x4 x5 x6 x7 x8 x9 x11) (A_main_v39 x0 x1 x2 x3 x4 x5 x6 x7 x8 x9 x11) (A_main_v41 x0 x1 x2 x3 x4 x5 x6 x7 x8 x9 x11) := by
  unfold Cert.Pre_hundred_live.fn_part1 Cert.Pre_hundred_live.fn_floor_divide Cert.Pre_hundred_live.fn_where Cert.Pre_hundred_live.fn_take_along_axis Cert.Pre_hundred_live.fn_take_along_axis_0 Cert.Pre_hundred_live.fn_take_along_axis_1
  unfold A_main_v41 A_main_v40 A_main_v39 A_main_v38 A_main_v37 A_main_v36 A_main_v34 A_main_v32 A_main_v31 A_main_call3_v0 A_main_v30 A_main_v29 A_main_v28 A_main_v27 A_main_v26 A_main_v25 A_main_v23 A_main_call0_v13 A_main_call0_v11 A_main_call0_v10 A_main_call0_v8 A_main_call0_v6 A_main_call0_v3 A_main_call0_v2 A_main_indices
  generalize (A_main_v10 x0 x1 x2 x3 x4 x5 x6 x7 x8 x9 x11) = a
  generalize (A_main_v21 x0 x1 x2 x3 x4 x5 x6 x7 x8 x9 x11) = b
  generalize (A_main_v22 x0 x1 x2 x3 x4 x5 x6 x7 x8 x9 x11) = d
  rfl
theorem part2_eq : Cert.Pre_hundred_live.fn_part2 (F := F) x10 (A_main_v25 x0 x1 x2 x3 x4 x5 x6 x7 x8 x9 x11) (A_main_v27 x0 x1 x2 x3 x4 x5 x6 x7 x8 x9 x11) (A_main_v32 x0 x1 x2 x3 x4 x5 x6 x7 x8 x9 x11) (A_main_v39 x0 x1 x2 x3 x4 x5 x6 x7 x8 x9 x11) (A_main_v41 x0 x1 x2 x3 x4 x5 x6 x7 x8 x9 x11)
    = Cert.Pre_hundred_live.fn_part3 (F := F) x10 (A_main_v25 x0 x1 x2 x3 x4 x5 x6 x7 x8 x9 x11) (A_main_v27 x0 x1 x2 x3 x4 x5 x6 x7 x8 x9 x11) (A_main_v32 x0 x1 x2 x3 x4 x5 x6 x7 x8 x9 x11) (A_main_v46 x0 x1 x2 x3 x4 x5 x6 x7 x8 x9 x11) (A_main_v53 x0 x1 x2 x3 x4 x5 x6 x7 x8 x9 x11) (A_main_v58 x0 x1 x2 x3 x4 x5 x6 x7 x8 x9 x11) (A_main_v63 x0 x1 x2 x3 x4 x5 x6 x7 x8 x9 x11) := by
  unfold Cert.Pre_hundred_live.fn_part2
  unfold A_main_v63 A_main_v62 A_main_v61 A_main_v60 A_main_v59 A_main_v58 A_main_v57 A_main_v56 A_main_v55 A_main_v54 A_main_v53 A_main_v51 A_main_v50 A_main_v49 A_main_v48 A_main_v47 A_main_v46 A_main_v44 A_main_v43 A_main_v42
  generalize (A_main_v39 x0 x1 x2 x3 x4 x5 x6 x7 x8 x9 x11) = a
  generalize (A_main_v41 x0 x1 x2 x3 x4 x5 x6 x7 x8 x9 x11) = b
  generalize (A_main_v25 x0 x1 x2 x3 x4 x5 x6 x7 x8 x9 x11) = d
  generalize (A_main_v27 x0 x1 x2 x3 x4 x5 x6 x7 x8 x9 x11) = e
  generalize (A_main_v32 x0 x1 x2 x3 x4 x5 x6 x7 x8 x9 x11) = f
  rfl
theorem part3_eq : Cert.Pre_hundred_live.fn_part3 (F := F) x10 (A_main_v25 x0 x1 x2 x3 x4 x5 x6 x7 x8 x9 x11) (A_main_v27 x0 x1 x2 x3 x4 x5 x6 x7 x8 x9 x11) (A_main_v32 x0 x1 x2 x3 x4 x5 x6 x7 x8 x9 x11) (A_main_v46 x0 x1 x2 x3 x4 x5 x6 x7 x8 x9 x11) (A_main_v53 x0 x1 x2 x3 x4 x5 x6 x7 x8 x9 x11) (A_main_v58 x0 x1 x2 x3 x4 x5 x6 x7 x8 x9 x11) (A_main_v63 x0 x1 x2 x3 x4 x5 x6 x7 x8 x9 x11)
    = Cert.Pre_hundred_live.fn_part5 (F := F) x10 (A_main_v25 x0 x1 x2 x3 x4 x5 x6 x7 x8 x9 x11) (A_main_v100 x0 x1 x2 x3 x4 x5 x6 x7 x8 x9 x11) (A_main_v104 x0 x1 x2 x3 x4 x5 x6 x7 x8 x9 x11) := by
  unfold Cert.Pre_hundred_live.fn_part3 Cert.Pre_hundred_live.fn_part4
  unfold A_main_v104 A_main_v102 A_main_v101 A_main_v100 A_main_v98 A_main_v96 A_main_v95 A_main_v94 A_main_v93 A_main_v92 A_main_v91 A_main_v90 A_main_v88 A_main_v87 A_main_v85 A_main_v84 A_main_v82 A_main_v81 A_main_v79 A_main_v78 A_main_v77 A_main_v76 A_main_v75 A_main_v74 A_main_v73 A_main_v72 A_main_v71 A_main_v70 A_main_v69 A_main_v68 A_main_v67 A_main_v66 A_main_v65 A_main_v64
  generalize (A_main_v46 x0 x1 x2 x3 x4 x5 x6 x7 x8 x9 x11) = a
  generalize (A_main_v53 x0 x1 x2 x3 x4 x5 x6 x7 x8 x9 x11) = b
  generalize (A_main_v58 x0 x1 x2 x3 x4 x5 x6 x7 x8 x9 x11) = c
  generalize (A_main_v63 x0 x1 x2 x3 x4 x5 x6 x7 x8 x9 x11) = g
  generalize (A_main_v25 x0 x1 x2 x3 x4 x5 x6 x7 x8 x9 x11) = d
  generalize (A_main_v27 x0 x1 x2 x3 x4 x5 x6 x7 x8 x9 x11) = e
  generalize (A_main_v32 x0 x1 x2 x3 x4 x5 x6 x7 x8 x9 x11) = f
  rfl

/-- The loop's rounds inside the predicate. -/
theorem part5_eq {it : ℕ → State F} (hs : ∀ n, it (n + 1) = step n (it n)) (h0 : (it 0).main_v116_4 = (A_main_v106 x0 x1 x2 x3 x4 x5 x6 x7 x8 x9 x11))
    (h1 : (it 0).main_v116_0 = (A_main_v112 x0 x1 x2 x3 x4 x5 x6 x7 x8 x9 x11)) : Cert.Pre_hundred_live.fn_part5 (F := F) x10 (A_main_v25 x0 x1 x2 x3 x4 x5 x6 x7 x8 x9 x11) (A_main_v100 x0 x1 x2 x3 x4 x5 x6 x7 x8 x9 x11) (A_main_v104 x0 x1 x2 x3 x4 x5 x6 x7 x8 x9 x11)
    = Cert.Pre_hundred_live.fn_part6 (F := F) (it 99).main_v116_4 (Host.absf x10) (broadcastInDim Cert.Pre_hundred_live.S8 ![] Cert.Pre_hundred_live.Gen.facts.bcast_S_S8 (constant Cert.Pre_hundred_live.S_ .f32 0x7F800000#32)) := by
  rw [show (99 : ℕ) = 0 + 9 + 9 + 9 + 9 + 9 + 9 + 9 + 9 + 9 + 9 + 9 from rfl]
  simp only [← nine_eq hs]
  rw [h0, h1]
  unfold Cert.Pre_hundred_live.fn_part5
  unfold A_main_v112 A_main_v111 A_main_v110 A_main_v108 A_main_v107 A_main_v106
  generalize (A_main_v25 x0 x1 x2 x3 x4 x5 x6 x7 x8 x9 x11) = a
  generalize (A_main_v100 x0 x1 x2 x3 x4 x5 x6 x7 x8 x9 x11) = b
  generalize (A_main_v104 x0 x1 x2 x3 x4 x5 x6 x7 x8 x9 x11) = d
  rfl
end
end

theorem and_word (a b : BitVec 1) (h : IntOp.andi a b = 1#1) : a = 1#1 ∧ b = 1#1 := by
  revert a b; decide

/-- Every entry of a conjunction over the images that holds. -/
theorem all_read (x : IVec Cert.Pre_hundred_live.S8 1) (v : IVec Cert.Pre_hundred_live.S_ 1)
    (h : Host.reduce IntOp.andi x v Cert.Pre_hundred_live.Gen.facts.reducesTo_S8_S_d0 Cert.Pre_hundred_live.Gen.facts.h_S_ ix0 = 1#1) (i : Fin 8) :
    x (ix1 i) = 1#1 := by
  revert h
  pointwise
  intro h
  have := (Finset.fold_op_rel_iff_and (op := IntOp.andi) (r := fun (_ y : BitVec 1) => y = 1#1)
    (fun {x y z} => by revert y z; decide) (c := 1#1)).mp h
  exact this.2 i (Finset.mem_univ i)

/-- The largest entry of a row. -/
theorem max_read (x : FVec Ideal Cert.Pre_hundred_live.S8x5000 .f32) (v : FVec Ideal Cert.Pre_hundred_live.S_ .f32) (i : Fin 8) :
    Host.reduce FloatOps.maximumf x v Cert.Pre_hundred_live.Gen.facts.reducesTo_S8x5000_S8_d1 Cert.Pre_hundred_live.Gen.facts.h_S_ (ix1 i)
      = Finset.fold max (v (Shape.Idx.first Cert.Pre_hundred_live.Gen.facts.h_S_)) (fun n => x (ix2 i n)) Finset.univ := by
  pointwise

theorem lt_read (x y : FVec Ideal Cert.Pre_hundred_live.S8 .f32) (i : Fin 8) (h : cmpf .olt x y (ix1 i) = 1#1) : x (ix1 i) < y (ix1 i) := by
  revert h
  pointwise
  intro h
  by_contra hn
  rw [decide_eq_false hn] at h
  exact absurd h (by decide)
theorem ge_read (x y : FVec Ideal Cert.Pre_hundred_live.S8 .f32) (i : Fin 8) (h : cmpf .oge x y (ix1 i) = 1#1) : y (ix1 i) ≤ x (ix1 i) := by
  revert h
  pointwise
  intro h
  by_contra hn
  rw [decide_eq_false hn] at h
  exact absurd h (by decide)

/-- The last part read: the entries it demands. -/
theorem part6_read (sw : (⟨S8x5000, .f32⟩ : BufTy).Contents (Elt Ideal)) (a t : (⟨S8, .f32⟩ : BufTy).Contents (Elt Ideal))
    (h : Cert.Pre_hundred_live.fn_part6 (F := Ideal) sw a t ix0 = 1#1) (i : Fin 8) :
    a (ix1 i) < t (ix1 i) ∧ 0 ≤ sw (ix2 i (pick sw i)) := by
  unfold Cert.Pre_hundred_live.fn_part6 at h
  obtain ⟨h1, h2⟩ := and_word _ _ h
  refine ⟨lt_read _ _ i (all_read _ _ h1 i), ?_⟩
  have h3 := ge_read _ _ i (all_read _ _ h2 i)
  have e := max_read sw (constant Cert.Pre_hundred_live.S_ .f32 0xFF800000#32) i
  have z : broadcastInDim Cert.Pre_hundred_live.S8 ![] Cert.Pre_hundred_live.Gen.facts.bcast_S_S8 (constant (F := Ideal) Cert.Pre_hundred_live.S_ .f32 0x00000000#32) (ix1 i) = 0 := by
    pointwise
    try simp [Ideal.ofBits, Ideal.ieee]
  have h4 : (0 : EReal) ≤ Finset.fold max (constant (F := Ideal) Cert.Pre_hundred_live.S_ .f32 0xFF800000#32 (Shape.Idx.first Cert.Pre_hundred_live.Gen.facts.h_S_)) (fun n => sw (ix2 i n)) Finset.univ := by
    rw [← e, ← z]
    exact h3
  rw [Finset.le_fold_max] at h4
  rcases h4 with h4 | ⟨n, _, h4⟩
  · exfalso
    have : constant (F := Ideal) Cert.Pre_hundred_live.S_ .f32 0xFF800000#32 (Shape.Idx.first Cert.Pre_hundred_live.Gen.facts.h_S_) = ⊥ := Cert.Greedy.ninf
    rw [this] at h4
    simp at h4
  · exact h4.trans ((pick_spec sw i).1.top n)

section
variable (x0 : (⟨S8x810x64x64, .f32⟩ : BufTy).Contents (Elt Ideal)) (x1 : (⟨S8x810x32x32, .f32⟩ : BufTy).Contents (Elt Ideal))
  (x2 : (⟨S8x810x16x16, .f32⟩ : BufTy).Contents (Elt Ideal)) (x3 : (⟨S8x810x8x8, .f32⟩ : BufTy).Contents (Elt Ideal))
  (x4 : (⟨S8x810x4x4, .f32⟩ : BufTy).Contents (Elt Ideal)) (x5 : (⟨S8x36x64x64, .f32⟩ : BufTy).Contents (Elt Ideal))
  (x6 : (⟨S8x36x32x32, .f32⟩ : BufTy).Contents (Elt Ideal)) (x7 : (⟨S8x36x16x16, .f32⟩ : BufTy).Contents (Elt Ideal))
  (x8 : (⟨S8x36x8x8, .f32⟩ : BufTy).Contents (Elt Ideal)) (x9 : (⟨S8x36x4x4, .f32⟩ : BufTy).Contents (Elt Ideal))
  (x10 : (⟨S8, .f32⟩ : BufTy).Contents (Elt Ideal)) (x11 : (⟨S49104x4, .f32⟩ : BufTy).Contents (Elt Ideal))

theorem top_read (i : Fin 8) : broadcastInDim Cert.Pre_hundred_live.S8 ![] Cert.Pre_hundred_live.Gen.facts.bcast_S_S8 (constant (F := Ideal) Cert.Pre_hundred_live.S_ .f32 0x7F800000#32) (ix1 i) = ⊤ := by
  have e : broadcastInDim Cert.Pre_hundred_live.S8 ![] Cert.Pre_hundred_live.Gen.facts.bcast_S_S8 (constant (F := Ideal) Cert.Pre_hundred_live.S_ .f32 0x7F800000#32) (ix1 i)
      = Ideal.ofBits FTy.f32 0x7F800000#32 := by
    pointwise
  rw [e, Cert.Greedy.pinf]

theorem abs_read (x : FVec Ideal Cert.Pre_hundred_live.S8 .f32) (i : Fin 8) (h : Host.absf x (ix1 i) < ⊤) : x (ix1 i) ≠ ⊤ ∧ x (ix1 i) ≠ ⊥ := by
  revert h
  pointwise
  generalize x (ix1 i) = y
  intro h
  constructor
  · rintro rfl
    exact absurd h (not_lt.mpr (le_max_left _ _))
  · rintro rfl
    exact absurd h (not_lt.mpr (by rw [show FloatOps.absf (⊥ : Ideal FTy.f32) = max (⊥ : EReal) (-⊥) from rfl]; simp))

/-- What the precondition demands. -/
theorem demanded {it : ℕ → State Ideal} (hs : ∀ n, it (n + 1) = step n (it n)) (h0 : (it 0).main_v116_4 = A_main_v106 x0 x1 x2 x3 x4 x5 x6 x7 x8 x9 x11)
    (h1 : (it 0).main_v116_0 = A_main_v112 x0 x1 x2 x3 x4 x5 x6 x7 x8 x9 x11)
    (h : Cert.Pre_hundred_live.fn (F := Ideal) x0 x1 x2 x3 x4 x5 x6 x7 x8 x9 x10 x11 ix0 = 1#1) (i : Fin 8) :
    (x10 (ix1 i) ≠ ⊤ ∧ x10 (ix1 i) ≠ ⊥) ∧ 0 ≤ (it 99).main_v116_4 (ix2 i (pick (it 99).main_v116_4 i)) := by
  rw [part0_eq, part1_eq, part2_eq, part3_eq, part5_eq x0 x1 x2 x3 x4 x5 x6 x7 x8 x9 x10 x11 hs h0 h1] at h
  have h' := part6_read _ _ _ h i
  refine ⟨abs_read x10 i ?_, h'.2⟩
  rw [← top_read i]
  exact h'.1
end

end Cert.Pre_hundred_live.Read

end
-- ==== Proof.Same.lean ====
/-
  The kernel's result is the reference's: both are six columns of the same hundred picks, and what the kernel adds to a box to
  move it apart it takes off again before it writes.
-/
module

public import proofs.«01_k».proof.Proof.KImage
public import proofs.«01_k».proof.Proof.Live

@[expose] public section

noncomputable section

namespace Cert.ReferenceIdeal.Step

open Cert.ReferenceIdeal Cert.ReferenceIdeal.Gen
open Idealize.ShloMosaic Idealize.ShloMosaic.TcCoe

theorem fit_real (x : EReal) (l h : ℝ) : ∃ b : ℝ, min (max x l) h = b := by
  have e : ∀ a b : ℝ, min (a : EReal) (b : EReal) = ((min a b : ℝ) : EReal) := fun a b => (EReal.coe_strictMono.monotone.map_min).symm
  have e' : ∀ a b : ℝ, max (a : EReal) (b : EReal) = ((max a b : ℝ) : EReal) := fun a b => (EReal.coe_strictMono.monotone.map_max).symm
  induction x with
  | bot => exact ⟨min l h, by rw [max_eq_right bot_le, e]⟩
  | top => exact ⟨h, by rw [max_eq_left le_top, min_eq_right le_top]⟩
  | coe x => exact ⟨min (max x l) h, by rw [e', e]⟩

theorem fit_at (o : FVec Ideal S8x5000x4 .f32) (i : Fin 8) (n : Fin 5000) (j : Fin 4) :
    minimumf (maximumf o (broadcastInDim S8x5000x4 ![] bcast_S_S8x5000x4 (constant (F := Ideal) S_ .f32 0x00000000#32)))
      (broadcastInDim S8x5000x4 ![] bcast_S_S8x5000x4 (constant (F := Ideal) S_ .f32 0x44000000#32)) (ix3 i n j)
      = min (max (o (ix3 i n j)) (Ideal.ofBits FTy.f32 0x00000000#32)) (Ideal.ofBits FTy.f32 0x44000000#32) := by
  pointwise

section
variable (x0 : (⟨S8x810x64x64, .f32⟩ : BufTy).Contents (Elt Ideal)) (x1 : (⟨S8x810x32x32, .f32⟩ : BufTy).Contents (Elt Ideal))
  (x2 : (⟨S8x810x16x16, .f32⟩ : BufTy).Contents (Elt Ideal)) (x3 : (⟨S8x810x8x8, .f32⟩ : BufTy).Contents (Elt Ideal))
  (x4 : (⟨S8x810x4x4, .f32⟩ : BufTy).Contents (Elt Ideal)) (x5 : (⟨S8x36x64x64, .f32⟩ : BufTy).Contents (Elt Ideal))
  (x6 : (⟨S8x36x32x32, .f32⟩ : BufTy).Contents (Elt Ideal)) (x7 : (⟨S8x36x16x16, .f32⟩ : BufTy).Contents (Elt Ideal))
  (x8 : (⟨S8x36x8x8, .f32⟩ : BufTy).Contents (Elt Ideal)) (x9 : (⟨S8x36x4x4, .f32⟩ : BufTy).Contents (Elt Ideal))
  (x11 : (⟨S49104x4, .f32⟩ : BufTy).Contents (Elt Ideal)) (i : Fin 8) (n : Fin 5000)

/-- A candidate's box lies in the image, so its coordinates are real. -/
theorem box_real (j : Fin 4) : ∃ b : ℝ, A_main_v100 x0 x1 x2 x3 x4 x5 x6 x7 x8 x9 x11 (ix3 i n j) = b := by
  simp only [A_main_v100, A_main_v98, K_main_v99, K_main_v97]
  generalize A_main_v96 x0 x1 x2 x3 x4 x5 x6 x7 x8 x9 x11 = o
  have e0 : Ideal.ofBits FTy.f32 0x00000000#32 = ((0 : ℝ) : EReal) := by simp [Ideal.ofBits, Ideal.ieee]
  have e1 : Ideal.ofBits FTy.f32 0x44000000#32 = ((512 : ℝ) : EReal) := by
    simp [Ideal.ofBits, Ideal.ieee, -EReal.coe_mul]; norm_num
  obtain ⟨b, hb⟩ := fit_real (o (ix3 i n j)) 0 512
  exact ⟨b, (fit_at o i n j).trans (by rw [e0, e1, hb])⟩

/-- A candidate's class is a number. -/
theorem class_real : ∃ b : ℝ, A_main_v107 x0 x1 x2 x3 x4 x5 x6 x7 x8 x9 x11 (ix2 i n) = b := by
  simp only [A_main_v107]
  generalize A_main_v25 x0 x1 x2 x3 x4 x5 x6 x7 x8 x9 x11 = o
  exact ⟨_, rfl⟩

theorem class_col : A_main_v108 x0 x1 x2 x3 x4 x5 x6 x7 x8 x9 x11 (ix3 i n 0) = A_main_v107 x0 x1 x2 x3 x4 x5 x6 x7 x8 x9 x11 (ix2 i n) := by
  simp only [A_main_v108]
  generalize A_main_v107 x0 x1 x2 x3 x4 x5 x6 x7 x8 x9 x11 = o
  pointwise
end

theorem kilo_real : Ideal.ofBits FTy.f32 0x44800000#32 = ((1024 : ℝ) : EReal) := by
  simp [Ideal.ofBits, Ideal.ieee, -EReal.coe_mul]; norm_num
theorem milli_real : Ideal.ofBits FTy.f32 0x3A800000#32 = ((1 / 1024 : ℝ) : EReal) := by
  simp [Ideal.ofBits, Ideal.ieee, -EReal.coe_mul]; norm_num

theorem corner_back (b o s : ℝ) : ((b : EReal) + (o : EReal) * ((1024 : ℝ) : EReal) - (o : EReal) * ((1024 : ℝ) : EReal)) * (s : EReal) = (b : EReal) * (s : EReal) := by
  norm_cast
  ring
theorem side_back (b d o s : ℝ) : ((b : EReal) + (o : EReal) * ((1024 : ℝ) : EReal) - ((d : EReal) + (o : EReal) * ((1024 : ℝ) : EReal))) * (s : EReal)
    = (b : EReal) * (s : EReal) - (d : EReal) * (s : EReal) := by
  norm_cast
  ring
theorem class_back (o : ℝ) : (o : EReal) * ((1024 : ℝ) : EReal) * ((1 / 1024 : ℝ) : EReal) = (o : EReal) := by
  norm_cast
  ring

end Cert.ReferenceIdeal.Step

namespace Cert.KernelIdeal.Nms

open Cert.KernelIdeal Cert.KernelIdeal.Gen
open Idealize.ShloMosaic Idealize.ShloMosaic.TcCoe Idealize.SL.Sem
open Cert.Greedy Cert.ReferenceIdeal.Step

attribute [local instance] Cert.Pre_hundred_live.Gen.facts

theorem tail_at (x : (⟨S8x8x128, .f32⟩ : BufTy).Contents (Elt Ideal)) (i : Fin 8) (r : Fin 100) (q : Fin 6) :
    transpose S8x100x6 [0, 2, 1] (extractStridedSlice S8x6x100 ![0, 0, 0] x slices_S8x8x128_S8x6x100_0_0_0) transposes_S8x6x100_S8x100x6_0_2_1 (ix3 i r q)
      = x (ix3 i ⟨q.val, by omega⟩ ⟨r.val, by omega⟩) := by
  pointwise

variable (m : (ℓ : Loc nD τ sig) → Buf (Elt Ideal) ℓ) (c : Dev nD)

theorem same {it : ℕ → State Ideal} (hs : ∀ n, it (n + 1) = step n (it n))
    (h4 : (it 0).main_v116_4 = A_main_v106 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)))
    (h0 : (it 0).main_v116_0 = A_main_v112 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)))
    (h1 : (it 0).main_v116_1 = A_main_v100 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)))
    (h2 : (it 0).main_v116_2 = A_main_v107 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)))
    (hp : Cert.Pre_hundred_live.fn (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) ix0 = 1#1) :
    transpose S8x100x6 [0, 2, 1] (extractStridedSlice S8x6x100 ![0, 0, 0] (blocks m c) slices_S8x8x128_S8x6x100_0_0_0) transposes_S8x6x100_S8x100x6_0_2_1
      = R_main_v143 (it 100) (m (c, Proc.devRef .tc main_arg10)) := by
  funext z
  obtain ⟨i, r, q, rfl⟩ : ∃ (i : Fin 8) (r : Fin 100) (q : Fin 6), z = ix3 i r q := ⟨z 0, z 1, z 2, by
    funext a; match a with
    | ⟨0, _⟩ => rfl
    | ⟨1, _⟩ => rfl
    | ⟨2, _⟩ => rfl⟩
  rw [tail_at]
  obtain ⟨⟨ht, hb⟩, hl⟩ := Cert.Pre_hundred_live.Read.demanded (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) hs h4 h0 hp i
  have ha : apart (it 0) i = moved (boxes m c i) (classes m c i) := by
    funext n j
    unfold apart
    rw [h0]
    exact moved_at (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i n j
  have R := rounds hs i hl
  rw [ha] at R
  have hsc : (fun n => (it 0).main_v116_4 (ix2 i n)) = scores m c i := by
    funext n
    rw [h4]
    rfl
  obtain ⟨k0, k1, k2, k3, k4, k5⟩ := blocks_at m c i R hsc ⟨r.val, by omega⟩ r.isLt
  obtain ⟨w5, w6, w7⟩ := written hs i 100 le_rfl r r.isLt
  obtain ⟨q0, q1, q2, q3, q4, q5⟩ := result_at (it 100) (m (c, Proc.devRef .tc main_arg10)) i r
  rw [w5, w5] at q2 q3
  rw [w5] at q0 q1
  rw [w6] at q4
  rw [w7, h2] at q5
  rw [h1] at q0 q1 q2 q3
  set p := pick (it r.val).main_v116_4 i with hpk
  have hB : ∀ j, ∃ b : ℝ, boxes m c i p j = b ∧ A_main_v100 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix3 i p j) = b := fun j => by
    obtain ⟨b, e⟩ := box_real (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i p j
    exact ⟨b, e, e⟩
  have hC : ∃ b : ℝ, classes m c i p = b ∧ A_main_v107 (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) (ix2 i p) = b := by
    obtain ⟨b, e⟩ := class_real (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i p
    exact ⟨b, (class_col (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg11)) i p).trans e, e⟩
  obtain ⟨o, ho, ho'⟩ := hC
  obtain ⟨b0, hb0, hb0'⟩ := hB 0
  obtain ⟨b1, hb1, hb1'⟩ := hB 1
  obtain ⟨b2, hb2, hb2'⟩ := hB 2
  obtain ⟨b3, hb3, hb3'⟩ := hB 3
  obtain ⟨s, hsr⟩ : ∃ s : ℝ, m (c, Proc.devRef .tc main_arg10) (ix1 i) = (s : EReal) := ⟨_, (EReal.coe_toReal ht hb).symm⟩
  have hsr' : m ((c : Thread nD τ).loc main_arg10) (ix1 i) = (s : EReal) := hsr
  simp only [hsr, hb0', hb1', hb2', hb3'] at q0 q1 q2 q3
  rw [ho'] at q5
  unfold moved at k0 k1 k2 k3
  simp only [hsr', hb0, hb1, hb2, hb3, ho, kilo, kilo_real, milli_real] at k0 k1 k2 k3 k5
  match q with
  | ⟨0, _⟩ => exact k0.trans ((corner_back _ _ _).trans q0.symm)
  | ⟨1, _⟩ => exact k1.trans ((corner_back _ _ _).trans q1.symm)
  | ⟨2, _⟩ => exact k2.trans ((side_back _ _ _ _).trans q2.symm)
  | ⟨3, _⟩ => exact k3.trans ((side_back _ _ _ _).trans q3.symm)
  | ⟨4, _⟩ => exact k4.trans q4.symm
  | ⟨5, _⟩ => exact k5.trans ((class_back _).trans q5.symm)

end Cert.KernelIdeal.Nms

end
-- ==== Proof.lean ====
/-
  The claims about the suppression kernel, put together.
-/
module

public import proofs.«01_k».proof.Defs
public import proofs.«01_k».proof.Proof.FrameKernel
public import proofs.«01_k».proof.Proof.FrameIdeal
public import proofs.«01_k».proof.Proof.Gen.Pre_hundred_live
public import proofs.«01_k».proof.Proof.RefRun
public import proofs.«01_k».proof.Proof.Same
public import proofs.«01_k».proof.Proof.Gen.ReferenceIdeal.Run
public import proofs.«01_k».proof.Proof.Gen.ReferenceIdeal.Step

@[expose] public section

noncomputable section

namespace Cert.Proof

open Idealize.ShloMosaic Idealize.SL.Sem

attribute [local instance] Cert.Kernel.Gen.facts Cert.KernelIdeal.Gen.facts Cert.ReferenceIdeal.Gen.facts Cert.Pre_hundred_live.Gen.facts

theorem kernel_frame : Cert.quiescent_Kernel := fun m g _ =>
  (θ_run _ _ _).mono (fun r h => ⟨fun c => Cert.Kernel.Nms.args_of_post m r h.1 c, h.2⟩) (Cert.Kernel.Nms.run_main m g)

theorem ideal_frame : Cert.quiescent_KernelIdeal := fun m g _ =>
  (θ_run _ _ _).mono (fun r h => ⟨fun c => Cert.KernelIdeal.Nms.args_of_post m r h.1 c, h.2⟩) (Cert.KernelIdeal.Nms.run_main m g)

theorem ideal_frame_pre : Cert.quiescent_KernelIdeal_pre_hundred_live := fun m g _ =>
  (θ_run _ _ _).mono (fun r h => ⟨fun c => Cert.KernelIdeal.Nms.args_of_post m r h.1 c, h.2⟩) (Cert.KernelIdeal.Nms.run_main m g)

theorem reference_frame : Cert.quiescent_ReferenceIdeal := fun m g _ =>
  (θ_run _ _ _).mono (fun r h => ⟨fun c => (h c).2, sem_eq_zero_of_no_sems (by decide) r.2⟩) (Cert.ReferenceIdeal.Value.run (F := Ideal) m g)

theorem reference_frame_pre : Cert.quiescent_ReferenceIdeal_pre_hundred_live := fun m g _ =>
  (θ_run _ _ _).mono (fun r h => ⟨fun c => (h c).2, sem_eq_zero_of_no_sems (by decide) r.2⟩) (Cert.ReferenceIdeal.Value.run (F := Ideal) m g)

/-- The states of the reference's loop. -/
def states (s : Cert.ReferenceIdeal.Step.State Ideal) : ℕ → Cert.ReferenceIdeal.Step.State Ideal
  | 0 => s
  | n + 1 => Cert.ReferenceIdeal.Step.step n (states s n)

theorem same_results : Cert.algebraic_KernelIdeal_ReferenceIdeal_pre_hundred_live := fun m g m' g' hp hm => by
  refine ⟨fun c => Cert.ReferenceIdeal.Step.R_main_v143 (states (Cert.ReferenceIdeal.Rounds.initState m' c) 100)
    (m' ((c.tc : Thread Cert.ReferenceIdeal.nD Cert.ReferenceIdeal.τ).loc Cert.ReferenceIdeal.main_arg10)), ?_, ?_⟩
  · refine (θ_run _ _ _).mono (fun r h c => ⟨?_, Cert.KernelIdeal.Nms.args_of_post m r h.1 c⟩) (Cert.KernelIdeal.Nms.run_main m g)
    refine (Cert.KernelIdeal.Nms.result_of_post m r h.1 c).trans ?_
    obtain ⟨e0, e1, e2, e3, e4, e5, e6, e7, e8, e9, e10, e11⟩ := hm c
    have e : Cert.ReferenceIdeal.Rounds.initState m' c = Cert.ReferenceIdeal.Step.init (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)) := by
      unfold Cert.ReferenceIdeal.Rounds.initState
      rw [e0, e1, e2, e3, e4, e5, e6, e7, e8, e9, e11]
    beta_reduce
    rw [e, e10]
    exact Cert.KernelIdeal.Nms.same m c (it := states (Cert.ReferenceIdeal.Step.init (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg11)))) (fun _ => rfl) rfl rfl rfl rfl
      (congrFun (hp c) _)
  · exact Cert.ReferenceIdeal.Rounds.run_iter m' g' (fun c => states (Cert.ReferenceIdeal.Rounds.initState m' c)) (fun _ => rfl) (fun _ _ => rfl)

theorem claim : Cert.Claim :=
  ⟨Cert.Kernel.Gen.facts, Cert.KernelIdeal.Gen.facts, Cert.ReferenceIdeal.Gen.facts, Cert.Pre_hundred_live.Gen.facts, kernel_frame, ideal_frame, ideal_frame_pre,
    reference_frame, reference_frame_pre, trivial, same_results⟩

end Cert.Proof

end
